-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_small [hPre_scores_small : Cert.Pre_scores_small.Facts] (m : (ℓ : Loc Cert.KernelIdeal.nD Cert.KernelIdeal.τ Cert.KernelIdeal.sig) → Buf (Elt Ideal) ℓ) : Prop :=
  ∀ c : Dev Cert.KernelIdeal.nD,
    (Cert.Pre_scores_small.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_small [hPre_scores_small : Cert.Pre_scores_small.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_small.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_top_lse_finite [hPre_top_lse_finite : Cert.Pre_top_lse_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_top_lse_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_top_lse_finite [hPre_top_lse_finite : Cert.Pre_top_lse_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_top_lse_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_scores_finite [hPre_scores_finite : Cert.Pre_scores_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_scores_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_scores_finite [hPre_scores_finite : Cert.Pre_scores_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_scores_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_inputs_finite [hPre_inputs_finite : Cert.Pre_inputs_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_inputs_finite [hPre_inputs_finite : Cert.Pre_inputs_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_scores_small [hKernelIdeal : Cert.KernelIdeal.Facts] [hPre_scores_small : Cert.Pre_scores_small.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_small m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_scores_small [hReferenceIdeal : Cert.ReferenceIdeal.Facts] [hPre_scores_small : Cert.Pre_scores_small.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_small m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_top_lse_finite [hKernel3Ideal : Cert.Kernel3Ideal.Facts] [hPre_top_lse_finite : Cert.Pre_top_lse_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_top_lse_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_top_lse_finite [hReference3Ideal : Cert.Reference3Ideal.Facts] [hPre_top_lse_finite : Cert.Pre_top_lse_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_top_lse_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_scores_finite [hKernel5Ideal : Cert.Kernel5Ideal.Facts] [hPre_scores_finite : Cert.Pre_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_scores_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_scores_finite [hReference5Ideal : Cert.Reference5Ideal.Facts] [hPre_scores_finite : Cert.Pre_scores_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_scores_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_inputs_finite [hKernel6Ideal : Cert.Kernel6Ideal.Facts] [hPre_inputs_finite : Cert.Pre_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_inputs_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_inputs_finite [hReference6Ideal : Cert.Reference6Ideal.Facts] [hPre_inputs_finite : Cert.Pre_inputs_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_inputs_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_scores_small [hKernelIdeal : Cert.KernelIdeal.Facts] [hReferenceIdeal : Cert.ReferenceIdeal.Facts] [hPre_scores_small : Cert.Pre_scores_small.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_small m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_top_lse_finite [hKernel3Ideal : Cert.Kernel3Ideal.Facts] [hReference3Ideal : Cert.Reference3Ideal.Facts] [hPre_top_lse_finite : Cert.Pre_top_lse_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_top_lse_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v36)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v104) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_scores_finite [hKernel5Ideal : Cert.Kernel5Ideal.Facts] [hReference5Ideal : Cert.Reference5Ideal.Facts] [hPre_scores_finite : Cert.Pre_scores_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_scores_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  IdealRules.named_const.Statement Cert.Kernel6Ideal.κ "neg_inf" .f32 0xF149F2CA#32 ⊥

def algebraic_Kernel6Ideal_Reference6Ideal_pre_inputs_finite [hKernel6Ideal : Cert.Kernel6Ideal.Facts] [hReference6Ideal : Cert.Reference6Ideal.Facts] [hPre_inputs_finite : Cert.Pre_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_inputs_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_small : Cert.Pre_scores_small.Facts) (hPre_top_lse_finite : Cert.Pre_top_lse_finite.Facts) (hPre_scores_finite : Cert.Pre_scores_finite.Facts) (hPre_inputs_finite : Cert.Pre_inputs_finite.Facts),
    quiescent_Kernel (hKernel := hKernel)
    ∧ quiescent_KernelIdeal (hKernelIdeal := hKernelIdeal)
    ∧ quiescent_KernelIdeal_pre_scores_small (hKernelIdeal := hKernelIdeal) (hPre_scores_small := hPre_scores_small)
    ∧ quiescent_ReferenceIdeal (hReferenceIdeal := hReferenceIdeal)
    ∧ quiescent_ReferenceIdeal_pre_scores_small (hReferenceIdeal := hReferenceIdeal) (hPre_scores_small := hPre_scores_small)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_top_lse_finite (hKernel3Ideal := hKernel3Ideal) (hPre_top_lse_finite := hPre_top_lse_finite)
    ∧ quiescent_Reference3Ideal (hReference3Ideal := hReference3Ideal)
    ∧ quiescent_Reference3Ideal_pre_top_lse_finite (hReference3Ideal := hReference3Ideal) (hPre_top_lse_finite := hPre_top_lse_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_scores_finite (hKernel5Ideal := hKernel5Ideal) (hPre_scores_finite := hPre_scores_finite)
    ∧ quiescent_Reference5Ideal (hReference5Ideal := hReference5Ideal)
    ∧ quiescent_Reference5Ideal_pre_scores_finite (hReference5Ideal := hReference5Ideal) (hPre_scores_finite := hPre_scores_finite)
    ∧ quiescent_Kernel6 (hKernel6 := hKernel6)
    ∧ quiescent_Kernel6Ideal (hKernel6Ideal := hKernel6Ideal)
    ∧ quiescent_Kernel6Ideal_pre_inputs_finite (hKernel6Ideal := hKernel6Ideal) (hPre_inputs_finite := hPre_inputs_finite)
    ∧ quiescent_Reference6Ideal (hReference6Ideal := hReference6Ideal)
    ∧ quiescent_Reference6Ideal_pre_inputs_finite (hReference6Ideal := hReference6Ideal) (hPre_inputs_finite := hPre_inputs_finite)
    ∧ preserves_Kernel_KernelIdeal
    ∧ algebraic_KernelIdeal_ReferenceIdeal_pre_scores_small (hKernelIdeal := hKernelIdeal) (hReferenceIdeal := hReferenceIdeal) (hPre_scores_small := hPre_scores_small)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_top_lse_finite (hKernel3Ideal := hKernel3Ideal) (hReference3Ideal := hReference3Ideal) (hPre_top_lse_finite := hPre_top_lse_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_scores_finite (hKernel5Ideal := hKernel5Ideal) (hReference5Ideal := hReference5Ideal) (hPre_scores_finite := hPre_scores_finite)
    ∧ preserves_Kernel6_Kernel6Ideal
    ∧ algebraic_Kernel6Ideal_Reference6Ideal_pre_inputs_finite (hKernel6Ideal := hKernel6Ideal) (hReference6Ideal := hReference6Ideal) (hPre_inputs_finite := hPre_inputs_finite)
-- ==== Pre_inputs_finite.lean ====
abbrev S2x4096x5376 : Shape := ⟨3, ![2, 4096, 5376]⟩
abbrev S32x6 : Shape := ⟨2, ![32, 6]⟩
abbrev S_ : Shape := ⟨0, ![]⟩

class Facts : Prop where
  bcast_S_S2x4096x5376 : S_.BroadcastsInDim S2x4096x5376 (![] : Fin 0 → Fin S2x4096x5376.rank)
  reducesTo_S2x4096x5376_S_d0_1_2 : S2x4096x5376.ReducesTo [0, 1, 2] S_
  h_S_ : 0 < S_.numel
  bcast_S_S32x6 : S_.BroadcastsInDim S32x6 (![] : Fin 0 → Fin S32x6.rank)
  reducesTo_S32x6_S_d0_1 : S32x6.ReducesTo [0, 1] S_

variable [Facts]

def fn {F : FTy → Type} [FloatOps F] (main_arg0 : FVec F S2x4096x5376 .bf16) (main_arg1 : FVec F S32x6 .f32) : IVec S_ 1 :=
  let main_cst : FVec F S_ .bf16 := constant S_ .bf16 0xFF80#16
  let main_v0 : FVec F S2x4096x5376 .bf16 := broadcastInDim S2x4096x5376 ![] bcast_S_S2x4096x5376 main_cst
  let main_v1 : IVec S2x4096x5376 1 := cmpf .ogt main_arg0 main_v0
  let main_cst_0 : FVec F S_ .bf16 := constant S_ .bf16 0x7F80#16
  let main_v2 : FVec F S2x4096x5376 .bf16 := broadcastInDim S2x4096x5376 ![] bcast_S_S2x4096x5376 main_cst_0
  let main_v3 : IVec S2x4096x5376 1 := cmpf .olt main_arg0 main_v2
  let main_v4 : IVec S2x4096x5376 1 := andi main_v1 main_v3
  let main_c : IVec S_ 1 := constantI S_ 1 1#1
  let main_v5 : IVec S_ 1 := (fun x v => Host.reduce IntOp.andi x v reducesTo_S2x4096x5376_S_d0_1_2 h_S_) main_v4 main_c
  let main_cst_1 : FVec F S_ .f32 := constant S_ .f32 0xFF800000#32
  let main_v6 : FVec F S32x6 .f32 := broadcastInDim S32x6 ![] bcast_S_S32x6 main_cst_1
  let main_v7 : IVec S32x6 1 := cmpf .ogt main_arg1 main_v6
  let main_cst_2 : FVec F S_ .f32 := constant S_ .f32 0x7F800000#32
  let main_v8 : FVec F S32x6 .f32 := broadcastInDim S32x6 ![] bcast_S_S32x6 main_cst_2
  let main_v9 : IVec S32x6 1 := cmpf .olt main_arg1 main_v8
  let main_v10 : IVec S32x6 1 := andi main_v7 main_v9
  let main_c_3 : IVec S_ 1 := constantI S_ 1 1#1
  let main_v11 : IVec S_ 1 := (fun x v => Host.reduce IntOp.andi x v reducesTo_S32x6_S_d0_1 h_S_) main_v10 main_c_3
  let main_v12 : IVec S_ 1 := andi main_v5 main_v11
  main_v12
-- ==== Pre_scores_finite.lean ====
abbrev S2x4096x2048 : Shape := ⟨3, ![2, 4096, 2048]⟩
abbrev S2x2x12288 : Shape := ⟨3, ![2, 2, 12288]⟩
abbrev S8192x2048 : Shape := ⟨2, ![8192, 2048]⟩
abbrev S16x128x8192 : Shape := ⟨3, ![16, 128, 8192]⟩
abbrev S8x8192 : Shape := ⟨2, ![8, 8192]⟩
abbrev S2x16384x2048 : Shape := ⟨3, ![2, 16384, 2048]⟩
abbrev S2048 : Shape := ⟨1, ![2048]⟩
abbrev S_ : Shape := ⟨0, ![]⟩

class Facts : Prop where
  bcast_S_S16x128x8192 : S_.BroadcastsInDim S16x128x8192 (![] : Fin 0 → Fin S16x128x8192.rank)
  reducesTo_S16x128x8192_S_d0_1_2 : S16x128x8192.ReducesTo [0, 1, 2] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_arg6 : FVec F S8x8192 .f32) (main_v12 : IVec S_ 1) (main_v14 : IVec S8x8192 1) (main_v15 : FVec F S8x8192 .f32) : IVec S_ 1 :=
  let main_v16 : IVec S8x8192 1 := cmpf .olt main_arg6 main_v15
  let main_v17 : IVec S8x8192 1 := andi main_v14 main_v16
  let main_c_6 : IVec S_ 1 := constantI S_ 1 1#1
  let main_v18 : IVec S_ 1 := (fun x v => Host.reduce IntOp.andi x v reducesTo_S8x8192_S_d0_1 h_S_) main_v17 main_c_6
  let main_v19 : IVec S_ 1 := andi main_v12 main_v18
  main_v19

def fn {F : FTy → Type} [FloatOps F] (main_arg0 : FVec F S2x4096x2048 .f32) (main_arg1 : FVec F S2x2x12288 .f32) (main_arg2 : FVec F S8192x2048 .bf16) (main_arg3 : FVec F S16x128x8192 .f32) (main_arg4 : FVec F S8x8192 .f32) (main_arg5 : FVec F S8x8192 .f32) (main_arg6 : FVec F S8x8192 .f32) (main_arg7 : FVec F S8x8192 .f32) (main_arg8 : FVec F S2x16384x2048 .f32) (main_arg9 : FVec F S2x16384x2048 .f32) (main_arg10 : FVec F S2048 .f32) : IVec S_ 1 :=
  let main_cst : FVec F S_ .f32 := constant S_ .f32 0xFF800000#32
  let main_v0 : FVec F S16x128x8192 .f32 := broadcastInDim S16x128x8192 ![] bcast_S_S16x128x8192 main_cst
  let main_v1 : IVec S16x128x8192 1 := cmpf .ogt main_arg3 main_v0
  let main_cst_0 : FVec F S_ .f32 := constant S_ .f32 0x7F800000#32
  let main_v2 : FVec F S16x128x8192 .f32 := broadcastInDim S16x128x8192 ![] bcast_S_S16x128x8192 main_cst_0
  let main_v3 : IVec S16x128x8192 1 := cmpf .olt main_arg3 main_v2
  let main_v4 : IVec S16x128x8192 1 := andi main_v1 main_v3
  let main_c : IVec S_ 1 := constantI S_ 1 1#1
  let main_v5 : IVec S_ 1 := (fun x v => Host.reduce IntOp.andi x v reducesTo_S16x128x8192_S_d0_1_2 h_S_) main_v4 main_c
  let main_cst_1 : FVec F S_ .f32 := constant S_ .f32 0xFF800000#32
  let main_v6 : FVec F S8x8192 .f32 := broadcastInDim S8x8192 ![] bcast_S_S8x8192 main_cst_1
  let main_v7 : IVec S8x8192 1 := cmpf .ogt main_arg5 main_v6
  let main_cst_2 : FVec F S_ .f32 := constant S_ .f32 0x7F800000#32
  let main_v8 : FVec F S8x8192 .f32 := broadcastInDim S8x8192 ![] bcast_S_S8x8192 main_cst_2
  let main_v9 : IVec S8x8192 1 := cmpf .olt main_arg5 main_v8
  let main_v10 : IVec S8x8192 1 := andi main_v7 main_v9
  let main_c_3 : IVec S_ 1 := constantI S_ 1 1#1
  let main_v11 : IVec S_ 1 := (fun x v => Host.reduce IntOp.andi x v reducesTo_S8x8192_S_d0_1 h_S_) main_v10 main_c_3
  let main_v12 : IVec S_ 1 := andi main_v5 main_v11
  let main_cst_4 : FVec F S_ .f32 := constant S_ .f32 0xFF800000#32
  let main_v13 : FVec F S8x8192 .f32 := broadcastInDim S8x8192 ![] bcast_S_S8x8192 main_cst_4
  let main_v14 : IVec S8x8192 1 := cmpf .ogt main_arg6 main_v13
  let main_cst_5 : FVec F S_ .f32 := constant S_ .f32 0x7F800000#32
  let main_v15 : FVec F S8x8192 .f32 := broadcastInDim S8x8192 ![] bcast_S_S8x8192 main_cst_5
  fn_part1 (F := F) main_arg6 main_v12 main_v14 main_v15
-- ==== Pre_scores_small.lean ====
abbrev S2x4096x5376 : Shape := ⟨3, ![2, 4096, 5376]⟩
abbrev S2x4096x768 : Shape := ⟨3, ![2, 4096, 768]⟩
abbrev S2x4096x512 : Shape := ⟨3, ![2, 4096, 512]⟩
abbrev S2x4096x4x128 : Shape := ⟨4, ![2, 4096, 4, 128]⟩
abbrev S2x4x4096x4096 : Shape := ⟨4, ![2, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

class Facts : Prop where
  bitsLt_bf16_f32 : FTy.bits .bf16 < FTy.bits .f32
  slices_S2x4096x5376_S2x4096x768_0_0_0 : S2x4096x5376.Slices ![0, 0, 0] S2x4096x768
  slices_S2x4096x5376_S2x4096x768_0_0_768 : S2x4096x5376.Slices ![0, 0, 768] S2x4096x768
  slices_S2x4096x5376_S2x4096x768_0_0_1536 : S2x4096x5376.Slices ![0, 0, 1536] S2x4096x768
  slices_S2x4096x5376_S2x4096x768_0_0_2304 : S2x4096x5376.Slices ![0, 0, 2304] S2x4096x768
  slices_S2x4096x5376_S2x4096x768_0_0_3072 : S2x4096x5376.Slices ![0, 0, 3072] S2x4096x768
  slices_S2x4096x5376_S2x4096x512_0_0_3840 : S2x4096x5376.Slices ![0, 0, 3840] S2x4096x512
  slices_S2x4096x5376_S2x4096x512_0_0_4352 : S2x4096x5376.Slices ![0, 0, 4352] S2x4096x512
  slices_S2x4096x5376_S2x4096x512_0_0_4864 : S2x4096x5376.Slices ![0, 0, 4864] S2x4096x512
  shapeCasts_S2x4096x512_S2x4096x4x128 : S2x4096x512.ShapeCasts S2x4096x4x128
  bcast_S_S2x4x4096x4096 : S_.BroadcastsInDim S2x4x4096x4096 (![] : Fin 0 → Fin S2x4x4096x4096.rank)
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S4096x4096_S2x4x4096x4096_2_3 : S4096x4096.BroadcastsInDim S2x4x4096x4096 (![2, 3] : Fin 2 → Fin S2x4x4096x4096.rank)
  reducesTo_S2x4x4096x4096_S_d0_1_2_3 : S2x4x4096x4096.ReducesTo [0, 1, 2, 3] S_
  h_S_ : 0 < S_.numel
  dot_S2x4096x4x128_S2x4096x4x128_S2x4x4096x4096_3_3_1_1_02_02_wf : DotDims.WF S2x4096x4x128 S2x4096x4x128 S2x4x4096x4096 [3] [3] [1] [1] [0, 2] [0, 2]

variable [Facts]

def dot_S2x4096x4x128_S2x4096x4x128_S2x4x4096x4096_3_3_1_1_02_02 : DotDims S2x4096x4x128 S2x4096x4x128 S2x4x4096x4096 where
  lhsContracting := [3]
  rhsContracting := [3]
  lhsNonContracting := [1]
  rhsNonContracting := [1]
  lhsBatch := [0, 2]
  rhsBatch := [0, 2]
  wf := dot_S2x4096x4x128_S2x4096x4x128_S2x4x4096x4096_3_3_1_1_02_02_wf
def fn_where {F : FTy → Type} [FloatOps F] (arg0 : IVec S4096x4096 1) (arg1 : IVec S2x4x4096x4096 1) (arg2 : IVec S_ 1) : IVec S2x4x4096x4096 1 :=
  let v0 : IVec S2x4x4096x4096 1 := broadcastInDim S2x4x4096x4096 ![2, 3] bcast_S4096x4096_S2x4x4096x4096_2_3 arg0
  let v1 : IVec S2x4x4096x4096 1 := broadcastInDim S2x4x4096x4096 ![] bcast_S_S2x4x4096x4096 arg2
  let v2 : IVec S2x4x4096x4096 1 := select v0 arg1 v1
  v2

def fn_part1 {F : FTy → Type} [FloatOps F] (main_v14 : FVec F S2x4x4096x4096 .f32) (main_v20 : IVec S4096x4096 1) (main_v21 : FVec F S2x4x4096x4096 .f32) : IVec S_ 1 :=
  let main_v22 : IVec S2x4x4096x4096 1 := cmpf .ole main_v14 main_v21
  let main_c : IVec S_ 1 := constantI S_ 1 1#1
  let main_v23 : IVec S2x4x4096x4096 1 := fn_where (F := F) main_v20 main_v22 main_c
  let main_c_1 : IVec S_ 1 := constantI S_ 1 1#1
  let main_v24 : IVec S_ 1 := (fun x v => Host.reduce IntOp.andi x v reducesTo_S2x4x4096x4096_S_d0_1_2_3 h_S_) main_v23 main_c_1
  main_v24

def fn {F : FTy → Type} [FloatOps F] (main_arg0 : FVec F S2x4096x5376 .bf16) : IVec S_ 1 :=
  let main_v0 : FVec F S2x4096x5376 .f32 := (extf .f32 · bitsLt_bf16_f32) main_arg0
  let main_v1 : FVec F S2x4096x768 .f32 := (extractStridedSlice S2x4096x768 ![0, 0, 0] · slices_S2x4096x5376_S2x4096x768_0_0_0) main_v0
  let main_v2 : FVec F S2x4096x768 .f32 := (extractStridedSlice S2x4096x768 ![0, 0, 768] · slices_S2x4096x5376_S2x4096x768_0_0_768) main_v0
  let main_v3 : FVec F S2x4096x768 .f32 := (extractStridedSlice S2x4096x768 ![0, 0, 1536] · slices_S2x4096x5376_S2x4096x768_0_0_1536) main_v0
  let main_v4 : FVec F S2x4096x768 .f32 := (extractStridedSlice S2x4096x768 ![0, 0, 2304] · slices_S2x4096x5376_S2x4096x768_0_0_2304) main_v0
  let main_v5 : FVec F S2x4096x768 .f32 := (extractStridedSlice S2x4096x768 ![0, 0, 3072] · slices_S2x4096x5376_S2x4096x768_0_0_3072) main_v0
  let main_v6 : FVec F S2x4096x512 .f32 := (extractStridedSlice S2x4096x512 ![0, 0, 3840] · slices_S2x4096x5376_S2x4096x512_0_0_3840) main_v0
  let main_v7 : FVec F S2x4096x512 .f32 := (extractStridedSlice S2x4096x512 ![0, 0, 4352] · slices_S2x4096x5376_S2x4096x512_0_0_4352) main_v0
  let main_v8 : FVec F S2x4096x512 .f32 := (extractStridedSlice S2x4096x512 ![0, 0, 4864] · slices_S2x4096x5376_S2x4096x512_0_0_4864) main_v0
  let main_v9 : FVec F S2x4096x4x128 .f32 := shapeCast S2x4096x4x128 main_v6 shapeCasts_S2x4096x512_S2x4096x4x128
  let main_v10 : FVec F S2x4096x4x128 .f32 := shapeCast S2x4096x4x128 main_v7 shapeCasts_S2x4096x512_S2x4096x4x128
  let main_v11 : FVec F S2x4096x4x128 .f32 := shapeCast S2x4096x4x128 main_v8 shapeCasts_S2x4096x512_S2x4096x4x128
  let main_v12 : FVec F S2x4x4096x4096 .f32 := (fun l r => Host.dotGeneral dot_S2x4096x4x128_S2x4096x4x128_S2x4x4096x4096_3_3_1_1_02_02 none l r) main_v9 main_v10
  let main_cst : FVec F S_ .f32 := constant S_ .f32 0x3DB504F3#32
  let main_v13 : FVec F S2x4x4096x4096 .f32 := broadcastInDim S2x4x4096x4096 ![] bcast_S_S2x4x4096x4096 main_cst
  let main_v14 : FVec F S2x4x4096x4096 .f32 := mulf main_v12 main_v13
  let main_v15 : IVec S4096 32 := iotaInDim S4096 32 0
  let main_v16 : IVec S1x4096 32 := broadcastInDim S1x4096 ![1] bcast_S4096_S1x4096_1 main_v15
  let main_v17 : IVec S4096x1 32 := broadcastInDim S4096x1 ![0] bcast_S4096_S4096x1_0 main_v15
  let main_v18 : IVec S4096x4096 32 := broadcastInDim S4096x4096 ![0, 1] bcast_S1x4096_S4096x4096_0_1 main_v16
  let main_v19 : IVec S4096x4096 32 := broadcastInDim S4096x4096 ![0, 1] bcast_S4096x1_S4096x4096_0_1 main_v17
  let main_v20 : IVec S4096x4096 1 := cmpi .slt main_v18 main_v19
  let main_cst_0 : FVec F S_ .f32 := constant S_ .f32 0x42200000#32
  let main_v21 : FVec F S2x4x4096x4096 .f32 := broadcastInDim S2x4x4096x4096 ![] bcast_S_S2x4x4096x4096 main_cst_0
  fn_part1 (F := F) main_v14 main_v20 main_v21
-- ==== Pre_top_lse_finite.lean ====
abbrev S2x4096x2048 : Shape := ⟨3, ![2, 4096, 2048]⟩
abbrev S2x2x12288 : Shape := ⟨3, ![2, 2, 12288]⟩
abbrev S8192x768 : Shape := ⟨2, ![8192, 768]⟩
abbrev S2x4096x768 : Shape := ⟨3, ![2, 4096, 768]⟩
abbrev S2x4096x128 : Shape := ⟨3, ![2, 4096, 128]⟩
abbrev S2x1024x3072 : Shape := ⟨3, ![2, 1024, 3072]⟩
abbrev S2x1024x512 : Shape := ⟨3, ![2, 1024, 512]⟩
abbrev S2x256x12288 : Shape := ⟨3, ![2, 256, 12288]⟩
abbrev S2x256x2048 : Shape := ⟨3, ![2, 256, 2048]⟩
abbrev S2x4096x512 : Shape := ⟨3, ![2, 4096, 512]⟩
abbrev S2x768 : Shape := ⟨2, ![2, 768]⟩
abbrev S2x512 : Shape := ⟨2, ![2, 512]⟩
abbrev S2x2048x2048 : Shape := ⟨3, ![2, 2048, 2048]⟩
abbrev S2x4096x6 : Shape := ⟨3, ![2, 4096, 6]⟩
abbrev S_ : Shape := ⟨0, ![]⟩

class Facts : Prop where
  slices_S2x4096x128_S2x4096x6_0_0_0 : S2x4096x128.Slices ![0, 0, 0] S2x4096x6
  shapeCasts_S2x1024x512_S2x4096x128 : S2x1024x512.ShapeCasts S2x4096x128
  shapeCasts_S2x256x2048_S2x4096x128 : S2x256x2048.ShapeCasts S2x4096x128
  bcast_S_S2x4096x6 : S_.BroadcastsInDim S2x4096x6 (![] : Fin 0 → Fin S2x4096x6.rank)
  reducesTo_S2x4096x6_S_d0_1_2 : S2x4096x6.ReducesTo [0, 1, 2] S_
  h_S_ : 0 < S_.numel

variable [Facts]

def fn {F : FTy → Type} [FloatOps F] (main_arg0 : FVec F S2x4096x2048 .f32) (main_arg1 : FVec F S2x2x12288 .f32) (main_arg2 : FVec F S8192x768 .bf16) (main_arg3 : FVec F S2x4096x768 .bf16) (main_arg4 : FVec F S2x4096x128 .f32) (main_arg5 : FVec F S2x1024x3072 .bf16) (main_arg6 : FVec F S2x1024x512 .f32) (main_arg7 : FVec F S2x256x12288 .bf16) (main_arg8 : FVec F S2x256x2048 .f32) (main_arg9 : FVec F S2x4096x512 .bf16) (main_arg10 : FVec F S2x768 .f32) (main_arg11 : FVec F S2x768 .f32) (main_arg12 : FVec F S2x512 .f32) (main_arg13 : FVec F S2x2048x2048 .f32) : IVec S_ 1 :=
  let main_v0 : FVec F S2x4096x6 .f32 := (extractStridedSlice S2x4096x6 ![0, 0, 0] · slices_S2x4096x128_S2x4096x6_0_0_0) main_arg4
  let main_v1 : FVec F S2x4096x128 .f32 := shapeCast S2x4096x128 main_arg6 shapeCasts_S2x1024x512_S2x4096x128
  let main_v2 : FVec F S2x4096x6 .f32 := (extractStridedSlice S2x4096x6 ![0, 0, 0] · slices_S2x4096x128_S2x4096x6_0_0_0) main_v1
  let main_v3 : FVec F S2x4096x128 .f32 := shapeCast S2x4096x128 main_arg8 shapeCasts_S2x256x2048_S2x4096x128
  let main_v4 : FVec F S2x4096x6 .f32 := (extractStridedSlice S2x4096x6 ![0, 0, 0] · slices_S2x4096x128_S2x4096x6_0_0_0) main_v3
  let main_v5 : FVec F S2x4096x6 .f32 := maximumf main_v0 main_v2
  let main_v6 : FVec F S2x4096x6 .f32 := maximumf main_v5 main_v4
  let main_cst : FVec F S_ .f32 := constant S_ .f32 0xFF800000#32
  let main_v7 : FVec F S2x4096x6 .f32 := broadcastInDim S2x4096x6 ![] bcast_S_S2x4096x6 main_cst
  let main_v8 : IVec S2x4096x6 1 := cmpf .ogt main_v6 main_v7
  let main_cst_0 : FVec F S_ .f32 := constant S_ .f32 0x7F800000#32
  let main_v9 : FVec F S2x4096x6 .f32 := broadcastInDim S2x4096x6 ![] bcast_S_S2x4096x6 main_cst_0
  let main_v10 : IVec S2x4096x6 1 := cmpf .olt main_v6 main_v9
  let main_v11 : IVec S2x4096x6 1 := andi main_v8 main_v10
  let main_c : IVec S_ 1 := constantI S_ 1 1#1
  let main_v12 : IVec S_ 1 := (fun x v => Host.reduce IntOp.andi x v reducesTo_S2x4096x6_S_d0_1_2 h_S_) main_v11 main_c
  main_v12
-- ==== Kernel.lean ====
abbrev S2x4096x5376 : Shape := ⟨3, ![2, 4096, 5376]⟩
abbrev S2x4096x512 : Shape := ⟨3, ![2, 4096, 512]⟩
abbrev S1x256x256 : Shape := ⟨3, ![1, 256, 256]⟩
abbrev S1x4096x256 : Shape := ⟨3, ![1, 4096, 256]⟩
abbrev S1x256x512 : Shape := ⟨3, ![1, 256, 512]⟩
abbrev S256x256 : Shape := ⟨2, ![256, 256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 2
  | .vmem => 14
  | .smem => 0
  | _ => 0

abbrev bufTy : (tb : Table) → Fin (tcTables nBuf tb) → BufTy
  | .hbm, ⟨0, _⟩ => ⟨S2x4096x5376, .bf16⟩
  | .hbm, ⟨1, _⟩ => ⟨S2x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x256x512, .bf16⟩
  | .local _ .vmem, ⟨13, _⟩ => ⟨S1x256x512, .bf16⟩
  | _, _ => ⟨S2x4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v16 : BitVec 32 := Scalar.muli arg1 c256_i32
  v16
def k0_off1 (i : grid0.Coords) : Fin 3 → Nat :=
  let c0_11 : Index := 0#32
  let arg1 : BitVec 32 := BitVec.ofNat 32 (i 1).val
  let c256_i32 : BitVec 32 := 256#32
  let v16 : BitVec 32 := Scalar.muli arg1 c256_i32
  let v17 : BitVec 32 := v16
  let v20 : Index := Scalar.indexCast v17
  let c0_12 : Index := 0#32
  ![0, v20.toNat, 0]
def k0_off2 (i : grid0.Coords) : Fin 3 → Nat :=
  let c0_17 : Index := 0#32
  let arg1 : BitVec 32 := BitVec.ofNat 32 (i 1).val
  let c256_i32 : BitVec 32 := 256#32
  let v16 : BitVec 32 := Scalar.muli arg1 c256_i32
  let v17 : BitVec 32 := v16
  let v28 : Index := Scalar.indexCast v17
  let c128_18 : Index := 128#32
  ![0, v28.toNat, 128]
@[reducible] def k0_t1_loop (i : grid0.Coords) : Scf.Loop 32 :=
  let c0_i32 : BitVec 32 := 0#32
  let arg1 : BitVec 32 := BitVec.ofNat 32 (i 1).val
  let v178 : BitVec 32 := Scalar.subi arg1 c0_i32
  let c1_i32 : BitVec 32 := 1#32
  let v180 : BitVec 32 := Scalar.divsi v178 c1_i32
  let v181 : BitVec 32 := Scalar.muli v180 c1_i32
  let v182 : BitVec 32 := Scalar.addi c0_i32 v181
  let c1_i32_75 : BitVec 32 := 1#32
  ⟨c0_i32, v182, c1_i32_75⟩
def k0_mult2 (i : grid0.Coords) (k0_t1 : Fin (k0_t1_loop i).trips) : BitVec 32 :=
  let arg1 : BitVec 32 := BitVec.ofNat 32 (i 1).val
  let c1_i32_87 : BitVec 32 := 1#32
  let v201 : BitVec 32 := Scalar.subi arg1 c1_i32_87
  let c0_i32 : BitVec 32 := 0#32
  let c1_i32_75 : BitVec 32 := 1#32
  let arg9 : BitVec 32 := Scf.iv c0_i32 c1_i32_75 k0_t1
  let v202 : BitVec 32 := Scalar.subi v201 arg9
  let c256_i32_88 : BitVec 32 := 256#32
  let v203 : BitVec 32 := Scalar.muli v202 c256_i32_88
  v203
def k0_off3 (i : grid0.Coords) (k0_t1 : Fin (k0_t1_loop i).trips) : Fin 3 → Nat :=
  let c0_92 : Index := 0#32
  let arg1 : BitVec 32 := BitVec.ofNat 32 (i 1).val
  let c1_i32_87 : BitVec 32 := 1#32
  let v201 : BitVec 32 := Scalar.subi arg1 c1_i32_87
  let c0_i32 : BitVec 32 := 0#32
  let c1_i32_75 : BitVec 32 := 1#32
  let arg9 : BitVec 32 := Scf.iv c0_i32 c1_i32_75 k0_t1
  let v202 : BitVec 32 := Scalar.subi v201 arg9
  let c256_i32_88 : BitVec 32 := 256#32
  let v203 : BitVec 32 := Scalar.muli v202 c256_i32_88
  let v204 : BitVec 32 := v203
  let v207 : Index := Scalar.indexCast v204
  let c0_93 : Index := 0#32
  ![0, v207.toNat, 0]
def k0_off4 (i : grid0.Coords) (k0_t1 : Fin (k0_t1_loop i).trips) : Fin 3 → Nat :=
  let c0_99 : Index := 0#32
  let arg1 : BitVec 32 := BitVec.ofNat 32 (i 1).val
  let c1_i32_87 : BitVec 32 := 1#32
  let v201 : BitVec 32 := Scalar.subi arg1 c1_i32_87
  let c0_i32 : BitVec 32 := 0#32
  let c1_i32_75 : BitVec 32 := 1#32
  let arg9 : BitVec 32 := Scf.iv c0_i32 c1_i32_75 k0_t1
  let v202 : BitVec 32 := Scalar.subi v201 arg9
  let c256_i32_88 : BitVec 32 := 256#32
  let v203 : BitVec 32 := Scalar.muli v202 c256_i32_88
  let v204 : BitVec 32 := v203
  let v215 : Index := Scalar.indexCast v204
  let c128_100 : Index := 128#32
  ![0, v215.toNat, 128]
@[reducible] def k0_t2_loop (i : grid0.Coords) : Scf.Loop 32 :=
  let c0_i32 : BitVec 32 := 0#32
  let arg1 : BitVec 32 := BitVec.ofNat 32 (i 1).val
  let v178 : BitVec 32 := Scalar.subi arg1 c0_i32
  let c1_i32 : BitVec 32 := 1#32
  let v180 : BitVec 32 := Scalar.divsi v178 c1_i32
  let v181 : BitVec 32 := Scalar.muli v180 c1_i32
  let v182 : BitVec 32 := Scalar.addi c0_i32 v181
  let v179 : BitVec 32 := Scalar.addi c0_i32 v178
  let c1_i32_76 : BitVec 32 := 1#32
  ⟨v182, v179, c1_i32_76⟩
def k0_mult3 (i : grid0.Coords) (k0_t2 : Fin (k0_t2_loop i).trips) : BitVec 32 :=
  let arg1 : BitVec 32 := BitVec.ofNat 32 (i 1).val
  let c1_i32_87 : BitVec 32 := 1#32
  let v201 : BitVec 32 := Scalar.subi arg1 c1_i32_87
  let c0_i32 : BitVec 32 := 0#32
  let v178 : BitVec 32 := Scalar.subi arg1 c0_i32
  let c1_i32 : BitVec 32 := 1#32
  let v180 : BitVec 32 := Scalar.divsi v178 c1_i32
  let v181 : BitVec 32 := Scalar.muli v180 c1_i32
  let v182 : BitVec 32 := Scalar.addi c0_i32 v181
  let c1_i32_76 : BitVec 32 := 1#32
  let arg9 : BitVec 32 := Scf.iv v182 c1_i32_76 k0_t2
  let v202 : BitVec 32 := Scalar.subi v201 arg9
  let c256_i32_88 : BitVec 32 := 256#32
  let v203 : BitVec 32 := Scalar.muli v202 c256_i32_88
  v203
def k0_off5 (i : grid0.Coords) (k0_t2 : Fin (k0_t2_loop i).trips) : Fin 3 → Nat :=
  let c0_92 : Index := 0#32
  let arg1 : BitVec 32 := BitVec.ofNat 32 (i 1).val
  let c1_i32_87 : BitVec 32 := 1#32
  let v201 : BitVec 32 := Scalar.subi arg1 c1_i32_87
  let c0_i32 : BitVec 32 := 0#32
  let v178 : BitVec 32 := Scalar.subi arg1 c0_i32
  let c1_i32 : BitVec 32 := 1#32
  let v180 : BitVec 32 := Scalar.divsi v178 c1_i32
  let v181 : BitVec 32 := Scalar.muli v180 c1_i32
  let v182 : BitVec 32 := Scalar.addi c0_i32 v181
  let c1_i32_76 : BitVec 32 := 1#32
  let arg9 : BitVec 32 := Scf.iv v182 c1_i32_76 k0_t2
  let v202 : BitVec 32 := Scalar.subi v201 arg9
  let c256_i32_88 : BitVec 32 := 256#32
  let v203 : BitVec 32 := Scalar.muli v202 c256_i32_88
  let v204 : BitVec 32 := v203
  let v207 : Index := Scalar.indexCast v204
  let c0_93 : Index := 0#32
  ![0, v207.toNat, 0]
def k0_off6 (i : grid0.Coords) (k0_t2 : Fin (k0_t2_loop i).trips) : Fin 3 → Nat :=
  let c0_99 : Index := 0#32
  let arg1 : BitVec 32 := BitVec.ofNat 32 (i 1).val
  let c1_i32_87 : BitVec 32 := 1#32
  let v201 : BitVec 32 := Scalar.subi arg1 c1_i32_87
  let c0_i32 : BitVec 32 := 0#32
  let v178 : BitVec 32 := Scalar.subi arg1 c0_i32
  let c1_i32 : BitVec 32 := 1#32
  let v180 : BitVec 32 := Scalar.divsi v178 c1_i32
  let v181 : BitVec 32 := Scalar.muli v180 c1_i32
  let v182 : BitVec 32 := Scalar.addi c0_i32 v181
  let c1_i32_76 : BitVec 32 := 1#32
  let arg9 : BitVec 32 := Scf.iv v182 c1_i32_76 k0_t2
  let v202 : BitVec 32 := Scalar.subi v201 arg9
  let c256_i32_88 : BitVec 32 := 256#32
  let v203 : BitVec 32 := Scalar.muli v202 c256_i32_88
  let v204 : BitVec 32 := v203
  let v215 : Index := Scalar.indexCast v204
  let c128_100 : Index := 128#32
  ![0, v215.toNat, 128]
def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c17_i32 : BitVec 32 := 17#32
  let c0_i32_0 : BitVec 32 := 0#32
  ![arg0.toNat, c0_i32.toNat, c17_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c18_i32 : BitVec 32 := 18#32
  let c0_i32_0 : BitVec 32 := 0#32
  ![arg0.toNat, c0_i32.toNat, c18_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c19_i32 : BitVec 32 := 19#32
  let c0_i32_0 : BitVec 32 := 0#32
  ![arg0.toNat, c0_i32.toNat, c19_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c20_i32 : BitVec 32 := 20#32
  let c0_i32_0 : BitVec 32 := 0#32
  ![arg0.toNat, c0_i32.toNat, c20_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x4096x5376 : Shape := ⟨3, ![2, 4096, 5376]⟩
abbrev S2x4096x768 : Shape := ⟨3, ![2, 4096, 768]⟩
abbrev S2x4096x512 : Shape := ⟨3, ![2, 4096, 512]⟩
abbrev S2x4096x4x128 : Shape := ⟨4, ![2, 4096, 4, 128]⟩
abbrev S2x4x4096x4096 : Shape := ⟨4, ![2, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4x128x4096 : Shape := ⟨4, ![2, 4, 128, 4096]⟩

abbrev nBuf : Space → Nat
  | .hbm => 76
  | .vmem => 0
  | .smem => 0
  | _ => 0

abbrev bufTy : (tb : Table) → Fin (tcTables nBuf tb) → BufTy
  | .hbm, ⟨0, _⟩ => ⟨S2x4096x5376, .bf16⟩
  | .hbm, ⟨1, _⟩ => ⟨S2x4096x5376, .f32⟩
  | .hbm, ⟨2, _⟩ => ⟨S2x4096x768, .f32⟩
  | .hbm, ⟨3, _⟩ => ⟨S2x4096x768, .f32⟩
  | .hbm, ⟨4, _⟩ => ⟨S2x4096x768, .f32⟩
  | .hbm, ⟨5, _⟩ => ⟨S2x4096x768, .f32⟩
  | .hbm, ⟨6, _⟩ => ⟨S2x4096x768, .f32⟩
  | .hbm, ⟨7, _⟩ => ⟨S2x4096x512, .f32⟩
  | .hbm, ⟨8, _⟩ => ⟨S2x4096x512, .f32⟩
  | .hbm, ⟨9, _⟩ => ⟨S2x4096x512, .f32⟩
  | .hbm, ⟨10, _⟩ => ⟨S2x4096x4x128, .f32⟩
  | .hbm, ⟨11, _⟩ => ⟨S2x4096x4x128, .f32⟩
  | .hbm, ⟨12, _⟩ => ⟨S2x4096x4x128, .f32⟩
  | .hbm, ⟨13, _⟩ => ⟨S2x4x4096x4096, .f32⟩
  | .hbm, ⟨14, _⟩ => ⟨S_, .f32⟩
  | .hbm, ⟨15, _⟩ => ⟨S2x4x4096x4096, .f32⟩
  | .hbm, ⟨16, _⟩ => ⟨S2x4x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S2x4x4096x4096, .f32⟩
  | .hbm, ⟨24, _⟩ => ⟨S2x4x4096x4096, .f32⟩
  | .hbm, ⟨25, _⟩ => ⟨S_, .f32⟩
  | .hbm, ⟨26, _⟩ => ⟨S2x4x4096x4096, .f32⟩
  | .hbm, ⟨27, _⟩ => ⟨S2x4x4096x4096, .f32⟩
  | .hbm, ⟨28, _⟩ => ⟨S2x4x4096x4096, .f32⟩
  | .hbm, ⟨29, _⟩ => ⟨S2x4x4096x4096, .f32⟩
  | .hbm, ⟨30, _⟩ => ⟨S2x4x4096x4096, .i1⟩
  | .hbm, ⟨31, _⟩ => ⟨S2x4x4096x4096, .f32⟩
  | .hbm, ⟨32, _⟩ => ⟨S2x4x4096x4096, .f32⟩
  | .hbm, ⟨33, _⟩ => ⟨S2x4x4096x4096, .f32⟩
  | .hbm, ⟨34, _⟩ => ⟨S2x4x4096x4096, .f32⟩
  | .hbm, ⟨35, _⟩ => ⟨S2x4x4096x4096, .f32⟩
  | .hbm, ⟨36, _⟩ => ⟨S2x4x4096x4096, .f32⟩
  | .hbm, ⟨37, _⟩ => ⟨S2x4x4096x4096, .f32⟩
  | .hbm, ⟨38, _⟩ => ⟨S2x4x4096x4096, .f32⟩
  | .hbm, ⟨39, _⟩ => ⟨S2x4x4096x4096, .f32⟩
  | .hbm, ⟨40, _⟩ => ⟨S_, .f32⟩
  | .hbm, ⟨41, _⟩ => ⟨S_, .f32⟩
  | .hbm, ⟨42, _⟩ => ⟨S2x4x4096x4096, .i1⟩
  | .hbm, ⟨43, _⟩ => ⟨S2x4x4096x4096, .f32⟩
  | .hbm, ⟨44, _⟩ => ⟨S2x4x4096x4096, .f32⟩
  | .hbm, ⟨45, _⟩ => ⟨S_, .f32⟩
  | .hbm, ⟨46, _⟩ => ⟨S_, .f32⟩
  | .hbm, ⟨47, _⟩ => ⟨S2x4x4096x4096, .f32⟩
  | .hbm, ⟨48, _⟩ => ⟨S2x4x4096x4096, .f32⟩
  | .hbm, ⟨49, _⟩ => ⟨S2x4x4096x4096, .f32⟩
  | .hbm, ⟨50, _⟩ => ⟨S_, .f32⟩
  | .hbm, ⟨51, _⟩ => ⟨S2x4x4096x4096, .f32⟩
  | .hbm, ⟨52, _⟩ => ⟨S2x4x4096x4096, .f32⟩
  | .hbm, ⟨53, _⟩ => ⟨S2x4x4096x4096, .f32⟩
  | .hbm, ⟨54, _⟩ => ⟨S2x4x4096x4096, .f32⟩
  | .hbm, ⟨55, _⟩ => ⟨S2x4x4096x4096, .i1⟩
  | .hbm, ⟨56, _⟩ => ⟨S2x4x4096x4096, .f32⟩
  | .hbm, ⟨57, _⟩ => ⟨S2x4x4096x4096, .f32⟩
  | .hbm, ⟨58, _⟩ => ⟨S2x4x4096x4096, .f32⟩
  | .hbm, ⟨59, _⟩ => ⟨S2x4x4096x4096, .f32⟩
  | .hbm, ⟨60, _⟩ => ⟨S2x4x4096x4096, .f32⟩
  | .hbm, ⟨61, _⟩ => ⟨S2x4x4096x4096, .f32⟩
  | .hbm, ⟨62, _⟩ => ⟨S2x4x4096x4096, .f32⟩
  | .hbm, ⟨63, _⟩ => ⟨S2x4x4096x4096, .f32⟩
  | .hbm, ⟨64, _⟩ => ⟨S2x4x4096x4096, .f32⟩
  | .hbm, ⟨65, _⟩ => ⟨S2x4x4096x4096, .f32⟩
  | .hbm, ⟨66, _⟩ => ⟨S2x4x4096x4096, .f32⟩
  | .hbm, ⟨67, _⟩ => ⟨S_, .f32⟩
  | .hbm, ⟨68, _⟩ => ⟨S_, .f32⟩
  | .hbm, ⟨69, _⟩ => ⟨S2x4x4096x4096, .i1⟩
  | .hbm, ⟨70, _⟩ => ⟨S2x4x4096x4096, .f32⟩
  | .hbm, ⟨71, _⟩ => ⟨S2x4x4096x4096, .f32⟩
  | .hbm, ⟨72, _⟩ => ⟨S2x4x128x4096, .f32⟩
  | .hbm, ⟨73, _⟩ => ⟨S2x4096x4x128, .f32⟩
  | .hbm, ⟨74, _⟩ => ⟨S2x4096x512, .f32⟩
  | .hbm, ⟨75, _⟩ => ⟨S2x4096x512, .bf16⟩
  | _, _ => ⟨S2x4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x2x12288 : Shape := ⟨3, ![2, 2, 12288]⟩
abbrev S2x2048 : Shape := ⟨2, ![2, 2048]⟩
abbrev S2x2048x5376 : Shape := ⟨3, ![2, 2048, 5376]⟩
abbrev S1x2x2048 : Shape := ⟨3, ![1, 2, 2048]⟩
abbrev S2x1x2048 : Shape := ⟨3, ![2, 1, 2048]⟩
abbrev S8192x2048 : Shape := ⟨2, ![8192, 2048]⟩
abbrev S1x2048 : Shape := ⟨2, ![1, 2048]⟩
abbrev S2048 : Shape := ⟨1, ![2048]⟩
abbrev S8192x5376 : Shape := ⟨2, ![8192, 5376]⟩
abbrev S1024x2048 : Shape := ⟨2, ![1024, 2048]⟩
abbrev S1x1x2048 : Shape := ⟨3, ![1, 1, 2048]⟩
abbrev S1x2048x1792 : Shape := ⟨3, ![1, 2048, 1792]⟩
abbrev S1024x1792 : Shape := ⟨2, ![1024, 1792]⟩
abbrev S1024 : Shape := ⟨1, ![1024]⟩
abbrev S1024x1 : Shape := ⟨2, ![1024, 1]⟩
abbrev S2048x1792 : Shape := ⟨2, ![2048, 1792]⟩

abbrev nBuf : Space → Nat
  | .hbm => 28
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x2x12288, .f32⟩
  | .hbm, ⟨2, _⟩ => ⟨S2x2048, .f32⟩
  | .hbm, ⟨3, _⟩ => ⟨S2x2048x5376, .f32⟩
  | .hbm, ⟨4, _⟩ => ⟨S1x2x2048, .f32⟩
  | .hbm, ⟨5, _⟩ => ⟨S2x2048, .f32⟩
  | .hbm, ⟨6, _⟩ => ⟨S2x1x2048, .f32⟩
  | .hbm, ⟨7, _⟩ => ⟨S1x2x2048, .f32⟩
  | .hbm, ⟨8, _⟩ => ⟨S2x2048, .f32⟩
  | .hbm, ⟨9, _⟩ => ⟨S2x1x2048, .f32⟩
  | .hbm, ⟨10, _⟩ => ⟨S1x2x2048, .f32⟩
  | .hbm, ⟨11, _⟩ => ⟨S2x2048, .f32⟩
  | .hbm, ⟨12, _⟩ => ⟨S2x1x2048, .f32⟩
  | .hbm, ⟨13, _⟩ => ⟨S1x2x2048, .f32⟩
  | .hbm, ⟨14, _⟩ => ⟨S2x2048, .f32⟩
  | .hbm, ⟨15, _⟩ => ⟨S2x1x2048, .f32⟩
  | .hbm, ⟨16, _⟩ => ⟨S1x2x2048, .f32⟩
  | .hbm, ⟨17, _⟩ => ⟨S2x2048, .f32⟩
  | .hbm, ⟨18, _⟩ => ⟨S2x1x2048, .f32⟩
  | .hbm, ⟨19, _⟩ => ⟨S1x2x2048, .f32⟩
  | .hbm, ⟨20, _⟩ => ⟨S2x2048, .f32⟩
  | .hbm, ⟨21, _⟩ => ⟨S2x1x2048, .f32⟩
  | .hbm, ⟨22, _⟩ => ⟨S8192x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2x2048x5376, .bf16⟩
  | .hbm, ⟨27, _⟩ => ⟨S8192x5376, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1792, .bf16⟩
  | .local _ .vmem, ⟨8, _⟩ => ⟨S1x2048x1792, .bf16⟩
  | .local _ .vmem, ⟨9, _⟩ => ⟨S1024x1792, .bf16⟩
  | .local _ .vmem, ⟨10, _⟩ => ⟨S1024x1792, .bf16⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2x4096x2048 : Shape := ⟨3, ![2, 4096, 2048]⟩
abbrev S2x2x12288 : Shape := ⟨3, ![2, 2, 12288]⟩
abbrev S2x2048 : Shape := ⟨2, ![2, 2048]⟩
abbrev S2x2048x5376 : Shape := ⟨3, ![2, 2048, 5376]⟩
abbrev S1x2x12288 : Shape := ⟨3, ![1, 2, 12288]⟩
abbrev S2x12288 : Shape := ⟨2, ![2, 12288]⟩
abbrev S2x1x2048 : Shape := ⟨3, ![2, 1, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x5376 : Shape := ⟨3, ![1, 2048, 5376]⟩
abbrev S2048x5376 : Shape := ⟨2, ![2048, 5376]⟩
abbrev S2x4096x5376 : Shape := ⟨3, ![2, 4096, 5376]⟩
abbrev S8192x5376 : Shape := ⟨2, ![8192, 5376]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2x12288, .f32⟩
  | .hbm, ⟨2, _⟩ => ⟨S2x2048, .f32⟩
  | .hbm, ⟨3, _⟩ => ⟨S2x2048x5376, .f32⟩
  | .hbm, ⟨4, _⟩ => ⟨S1x2x12288, .f32⟩
  | .hbm, ⟨5, _⟩ => ⟨S2x12288, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S1x2048, .f32⟩
  | .hbm, ⟨19, _⟩ => ⟨S2048, .f32⟩
  | .hbm, ⟨20, _⟩ => ⟨S2x4096x2048, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x1x2048, .f32⟩
  | .hbm, ⟨38, _⟩ => ⟨S2x1x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S1x2048x5376, .f32⟩
  | .hbm, ⟨44, _⟩ => ⟨S2048x5376, .f32⟩
  | .hbm, ⟨45, _⟩ => ⟨S2x4096x5376, .f32⟩
  | .hbm, ⟨46, _⟩ => ⟨S8192x5376, .f32⟩
  | .hbm, ⟨47, _⟩ => ⟨S8192x5376, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel3.lean ====
abbrev S2x4096x2048 : Shape := ⟨3, ![2, 4096, 2048]⟩
abbrev S2x2x12288 : Shape := ⟨3, ![2, 2, 12288]⟩
abbrev S8192x768 : Shape := ⟨2, ![8192, 768]⟩
abbrev S2x4096x768 : Shape := ⟨3, ![2, 4096, 768]⟩
abbrev S2x4096x128 : Shape := ⟨3, ![2, 4096, 128]⟩
abbrev S2x1024x3072 : Shape := ⟨3, ![2, 1024, 3072]⟩
abbrev S2x1024x512 : Shape := ⟨3, ![2, 1024, 512]⟩
abbrev S2x256x12288 : Shape := ⟨3, ![2, 256, 12288]⟩
abbrev S2x256x2048 : Shape := ⟨3, ![2, 256, 2048]⟩
abbrev S2x4096x512 : Shape := ⟨3, ![2, 4096, 512]⟩
abbrev S2x768 : Shape := ⟨2, ![2, 768]⟩
abbrev S2x512 : Shape := ⟨2, ![2, 512]⟩
abbrev S2x2048x2048 : Shape := ⟨3, ![2, 2048, 2048]⟩
abbrev S1x2x2048 : Shape := ⟨3, ![1, 2, 2048]⟩
abbrev S2x2048 : Shape := ⟨2, ![2, 2048]⟩
abbrev S2x1x2048 : Shape := ⟨3, ![2, 1, 2048]⟩
abbrev S8192x128 : Shape := ⟨2, ![8192, 128]⟩
abbrev S8192x2048 : Shape := ⟨2, ![8192, 2048]⟩
abbrev S8192x512 : Shape := ⟨2, ![8192, 512]⟩
abbrev S1x768 : Shape := ⟨2, ![1, 768]⟩
abbrev S768 : Shape := ⟨1, ![768]⟩
abbrev S1x512 : Shape := ⟨2, ![1, 512]⟩
abbrev S512 : Shape := ⟨1, ![512]⟩
abbrev S512x2048 : Shape := ⟨2, ![512, 2048]⟩
abbrev S512x768 : Shape := ⟨2, ![512, 768]⟩
abbrev S512x128 : Shape := ⟨2, ![512, 128]⟩
abbrev S512x512 : Shape := ⟨2, ![512, 512]⟩
abbrev S1x2048x2048 : Shape := ⟨3, ![1, 2048, 2048]⟩
abbrev S1x1x2048 : Shape := ⟨3, ![1, 1, 2048]⟩
abbrev S512x1 : Shape := ⟨2, ![512, 1]⟩
abbrev S1x768x2048 : Shape := ⟨3, ![1, 768, 2048]⟩
abbrev S768x2048 : Shape := ⟨2, ![768, 2048]⟩
abbrev S1x512x2048 : Shape := ⟨3, ![1, 512, 2048]⟩
abbrev S1x2048 : Shape := ⟨2, ![1, 2048]⟩

abbrev nBuf : Space → Nat
  | .hbm => 51
  | .vmem => 26
  | .smem => 0
  | _ => 0

abbrev bufTy : (tb : Table) → Fin (tcTables nBuf tb) → BufTy
  | .hbm, ⟨0, _⟩ => ⟨S2x4096x2048, .f32⟩
  | .hbm, ⟨1, _⟩ => ⟨S2x2x12288, .f32⟩
  | .hbm, ⟨2, _⟩ => ⟨S8192x768, .bf16⟩
  | .hbm, ⟨3, _⟩ => ⟨S2x4096x768, .bf16⟩
  | .hbm, ⟨4, _⟩ => ⟨S2x4096x128, .f32⟩
  | .hbm, ⟨5, _⟩ => ⟨S2x1024x3072, .bf16⟩
  | .hbm, ⟨6, _⟩ => ⟨S2x1024x512, .f32⟩
  | .hbm, ⟨7, _⟩ => ⟨S2x256x12288, .bf16⟩
  | .hbm, ⟨8, _⟩ => ⟨S2x256x2048, .f32⟩
  | .hbm, ⟨9, _⟩ => ⟨S2x4096x512, .bf16⟩
  | .hbm, ⟨10, _⟩ => ⟨S2x768, .f32⟩
  | .hbm, ⟨11, _⟩ => ⟨S2x768, .f32⟩
  | .hbm, ⟨12, _⟩ => ⟨S2x512, .f32⟩
  | .hbm, ⟨13, _⟩ => ⟨S2x2048x2048, .f32⟩
  | .hbm, ⟨14, _⟩ => ⟨S1x2x2048, .f32⟩
  | .hbm, ⟨15, _⟩ => ⟨S2x2048, .f32⟩
  | .hbm, ⟨16, _⟩ => ⟨S2x1x2048, .f32⟩
  | .hbm, ⟨17, _⟩ => ⟨S1x2x2048, .f32⟩
  | .hbm, ⟨18, _⟩ => ⟨S2x2048, .f32⟩
  | .hbm, ⟨19, _⟩ => ⟨S2x1x2048, .f32⟩
  | .hbm, ⟨20, _⟩ => ⟨S1x2x2048, .f32⟩
  | .hbm, ⟨21, _⟩ => ⟨S2x2048, .f32⟩
  | .hbm, ⟨22, _⟩ => ⟨S2x1x2048, .f32⟩
  | .hbm, ⟨23, _⟩ => ⟨S1x2x2048, .f32⟩
  | .hbm, ⟨24, _⟩ => ⟨S2x2048, .f32⟩
  | .hbm, ⟨25, _⟩ => ⟨S2x1x2048, .f32⟩
  | .hbm, ⟨26, _⟩ => ⟨S1x2x2048, .f32⟩
  | .hbm, ⟨27, _⟩ => ⟨S2x2048, .f32⟩
  | .hbm, ⟨28, _⟩ => ⟨S2x1x2048, .f32⟩
  | .hbm, ⟨29, _⟩ => ⟨S1x2x2048, .f32⟩
  | .hbm, ⟨30, _⟩ => ⟨S2x2048, .f32⟩
  | .hbm, ⟨31, _⟩ => ⟨S2x1x2048, .f32⟩
  | .hbm, ⟨32, _⟩ => ⟨S8192x768, .bf16⟩
  | .hbm, ⟨33, _⟩ => ⟨S8192x128, .f32⟩
  | .hbm, ⟨34, _⟩ => ⟨S8192x768, .bf16⟩
  | .hbm, ⟨35, _⟩ => ⟨S8192x128, .f32⟩
  | .hbm, ⟨36, _⟩ => ⟨S8192x768, .bf16⟩
  | .hbm, ⟨37, _⟩ => ⟨S8192x128, .f32⟩
  | .hbm, ⟨38, _⟩ => ⟨S8192x2048, .f32⟩
  | .hbm, ⟨39, _⟩ => ⟨S8192x512, .bf16⟩
  | .hbm, ⟨40, _⟩ => ⟨S1x768, .f32⟩
  | .hbm, ⟨41, _⟩ => ⟨S768, .f32⟩
  | .hbm, ⟨42, _⟩ => ⟨S1x768, .f32⟩
  | .hbm, ⟨43, _⟩ => ⟨S768, .f32⟩
  | .hbm, ⟨44, _⟩ => ⟨S1x512, .f32⟩
  | .hbm, ⟨45, _⟩ => ⟨S512, .f32⟩
  | .hbm, ⟨46, _⟩ => ⟨S2x2048x2048, .bf16⟩
  | .hbm, ⟨47, _⟩ => ⟨S1x768, .f32⟩
  | .hbm, ⟨48, _⟩ => ⟨S1x768, .f32⟩
  | .hbm, ⟨49, _⟩ => ⟨S1x512, .f32⟩
  | .hbm, ⟨50, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S1x768, .f32⟩
  | .local _ .vmem, ⟨19, _⟩ => ⟨S1x768, .f32⟩
  | .local _ .vmem, ⟨20, _⟩ => ⟨S1x512, .f32⟩
  | .local _ .vmem, ⟨21, _⟩ => ⟨S1x2048x2048, .bf16⟩
  | .local _ .vmem, ⟨22, _⟩ => ⟨S1x1x2048, .f32⟩
  | .local _ .vmem, ⟨23, _⟩ => ⟨S1x1x2048, .f32⟩
  | .local _ .vmem, ⟨24, _⟩ => ⟨S512x2048, .f32⟩
  | .local _ .vmem, ⟨25, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S2x4096x2048 : Shape := ⟨3, ![2, 4096, 2048]⟩
abbrev S2x2x12288 : Shape := ⟨3, ![2, 2, 12288]⟩
abbrev S8192x768 : Shape := ⟨2, ![8192, 768]⟩
abbrev S2x4096x768 : Shape := ⟨3, ![2, 4096, 768]⟩
abbrev S2x4096x128 : Shape := ⟨3, ![2, 4096, 128]⟩
abbrev S2x1024x3072 : Shape := ⟨3, ![2, 1024, 3072]⟩
abbrev S2x1024x512 : Shape := ⟨3, ![2, 1024, 512]⟩
abbrev S2x256x12288 : Shape := ⟨3, ![2, 256, 12288]⟩
abbrev S2x256x2048 : Shape := ⟨3, ![2, 256, 2048]⟩
abbrev S2x4096x512 : Shape := ⟨3, ![2, 4096, 512]⟩
abbrev S2x768 : Shape := ⟨2, ![2, 768]⟩
abbrev S2x512 : Shape := ⟨2, ![2, 512]⟩
abbrev S2x2048x2048 : Shape := ⟨3, ![2, 2048, 2048]⟩
abbrev S1x2x12288 : Shape := ⟨3, ![1, 2, 12288]⟩
abbrev S2x12288 : Shape := ⟨2, ![2, 12288]⟩
abbrev S2x2048 : Shape := ⟨2, ![2, 2048]⟩
abbrev S2x1x2048 : Shape := ⟨3, ![2, 1, 2048]⟩
abbrev S2x4096x6 : Shape := ⟨3, ![2, 4096, 6]⟩
abbrev S1x2x4096x6 : Shape := ⟨4, ![1, 2, 4096, 6]⟩
abbrev S3x2x4096x6 : Shape := ⟨4, ![3, 2, 4096, 6]⟩
abbrev S2x4096x6x128 : Shape := ⟨4, ![2, 4096, 6, 128]⟩
abbrev S1x2x4096x6x128 : Shape := ⟨5, ![1, 2, 4096, 6, 128]⟩
abbrev S3x2x4096x6x128 : Shape := ⟨5, ![3, 2, 4096, 6, 128]⟩
abbrev S_ : Shape := ⟨0, ![]⟩
abbrev S3x2x4096x6x1 : Shape := ⟨5, ![3, 2, 4096, 6, 1]⟩
abbrev S1x768 : Shape := ⟨2, ![1, 768]⟩
abbrev S768 : Shape := ⟨1, ![768]⟩
abbrev S2x4096 : Shape := ⟨2, ![2, 4096]⟩
abbrev S2x4096x1 : Shape := ⟨3, ![2, 4096, 1]⟩
abbrev S1x1x768 : Shape := ⟨3, ![1, 1, 768]⟩
abbrev S1x512 : Shape := ⟨2, ![1, 512]⟩
abbrev S512 : Shape := ⟨1, ![512]⟩
abbrev S1x1x512 : Shape := ⟨3, ![1, 1, 512]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 132
  | .vmem => 0
  | .smem => 0
  | _ => 0

abbrev hbmTy0_0 (i : Nat) : BufTy := match i % 128 with
  | 0 => ⟨S2x4096x2048, .f32⟩
  | 1 => ⟨S2x2x12288, .f32⟩
  | 2 => ⟨S8192x768, .bf16⟩
  | 3 => ⟨S2x4096x768, .bf16⟩
  | 4 => ⟨S2x4096x128, .f32⟩
  | 5 => ⟨S2x1024x3072, .bf16⟩
  | 6 => ⟨S2x1024x512, .f32⟩
  | 7 => ⟨S2x256x12288, .bf16⟩
  | 8 => ⟨S2x256x2048, .f32⟩
  | 9 => ⟨S2x4096x512, .bf16⟩
  | 10 => ⟨S2x768, .f32⟩
  | 11 => ⟨S2x768, .f32⟩
  | 12 => ⟨S2x512, .f32⟩
  | 13 => ⟨S2x2048x2048, .f32⟩
  | 14 => ⟨S1x2x12288, .f32⟩
  | 15 => ⟨S2x12288, .f32⟩
  | 16 => ⟨S2x2048, .f32⟩
  | 17 => ⟨S2x2048, .f32⟩
  | 18 => ⟨S2x2048, .f32⟩
  | 19 => ⟨S2x2048, .f32⟩
  | 20 => ⟨S2x2048, .f32⟩
  | 21 => ⟨S2x2048, .f32⟩
  | 22 => ⟨S2x1x2048, .f32⟩
  | 23 => ⟨S2x1x2048, .f32⟩
  | 24 => ⟨S2x1x2048, .f32⟩
  | 25 => ⟨S2x1x2048, .f32⟩
  | 26 => ⟨S2x1x2048, .f32⟩
  | 27 => ⟨S2x1x2048, .f32⟩
  | 28 => ⟨S2x4096x6, .f32⟩
  | 29 => ⟨S2x4096x128, .f32⟩
  | 30 => ⟨S2x4096x6, .f32⟩
  | 31 => ⟨S2x4096x128, .f32⟩
  | 32 => ⟨S2x4096x6, .f32⟩
  | 33 => ⟨S1x2x4096x6, .f32⟩
  | 34 => ⟨S1x2x4096x6, .f32⟩
  | 35 => ⟨S1x2x4096x6, .f32⟩
  | 36 => ⟨S3x2x4096x6, .f32⟩
  | 37 => ⟨S2x4096x768, .f32⟩
  | 38 => ⟨S2x4096x6x128, .f32⟩
  | 39 => ⟨S2x1024x3072, .f32⟩
  | 40 => ⟨S2x4096x6x128, .f32⟩
  | 41 => ⟨S2x256x12288, .f32⟩
  | 42 => ⟨S2x4096x6x128, .f32⟩
  | 43 => ⟨S1x2x4096x6x128, .f32⟩
  | 44 => ⟨S1x2x4096x6x128, .f32⟩
  | 45 => ⟨S1x2x4096x6x128, .f32⟩
  | 46 => ⟨S3x2x4096x6x128, .f32⟩
  | 47 => ⟨S_, .f32⟩
  | 48 => ⟨S2x4096x6, .f32⟩
  | 49 => ⟨S_, .f32⟩
  | 50 => ⟨S2x4096x6, .f32⟩
  | 51 => ⟨S2x4096x6, .f32⟩
  | 52 => ⟨S1x2x4096x6, .f32⟩
  | 53 => ⟨S3x2x4096x6, .f32⟩
  | 54 => ⟨S3x2x4096x6, .f32⟩
  | 55 => ⟨S3x2x4096x6, .f32⟩
  | 56 => ⟨S_, .f32⟩
  | 57 => ⟨S2x4096x6, .f32⟩
  | 58 => ⟨S1x2x4096x6, .f32⟩
  | 59 => ⟨S3x2x4096x6, .f32⟩
  | 60 => ⟨S3x2x4096x6, .f32⟩
  | 61 => ⟨S3x2x4096x6x1, .f32⟩
  | 62 => ⟨S3x2x4096x6x128, .f32⟩
  | 63 => ⟨S3x2x4096x6x128, .f32⟩
  | 64 => ⟨S_, .f32⟩
  | 65 => ⟨S2x4096x6x128, .f32⟩
  | 66 => ⟨S2x4096x768, .f32⟩
  | 67 => ⟨S8192x768, .f32⟩
  | 68 => ⟨S2x4096x768, .f32⟩
  | 69 => ⟨S1x768, .f32⟩
  | 70 => ⟨S768, .f32⟩
  | 71 => ⟨S2x4096x768, .f32⟩
  | 72 => ⟨S_, .f32⟩
  | 73 => ⟨S2x4096, .f32⟩
  | 74 => ⟨S2x4096x1, .f32⟩
  | 75 => ⟨S_, .f32⟩
  | 76 => ⟨S2x4096x1, .f32⟩
  | 77 => ⟨S2x4096x1, .f32⟩
  | 78 => ⟨S_, .f32⟩
  | 79 => ⟨S2x4096x1, .f32⟩
  | 80 => ⟨S2x4096x1, .f32⟩
  | 81 => ⟨S2x4096x1, .f32⟩
  | 82 => ⟨S2x4096x768, .f32⟩
  | 83 => ⟨S2x4096x768, .f32⟩
  | 84 => ⟨S1x1x768, .f32⟩
  | 85 => ⟨S2x4096x768, .f32⟩
  | 86 => ⟨S2x4096x768, .f32⟩
  | 87 => ⟨S1x768, .f32⟩
  | 88 => ⟨S768, .f32⟩
  | 89 => ⟨S2x4096x768, .f32⟩
  | 90 => ⟨S_, .f32⟩
  | 91 => ⟨S2x4096, .f32⟩
  | 92 => ⟨S2x4096x1, .f32⟩
  | 93 => ⟨S_, .f32⟩
  | 94 => ⟨S2x4096x1, .f32⟩
  | 95 => ⟨S2x4096x1, .f32⟩
  | 96 => ⟨S_, .f32⟩
  | 97 => ⟨S2x4096x1, .f32⟩
  | 98 => ⟨S2x4096x1, .f32⟩
  | 99 => ⟨S2x4096x1, .f32⟩
  | 100 => ⟨S2x4096x768, .f32⟩
  | 101 => ⟨S2x4096x768, .f32⟩
  | 102 => ⟨S1x1x768, .f32⟩
  | 103 => ⟨S2x4096x768, .f32⟩
  | 104 => ⟨S2x4096x768, .f32⟩
  | 105 => ⟨S2x4096x512, .f32⟩
  | 106 => ⟨S1x512, .f32⟩
  | 107 => ⟨S512, .f32⟩
  | 108 => ⟨S2x4096x512, .f32⟩
  | 109 => ⟨S_, .f32⟩
  | 110 => ⟨S2x4096, .f32⟩
  | 111 => ⟨S2x4096x1, .f32⟩
  | 112 => ⟨S_, .f32⟩
  | 113 => ⟨S2x4096x1, .f32⟩
  | 114 => ⟨S2x4096x1, .f32⟩
  | 115 => ⟨S_, .f32⟩
  | 116 => ⟨S2x4096x1, .f32⟩
  | 117 => ⟨S2x4096x1, .f32⟩
  | 118 => ⟨S2x4096x1, .f32⟩
  | 119 => ⟨S2x4096x512, .f32⟩
  | 120 => ⟨S2x4096x512, .f32⟩
  | 121 => ⟨S1x1x512, .f32⟩
  | 122 => ⟨S2x4096x512, .f32⟩
  | 123 => ⟨S2x4096x512, .f32⟩
  | 124 => ⟨S2x4096x2048, .f32⟩
  | 125 => ⟨S1x2048x2048, .f32⟩
  | 126 => ⟨S2048x2048, .f32⟩
  | 127 => ⟨S2x4096x2048, .f32⟩
  | _ => ⟨S2x4096x2048, .f32⟩

abbrev hbmTy0_1 (i : Nat) : BufTy := match i % 128 with
  | 0 => ⟨S2x4096x2048, .f32⟩
  | 1 => ⟨S2x4096x2048, .f32⟩
  | 2 => ⟨S2x4096x2048, .f32⟩
  | 3 => ⟨S8192x2048, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_cst_0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_2 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_3 : Ref sig .tc := ⟨.hbm, 72, rfl⟩
abbrev main_v54 : Ref sig .tc := ⟨.hbm, 73, rfl⟩
abbrev main_v55 : Ref sig .tc := ⟨.hbm, 74, rfl⟩
abbrev main_cst_4 : Ref sig .tc := ⟨.hbm, 75, rfl⟩
abbrev main_v56 : Ref sig .tc := ⟨.hbm, 76, rfl⟩
abbrev main_v57 : Ref sig .tc := ⟨.hbm, 77, rfl⟩
abbrev main_cst_5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_9 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩

abbrev nD : Nat := 1
abbrev τ : Topo := Topo.v7x

variable {F : FTy → Type} [FloatOps F]
-- ==== Kernel4.lean ====
abbrev S2x4096x2048 : Shape := ⟨3, ![2, 4096, 2048]⟩
abbrev S2x2x12288 : Shape := ⟨3, ![2, 2, 12288]⟩
abbrev S2x2048 : Shape := ⟨2, ![2, 2048]⟩
abbrev S2x2048x2048 : Shape := ⟨3, ![2, 2048, 2048]⟩
abbrev S2x8x2x128x128 : Shape := ⟨5, ![2, 8, 2, 128, 128]⟩
abbrev S1x2x2048 : Shape := ⟨3, ![1, 2, 2048]⟩
abbrev S2x1x2048 : Shape := ⟨3, ![2, 1, 2048]⟩
abbrev S8192x2048 : Shape := ⟨2, ![8192, 2048]⟩
abbrev S1x2048 : Shape := ⟨2, ![1, 2048]⟩
abbrev S2048 : Shape := ⟨1, ![2048]⟩
abbrev S2x16x128x128 : Shape := ⟨4, ![2, 16, 128, 128]⟩
abbrev S16x128x8192 : Shape := ⟨3, ![16, 128, 8192]⟩
abbrev S128x8x8192 : Shape := ⟨3, ![128, 8, 8192]⟩
abbrev S512x2048 : Shape := ⟨2, ![512, 2048]⟩
abbrev S1x1x2048 : Shape := ⟨3, ![1, 1, 2048]⟩
abbrev S1x2048x2048 : Shape := ⟨3, ![1, 2048, 2048]⟩
abbrev S1x16x128x128 : Shape := ⟨4, ![1, 16, 128, 128]⟩
abbrev S16x128x512 : Shape := ⟨3, ![16, 128, 512]⟩
abbrev S128x8x512 : Shape := ⟨3, ![128, 8, 512]⟩
abbrev S512 : Shape := ⟨1, ![512]⟩
abbrev S512x1 : Shape := ⟨2, ![512, 1]⟩
abbrev S2048x2048 : Shape := ⟨2, ![2048, 2048]⟩
abbrev S512x128 : Shape := ⟨2, ![512, 128]⟩
abbrev S1x1x128x128 : Shape := ⟨4, ![1, 1, 128, 128]⟩
abbrev S128x128 : Shape := ⟨2, ![128, 128]⟩
abbrev S128x512 : Shape := ⟨2, ![128, 512]⟩
abbrev S1x128x512 : Shape := ⟨3, ![1, 128, 512]⟩
abbrev S128x1x512 : Shape := ⟨3, ![128, 1, 512]⟩

abbrev nBuf : Space → Nat
  | .hbm => 33
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x2x12288, .f32⟩
  | .hbm, ⟨2, _⟩ => ⟨S2x2048, .f32⟩
  | .hbm, ⟨3, _⟩ => ⟨S2x2048x2048, .f32⟩
  | .hbm, ⟨4, _⟩ => ⟨S2x8x2x128x128, .f32⟩
  | .hbm, ⟨5, _⟩ => ⟨S1x2x2048, .f32⟩
  | .hbm, ⟨6, _⟩ => ⟨S2x2048, .f32⟩
  | .hbm, ⟨7, _⟩ => ⟨S2x1x2048, .f32⟩
  | .hbm, ⟨8, _⟩ => ⟨S1x2x2048, .f32⟩
  | .hbm, ⟨9, _⟩ => ⟨S2x2048, .f32⟩
  | .hbm, ⟨10, _⟩ => ⟨S2x1x2048, .f32⟩
  | .hbm, ⟨11, _⟩ => ⟨S1x2x2048, .f32⟩
  | .hbm, ⟨12, _⟩ => ⟨S2x2048, .f32⟩
  | .hbm, ⟨13, _⟩ => ⟨S2x1x2048, .f32⟩
  | .hbm, ⟨14, _⟩ => ⟨S1x2x2048, .f32⟩
  | .hbm, ⟨15, _⟩ => ⟨S2x2048, .f32⟩
  | .hbm, ⟨16, _⟩ => ⟨S2x1x2048, .f32⟩
  | .hbm, ⟨17, _⟩ => ⟨S1x2x2048, .f32⟩
  | .hbm, ⟨18, _⟩ => ⟨S2x2048, .f32⟩
  | .hbm, ⟨19, _⟩ => ⟨S2x1x2048, .f32⟩
  | .hbm, ⟨20, _⟩ => ⟨S1x2x2048, .f32⟩
  | .hbm, ⟨21, _⟩ => ⟨S2x2048, .f32⟩
  | .hbm, ⟨22, _⟩ => ⟨S2x1x2048, .f32⟩
  | .hbm, ⟨23, _⟩ => ⟨S8192x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S2x2048x2048, .bf16⟩
  | .hbm, ⟨28, _⟩ => ⟨S2x16x128x128, .f32⟩
  | .hbm, ⟨29, _⟩ => ⟨S2x16x128x128, .bf16⟩
  | .hbm, ⟨30, _⟩ => ⟨S8192x2048, .bf16⟩
  | .hbm, ⟨31, _⟩ => ⟨S16x128x8192, .f32⟩
  | .hbm, ⟨32, _⟩ => ⟨S128x8x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x2048, .bf16⟩
  | .local _ .vmem, ⟨8, _⟩ => ⟨S1x16x128x128, .bf16⟩
  | .local _ .vmem, ⟨9, _⟩ => ⟨S512x2048, .bf16⟩
  | .local _ .vmem, ⟨10, _⟩ => ⟨S512x2048, .bf16⟩
  | .local _ .vmem, ⟨11, _⟩ => ⟨S16x128x512, .f32⟩
  | .local _ .vmem, ⟨12, _⟩ => ⟨S16x128x512, .f32⟩
  | .local _ .vmem, ⟨13, _⟩ => ⟨S128x8x512, .f32⟩
  | .local _ .vmem, ⟨14, _⟩ => ⟨S128x8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x4096x2048 : Shape := ⟨3, ![2, 4096, 2048]⟩
abbrev S2x2x12288 : Shape := ⟨3, ![2, 2, 12288]⟩
abbrev S2x2048 : Shape := ⟨2, ![2, 2048]⟩
abbrev S2x2048x2048 : Shape := ⟨3, ![2, 2048, 2048]⟩
abbrev S2x8x2x128x128 : Shape := ⟨5, ![2, 8, 2, 128, 128]⟩
abbrev S1x2x12288 : Shape := ⟨3, ![1, 2, 12288]⟩
abbrev S2x12288 : Shape := ⟨2, ![2, 12288]⟩
abbrev S2x1x2048 : Shape := ⟨3, ![2, 1, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S1x2048x2048 : Shape := ⟨3, ![1, 2048, 2048]⟩
abbrev S2048x2048 : Shape := ⟨2, ![2048, 2048]⟩
abbrev S8192x8x2x128 : Shape := ⟨4, ![8192, 8, 2, 128]⟩
abbrev S1x8x2x128x128 : Shape := ⟨5, ![1, 8, 2, 128, 128]⟩
abbrev S8x2x128x128 : Shape := ⟨4, ![8, 2, 128, 128]⟩
abbrev S8x2x128x8192 : Shape := ⟨4, ![8, 2, 128, 8192]⟩
abbrev S16x128x8192 : Shape := ⟨3, ![16, 128, 8192]⟩
abbrev S8192x8x1x128 : Shape := ⟨4, ![8192, 8, 1, 128]⟩
abbrev S8192x8x128 : Shape := ⟨3, ![8192, 8, 128]⟩
abbrev S128x8x8192 : Shape := ⟨3, ![128, 8, 8192]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2x12288, .f32⟩
  | .hbm, ⟨2, _⟩ => ⟨S2x2048, .f32⟩
  | .hbm, ⟨3, _⟩ => ⟨S2x2048x2048, .f32⟩
  | .hbm, ⟨4, _⟩ => ⟨S2x8x2x128x128, .f32⟩
  | .hbm, ⟨5, _⟩ => ⟨S1x2x12288, .f32⟩
  | .hbm, ⟨6, _⟩ => ⟨S2x12288, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S1x2048, .f32⟩
  | .hbm, ⟨20, _⟩ => ⟨S2048, .f32⟩
  | .hbm, ⟨21, _⟩ => ⟨S2x4096x2048, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x2048, .f32⟩
  | .hbm, ⟨33, _⟩ => ⟨S2x4096x2048, .f32⟩
  | .hbm, ⟨34, _⟩ => ⟨S1x1x2048, .f32⟩
  | .hbm, ⟨35, _⟩ => ⟨S2x4096x2048, .f32⟩
  | .hbm, ⟨36, _⟩ => ⟨S2x4096x2048, .f32⟩
  | .hbm, ⟨37, _⟩ => ⟨S_, .f32⟩
  | .hbm, ⟨38, _⟩ => ⟨S2x1x2048, .f32⟩
  | .hbm, ⟨39, _⟩ => ⟨S2x1x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S8192x2048, .f32⟩
  | .hbm, ⟨45, _⟩ => ⟨S1x2048x2048, .f32⟩
  | .hbm, ⟨46, _⟩ => ⟨S2048x2048, .f32⟩
  | .hbm, ⟨47, _⟩ => ⟨S8192x2048, .f32⟩
  | .hbm, ⟨48, _⟩ => ⟨S8192x8x2x128, .f32⟩
  | .hbm, ⟨49, _⟩ => ⟨S1x8x2x128x128, .f32⟩
  | .hbm, ⟨50, _⟩ => ⟨S8x2x128x128, .f32⟩
  | .hbm, ⟨51, _⟩ => ⟨S8x2x128x8192, .f32⟩
  | .hbm, ⟨52, _⟩ => ⟨S8192x8x2x128, .f32⟩
  | .hbm, ⟨53, _⟩ => ⟨S8192x2048, .bf16⟩
  | .hbm, ⟨54, _⟩ => ⟨S8x2x128x8192, .f32⟩
  | .hbm, ⟨55, _⟩ => ⟨S16x128x8192, .f32⟩
  | .hbm, ⟨56, _⟩ => ⟨S8192x8x1x128, .f32⟩
  | .hbm, ⟨57, _⟩ => ⟨S8192x8x128, .f32⟩
  | .hbm, ⟨58, _⟩ => ⟨S128x8x8192, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel5.lean ====
abbrev S2x4096x2048 : Shape := ⟨3, ![2, 4096, 2048]⟩
abbrev S2x2x12288 : Shape := ⟨3, ![2, 2, 12288]⟩
abbrev S8192x2048 : Shape := ⟨2, ![8192, 2048]⟩
abbrev S16x128x8192 : Shape := ⟨3, ![16, 128, 8192]⟩
abbrev S8x8192 : Shape := ⟨2, ![8, 8192]⟩
abbrev S2x16384x2048 : Shape := ⟨3, ![2, 16384, 2048]⟩
abbrev S2048 : Shape := ⟨1, ![2048]⟩
abbrev S1x2x2048 : Shape := ⟨3, ![1, 2, 2048]⟩
abbrev S2x2048 : Shape := ⟨2, ![2, 2048]⟩
abbrev S2x1x2048 : Shape := ⟨3, ![2, 1, 2048]⟩
abbrev S1x16384x2048 : Shape := ⟨3, ![1, 16384, 2048]⟩
abbrev S16384x2048 : Shape := ⟨2, ![16384, 2048]⟩
abbrev S2048x16384 : Shape := ⟨2, ![2048, 16384]⟩
abbrev S1x2048 : Shape := ⟨2, ![1, 2048]⟩
abbrev S8x2x128x8192 : Shape := ⟨4, ![8, 2, 128, 8192]⟩
abbrev S512x2048 : Shape := ⟨2, ![512, 2048]⟩
abbrev S8x1x128x512 : Shape := ⟨4, ![8, 1, 128, 512]⟩
abbrev S8x512 : Shape := ⟨2, ![8, 512]⟩
abbrev S2048x512 : Shape := ⟨2, ![2048, 512]⟩
abbrev S1x1x2048 : Shape := ⟨3, ![1, 1, 2048]⟩
abbrev S8x128x512 : Shape := ⟨3, ![8, 128, 512]⟩
abbrev S512x512 : Shape := ⟨2, ![512, 512]⟩
abbrev S1x1x128x512 : Shape := ⟨4, ![1, 1, 128, 512]⟩
abbrev S128x512 : Shape := ⟨2, ![128, 512]⟩
abbrev S1x512 : Shape := ⟨2, ![1, 512]⟩
abbrev S1x128x512 : Shape := ⟨3, ![1, 128, 512]⟩
abbrev S1x1x512 : Shape := ⟨3, ![1, 1, 512]⟩
abbrev S512 : Shape := ⟨1, ![512]⟩
abbrev S512x1 : Shape := ⟨2, ![512, 1]⟩

abbrev nBuf : Space → Nat
  | .hbm => 40
  | .vmem => 30
  | .smem => 0
  | _ => 0

abbrev bufTy : (tb : Table) → Fin (tcTables nBuf tb) → BufTy
  | .hbm, ⟨0, _⟩ => ⟨S2x4096x2048, .f32⟩
  | .hbm, ⟨1, _⟩ => ⟨S2x2x12288, .f32⟩
  | .hbm, ⟨2, _⟩ => ⟨S8192x2048, .bf16⟩
  | .hbm, ⟨3, _⟩ => ⟨S16x128x8192, .f32⟩
  | .hbm, ⟨4, _⟩ => ⟨S8x8192, .f32⟩
  | .hbm, ⟨5, _⟩ => ⟨S8x8192, .f32⟩
  | .hbm, ⟨6, _⟩ => ⟨S8x8192, .f32⟩
  | .hbm, ⟨7, _⟩ => ⟨S8x8192, .f32⟩
  | .hbm, ⟨8, _⟩ => ⟨S2x16384x2048, .f32⟩
  | .hbm, ⟨9, _⟩ => ⟨S2x16384x2048, .f32⟩
  | .hbm, ⟨10, _⟩ => ⟨S2048, .f32⟩
  | .hbm, ⟨11, _⟩ => ⟨S1x2x2048, .f32⟩
  | .hbm, ⟨12, _⟩ => ⟨S2x2048, .f32⟩
  | .hbm, ⟨13, _⟩ => ⟨S2x1x2048, .f32⟩
  | .hbm, ⟨14, _⟩ => ⟨S1x2x2048, .f32⟩
  | .hbm, ⟨15, _⟩ => ⟨S2x2048, .f32⟩
  | .hbm, ⟨16, _⟩ => ⟨S2x1x2048, .f32⟩
  | .hbm, ⟨17, _⟩ => ⟨S1x2x2048, .f32⟩
  | .hbm, ⟨18, _⟩ => ⟨S2x2048, .f32⟩
  | .hbm, ⟨19, _⟩ => ⟨S2x1x2048, .f32⟩
  | .hbm, ⟨20, _⟩ => ⟨S1x2x2048, .f32⟩
  | .hbm, ⟨21, _⟩ => ⟨S2x2048, .f32⟩
  | .hbm, ⟨22, _⟩ => ⟨S2x1x2048, .f32⟩
  | .hbm, ⟨23, _⟩ => ⟨S1x2x2048, .f32⟩
  | .hbm, ⟨24, _⟩ => ⟨S2x2048, .f32⟩
  | .hbm, ⟨25, _⟩ => ⟨S2x1x2048, .f32⟩
  | .hbm, ⟨26, _⟩ => ⟨S1x2x2048, .f32⟩
  | .hbm, ⟨27, _⟩ => ⟨S2x2048, .f32⟩
  | .hbm, ⟨28, _⟩ => ⟨S2x1x2048, .f32⟩
  | .hbm, ⟨29, _⟩ => ⟨S1x16384x2048, .f32⟩
  | .hbm, ⟨30, _⟩ => ⟨S16384x2048, .f32⟩
  | .hbm, ⟨31, _⟩ => ⟨S16384x2048, .bf16⟩
  | .hbm, ⟨32, _⟩ => ⟨S1x16384x2048, .f32⟩
  | .hbm, ⟨33, _⟩ => ⟨S16384x2048, .f32⟩
  | .hbm, ⟨34, _⟩ => ⟨S2048x16384, .f32⟩
  | .hbm, ⟨35, _⟩ => ⟨S2048x16384, .bf16⟩
  | .hbm, ⟨36, _⟩ => ⟨S8192x2048, .f32⟩
  | .hbm, ⟨37, _⟩ => ⟨S1x2048, .f32⟩
  | .hbm, ⟨38, _⟩ => ⟨S8x2x128x8192, .f32⟩
  | .hbm, ⟨39, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S8x1x128x512, .f32⟩
  | .local _ .vmem, ⟨3, _⟩ => ⟨S8x1x128x512, .f32⟩
  | .local _ .vmem, ⟨4, _⟩ => ⟨S8x1x128x512, .f32⟩
  | .local _ .vmem, ⟨5, _⟩ => ⟨S8x1x128x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S512x2048, .bf16⟩
  | .local _ .vmem, ⟨15, _⟩ => ⟨S512x2048, .bf16⟩
  | .local _ .vmem, ⟨16, _⟩ => ⟨S2048x512, .bf16⟩
  | .local _ .vmem, ⟨17, _⟩ => ⟨S2048x512, .bf16⟩
  | .local _ .vmem, ⟨18, _⟩ => ⟨S512x2048, .f32⟩
  | .local _ .vmem, ⟨19, _⟩ => ⟨S512x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | .local _ .vmem, ⟨25, _⟩ => ⟨S8x128x512, .f32⟩
  | .local _ .vmem, ⟨26, _⟩ => ⟨S8x128x512, .f32⟩
  | .local _ .vmem, ⟨27, _⟩ => ⟨S8x128x512, .f32⟩
  | .local _ .vmem, ⟨28, _⟩ => ⟨S512x512, .bf16⟩
  | .local _ .vmem, ⟨29, _⟩ => ⟨S2048x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 32], ![false, false]⟩

def k0_off1 (i : grid0.Coords) (c0_i32_4 : BitVec 32) : Fin 3 → Nat :=
  let c0_6 : Index := 0#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v10 : Index := Scalar.indexCast v8
  let c0_7 : Index := 0#32
  ![0, v10.toNat, 0]
def k0_off2 (i : grid0.Coords) (c0_i32_4 : BitVec 32) : Fin 3 → Nat :=
  let c1 : Index := 1#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v27 : Index := Scalar.indexCast v8
  let c0_18 : Index := 0#32
  ![1, v27.toNat, 0]
def k0_off3 (i : grid0.Coords) (c0_i32_4 : BitVec 32) : Fin 3 → Nat :=
  let c2 : Index := 2#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v44 : Index := Scalar.indexCast v8
  let c0_29 : Index := 0#32
  ![2, v44.toNat, 0]
def k0_off4 (i : grid0.Coords) (c0_i32_4 : BitVec 32) : Fin 3 → Nat :=
  let c3 : Index := 3#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v61 : Index := Scalar.indexCast v8
  let c0_40 : Index := 0#32
  ![3, v61.toNat, 0]
def k0_off5 (i : grid0.Coords) (c0_i32_4 : BitVec 32) : Fin 3 → Nat :=
  let c4 : Index := 4#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v78 : Index := Scalar.indexCast v8
  let c0_51 : Index := 0#32
  ![4, v78.toNat, 0]
def k0_off6 (i : grid0.Coords) (c0_i32_4 : BitVec 32) : Fin 3 → Nat :=
  let c5 : Index := 5#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v95 : Index := Scalar.indexCast v8
  let c0_62 : Index := 0#32
  ![5, v95.toNat, 0]
def k0_off7 (i : grid0.Coords) (c0_i32_4 : BitVec 32) : Fin 3 → Nat :=
  let c6 : Index := 6#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v112 : Index := Scalar.indexCast v8
  let c0_73 : Index := 0#32
  ![6, v112.toNat, 0]
def k0_off8 (i : grid0.Coords) (c0_i32_4 : BitVec 32) : Fin 3 → Nat :=
  let c7 : Index := 7#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v129 : Index := Scalar.indexCast v8
  let c0_84 : Index := 0#32
  ![7, v129.toNat, 0]
def k0_cond2 (i : grid0.Coords) : BitVec 1 :=
  let arg1 : BitVec 32 := BitVec.ofNat 32 (i 1).val
  let c31_i32 : BitVec 32 := 31#32
  let v648 : BitVec 1 := Scalar.cmpi .eq arg1 c31_i32
  let v649 : BitVec 32 := Scalar.extui v648
  let c0_i32_419 : BitVec 32 := 0#32
  let v650 : BitVec 1 := Scalar.cmpi .ne v649 c0_i32_419
  v650

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference5Ideal.lean ====
abbrev S2x4096x2048 : Shape := ⟨3, ![2, 4096, 2048]⟩
abbrev S2x2x12288 : Shape := ⟨3, ![2, 2, 12288]⟩
abbrev S8192x2048 : Shape := ⟨2, ![8192, 2048]⟩
abbrev S16x128x8192 : Shape := ⟨3, ![16, 128, 8192]⟩
abbrev S8x8192 : Shape := ⟨2, ![8, 8192]⟩
abbrev S2x16384x2048 : Shape := ⟨3, ![2, 16384, 2048]⟩
abbrev S2048 : Shape := ⟨1, ![2048]⟩
abbrev S1x2x2048 : Shape := ⟨3, ![1, 2, 2048]⟩
abbrev S2x2048 : Shape := ⟨2, ![2, 2048]⟩
abbrev S2x1x2048 : Shape := ⟨3, ![2, 1, 2048]⟩
abbrev S8x2x128x8192 : Shape := ⟨4, ![8, 2, 128, 8192]⟩
abbrev S8192x8x2x128 : Shape := ⟨4, ![8192, 8, 2, 128]⟩
abbrev S8192x8x1x128 : Shape := ⟨4, ![8192, 8, 1, 128]⟩
abbrev S8192x8x128 : Shape := ⟨3, ![8192, 8, 128]⟩
abbrev S8192x8x128x1 : Shape := ⟨4, ![8192, 8, 128, 1]⟩
abbrev S8192x8x128x128 : Shape := ⟨4, ![8192, 8, 128, 128]⟩
abbrev S8192x8 : Shape := ⟨2, ![8192, 8]⟩
abbrev S8192x8x1x1 : Shape := ⟨4, ![8192, 8, 1, 1]⟩
abbrev S_ : Shape := ⟨0, ![]⟩
abbrev S8192x128x128 : Shape := ⟨3, ![8192, 128, 128]⟩
abbrev S8192x16384 : Shape := ⟨2, ![8192, 16384]⟩
abbrev S1x16384x2048 : Shape := ⟨3, ![1, 16384, 2048]⟩
abbrev S16384x2048 : Shape := ⟨2, ![16384, 2048]⟩
abbrev S2048x16384 : Shape := ⟨2, ![2048, 16384]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2x12288, .f32⟩
  | .hbm, ⟨2, _⟩ => ⟨S8192x2048, .bf16⟩
  | .hbm, ⟨3, _⟩ => ⟨S16x128x8192, .f32⟩
  | .hbm, ⟨4, _⟩ => ⟨S8x8192, .f32⟩
  | .hbm, ⟨5, _⟩ => ⟨S8x8192, .f32⟩
  | .hbm, ⟨6, _⟩ => ⟨S8x8192, .f32⟩
  | .hbm, ⟨7, _⟩ => ⟨S8x8192, .f32⟩
  | .hbm, ⟨8, _⟩ => ⟨S2x16384x2048, .f32⟩
  | .hbm, ⟨9, _⟩ => ⟨S2x16384x2048, .f32⟩
  | .hbm, ⟨10, _⟩ => ⟨S2048, .f32⟩
  | .hbm, ⟨11, _⟩ => ⟨S1x2x2048, .f32⟩
  | .hbm, ⟨12, _⟩ => ⟨S2x2048, .f32⟩
  | .hbm, ⟨13, _⟩ => ⟨S2x1x2048, .f32⟩
  | .hbm, ⟨14, _⟩ => ⟨S8x2x128x8192, .f32⟩
  | .hbm, ⟨15, _⟩ => ⟨S8192x8x2x128, .f32⟩
  | .hbm, ⟨16, _⟩ => ⟨S8192x8x1x128, .f32⟩
  | .hbm, ⟨17, _⟩ => ⟨S8192x8x128, .f32⟩
  | .hbm, ⟨18, _⟩ => ⟨S8192x8x128x1, .f32⟩
  | .hbm, ⟨19, _⟩ => ⟨S8192x8x1x128, .f32⟩
  | .hbm, ⟨20, _⟩ => ⟨S8192x8x128, .f32⟩
  | .hbm, ⟨21, _⟩ => ⟨S8192x8x1x128, .f32⟩
  | .hbm, ⟨22, _⟩ => ⟨S8192x8x128x128, .f32⟩
  | .hbm, ⟨23, _⟩ => ⟨S8192x8x128x128, .f32⟩
  | .hbm, ⟨24, _⟩ => ⟨S8192x8x128x128, .f32⟩
  | .hbm, ⟨25, _⟩ => ⟨S8192x8, .f32⟩
  | .hbm, ⟨26, _⟩ => ⟨S8192x8x1x1, .f32⟩
  | .hbm, ⟨27, _⟩ => ⟨S8192x8x128x128, .f32⟩
  | .hbm, ⟨28, _⟩ => ⟨S8192x8x128x128, .i1⟩
  | .hbm, ⟨29, _⟩ => ⟨S8x8192, .f32⟩
  | .hbm, ⟨30, _⟩ => ⟨S8192x8, .f32⟩
  | .hbm, ⟨31, _⟩ => ⟨S8192x8x1x1, .f32⟩
  | .hbm, ⟨32, _⟩ => ⟨S8192x8x128x128, .f32⟩
  | .hbm, ⟨33, _⟩ => ⟨S8192x8x128x128, .f32⟩
  | .hbm, ⟨34, _⟩ => ⟨S8192x8x128x128, .f32⟩
  | .hbm, ⟨35, _⟩ => ⟨S8192x8, .f32⟩
  | .hbm, ⟨36, _⟩ => ⟨S8192x8x1x1, .f32⟩
  | .hbm, ⟨37, _⟩ => ⟨S8192x8x128x128, .f32⟩
  | .hbm, ⟨38, _⟩ => ⟨S8192x8x128x128, .f32⟩
  | .hbm, ⟨39, _⟩ => ⟨S_, .f32⟩
  | .hbm, ⟨40, _⟩ => ⟨S_, .f32⟩
  | .hbm, ⟨41, _⟩ => ⟨S8192x8x128x128, .f32⟩
  | .hbm, ⟨42, _⟩ => ⟨S8192x8x128x128, .f32⟩
  | .hbm, ⟨43, _⟩ => ⟨S_, .f32⟩
  | .hbm, ⟨44, _⟩ => ⟨S8192x128x128, .f32⟩
  | .hbm, ⟨45, _⟩ => ⟨S8192x16384, .f32⟩
  | .hbm, ⟨46, _⟩ => ⟨S8192x2048, .f32⟩
  | .hbm, ⟨47, _⟩ => ⟨S1x16384x2048, .f32⟩
  | .hbm, ⟨48, _⟩ => ⟨S16384x2048, .f32⟩
  | .hbm, ⟨49, _⟩ => ⟨S2048x16384, .f32⟩
  | .hbm, ⟨50, _⟩ => ⟨S8192x16384, .f32⟩
  | .hbm, ⟨51, _⟩ => ⟨S8192x16384, .f32⟩
  | .hbm, ⟨52, _⟩ => ⟨S8192x16384, .f32⟩
  | .hbm, ⟨53, _⟩ => ⟨S_, .f32⟩
  | .hbm, ⟨54, _⟩ => ⟨S8192x16384, .f32⟩
  | .hbm, ⟨55, _⟩ => ⟨S8192x16384, .f32⟩
  | .hbm, ⟨56, _⟩ => ⟨S8192x16384, .f32⟩
  | .hbm, ⟨57, _⟩ => ⟨S_, .f32⟩
  | .hbm, ⟨58, _⟩ => ⟨S8192x16384, .f32⟩
  | .hbm, ⟨59, _⟩ => ⟨S8192x16384, .f32⟩
  | .hbm, ⟨60, _⟩ => ⟨S8192x16384, .f32⟩
  | .hbm, ⟨61, _⟩ => ⟨S_, .f32⟩
  | .hbm, ⟨62, _⟩ => ⟨S8192x16384, .f32⟩
  | .hbm, ⟨63, _⟩ => ⟨S8192x16384, .f32⟩
  | .hbm, ⟨64, _⟩ => ⟨S_, .f32⟩
  | .hbm, ⟨65, _⟩ => ⟨S8192x16384, .f32⟩
  | .hbm, ⟨66, _⟩ => ⟨S8192x16384, .f32⟩
  | .hbm, ⟨67, _⟩ => ⟨S8192x16384, .f32⟩
  | .hbm, ⟨68, _⟩ => ⟨S8192x16384, .f32⟩
  | .hbm, ⟨69, _⟩ => ⟨S1x16384x2048, .f32⟩
  | .hbm, ⟨70, _⟩ => ⟨S16384x2048, .f32⟩
  | .hbm, ⟨71, _⟩ => ⟨S8192x2048, .f32⟩
  | .hbm, ⟨72, _⟩ => ⟨S2x4096x2048, .f32⟩
  | .hbm, ⟨73, _⟩ => ⟨S2x4096x2048, .f32⟩
  | .hbm, ⟨74, _⟩ => ⟨S2x4096x2048, .f32⟩
  | .hbm, ⟨75, _⟩ => ⟨S2x4096x2048, .f32⟩
  | .hbm, ⟨76, _⟩ => ⟨S2x4096x2048, .f32⟩
  | .hbm, ⟨77, _⟩ => ⟨S_, .f32⟩
  | .hbm, ⟨78, _⟩ => ⟨S2x4096, .f32⟩
  | .hbm, ⟨79, _⟩ => ⟨S2x4096x1, .f32⟩
  | .hbm, ⟨80, _⟩ => ⟨S_, .f32⟩
  | .hbm, ⟨81, _⟩ => ⟨S2x4096x1, .f32⟩
  | .hbm, ⟨82, _⟩ => ⟨S2x4096x1, .f32⟩
  | .hbm, ⟨83, _⟩ => ⟨S_, .f32⟩
  | .hbm, ⟨84, _⟩ => ⟨S2x4096x1, .f32⟩
  | .hbm, ⟨85, _⟩ => ⟨S2x4096x1, .f32⟩
  | .hbm, ⟨86, _⟩ => ⟨S2x4096x1, .f32⟩
  | .hbm, ⟨87, _⟩ => ⟨S2x4096x2048, .f32⟩
  | .hbm, ⟨88, _⟩ => ⟨S2x4096x2048, .f32⟩
  | .hbm, ⟨89, _⟩ => ⟨S1x1x2048, .f32⟩
  | .hbm, ⟨90, _⟩ => ⟨S2x4096x2048, .f32⟩
  | .hbm, ⟨91, _⟩ => ⟨S2x4096x2048, .f32⟩
  | .hbm, ⟨92, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_5 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel6.lean ====
abbrev S2x4096x5376 : Shape := ⟨3, ![2, 4096, 5376]⟩
abbrev S32x6 : Shape := ⟨2, ![32, 6]⟩
abbrev S383 : Shape := ⟨1, ![383]⟩
abbrev S2x4096x2304 : Shape := ⟨3, ![2, 4096, 2304]⟩
abbrev S2x1024x9216 : Shape := ⟨3, ![2, 1024, 9216]⟩
abbrev S_ : Shape := ⟨0, ![]⟩
abbrev S383x1 : Shape := ⟨2, ![383, 1]⟩
abbrev S383x6 : Shape := ⟨2, ![383, 6]⟩
abbrev S6x383 : Shape := ⟨2, ![6, 383]⟩
abbrev S1x6x1x383 : Shape := ⟨4, ![1, 6, 1, 383]⟩
abbrev S1x6x129x383 : Shape := ⟨4, ![1, 6, 129, 383]⟩
abbrev S6x49407 : Shape := ⟨2, ![6, 49407]⟩
abbrev S6x49152 : Shape := ⟨2, ![6, 49152]⟩
abbrev S6x128x384 : Shape := ⟨3, ![6, 128, 384]⟩
abbrev S6x128x256 : Shape := ⟨3, ![6, 128, 256]⟩
abbrev S2x1024x3072 : Shape := ⟨3, ![2, 1024, 3072]⟩
abbrev S2x1024x512 : Shape := ⟨3, ![2, 1024, 512]⟩
abbrev S1x512x768 : Shape := ⟨3, ![1, 512, 768]⟩
abbrev S1x128x768 : Shape := ⟨3, ![1, 128, 768]⟩
abbrev S1x512x128 : Shape := ⟨3, ![1, 512, 128]⟩
abbrev S640x768 : Shape := ⟨2, ![640, 768]⟩
abbrev S128x768 : Shape := ⟨2, ![128, 768]⟩
abbrev S512x768 : Shape := ⟨2, ![512, 768]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩

abbrev nBuf : Space → Nat
  | .hbm => 22
  | .vmem => 17
  | .smem => 0
  | _ => 0

abbrev bufTy : (tb : Table) → Fin (tcTables nBuf tb) → BufTy
  | .hbm, ⟨0, _⟩ => ⟨S2x4096x5376, .bf16⟩
  | .hbm, ⟨1, _⟩ => ⟨S32x6, .f32⟩
  | .hbm, ⟨2, _⟩ => ⟨S383, .i32⟩
  | .hbm, ⟨3, _⟩ => ⟨S383, .i1⟩
  | .hbm, ⟨4, _⟩ => ⟨S2x4096x2304, .bf16⟩
  | .hbm, ⟨5, _⟩ => ⟨S2x1024x9216, .bf16⟩
  | .hbm, ⟨6, _⟩ => ⟨S_, .i32⟩
  | .hbm, ⟨7, _⟩ => ⟨S383, .i32⟩
  | .hbm, ⟨8, _⟩ => ⟨S383, .i32⟩
  | .hbm, ⟨9, _⟩ => ⟨S383, .i32⟩
  | .hbm, ⟨10, _⟩ => ⟨S383x1, .i32⟩
  | .hbm, ⟨11, _⟩ => ⟨S383x6, .f32⟩
  | .hbm, ⟨12, _⟩ => ⟨S6x383, .f32⟩
  | .hbm, ⟨13, _⟩ => ⟨S1x6x1x383, .f32⟩
  | .hbm, ⟨14, _⟩ => ⟨S1x6x129x383, .f32⟩
  | .hbm, ⟨15, _⟩ => ⟨S6x49407, .f32⟩
  | .hbm, ⟨16, _⟩ => ⟨S6x49152, .f32⟩
  | .hbm, ⟨17, _⟩ => ⟨S6x128x384, .f32⟩
  | .hbm, ⟨18, _⟩ => ⟨S6x128x256, .f32⟩
  | .hbm, ⟨19, _⟩ => ⟨S6x128x256, .f32⟩
  | .hbm, ⟨20, _⟩ => ⟨S2x1024x3072, .bf16⟩
  | .hbm, ⟨21, _⟩ => ⟨S2x1024x512, .f32⟩
  | .local _ .vmem, ⟨0, _⟩ => ⟨S1x512x768, .bf16⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S1x128x768, .bf16⟩
  | .local _ .vmem, ⟨5, _⟩ => ⟨S1x128x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x128x768, .bf16⟩
  | .local _ .vmem, ⟨9, _⟩ => ⟨S1x128x768, .bf16⟩
  | .local _ .vmem, ⟨10, _⟩ => ⟨S6x128x256, .f32⟩
  | .local _ .vmem, ⟨11, _⟩ => ⟨S1x512x768, .bf16⟩
  | .local _ .vmem, ⟨12, _⟩ => ⟨S1x512x768, .bf16⟩
  | .local _ .vmem, ⟨13, _⟩ => ⟨S1x512x128, .f32⟩
  | .local _ .vmem, ⟨14, _⟩ => ⟨S1x512x128, .f32⟩
  | .local _ .vmem, ⟨15, _⟩ => ⟨S640x768, .bf16⟩
  | .local _ .vmem, ⟨16, _⟩ => ⟨S640x768, .bf16⟩
  | _, _ => ⟨S2x4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  ![arg0.toNat, arg2.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  ![arg0.toNat, arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg1
  let c0_i32_0 : BitVec 32 := 0#32
  let v4 : BitVec 32 := Scalar.addi c0_i32_0 v3
  let c1_i32_1 : BitVec 32 := 1#32
  let v5 : BitVec 32 := Scalar.addi v4 c1_i32_1
  let c0_i32_2 : BitVec 32 := 0#32
  ![arg0.toNat, v2.toNat, v5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  let v1 : BitVec 32 := Scalar.addi c0_i32 v0
  let c2_i32 : BitVec 32 := 2#32
  let v2 : BitVec 32 := Scalar.addi v1 c2_i32
  let c0_i32_0 : BitVec 32 := 0#32
  ![arg0.toNat, arg2.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg1
  let c0_i32_0 : BitVec 32 := 0#32
  let v4 : BitVec 32 := Scalar.addi c0_i32_0 v3
  let c2_i32 : BitVec 32 := 2#32
  let v5 : BitVec 32 := Scalar.addi v4 c2_i32
  let c0_i32_1 : BitVec 32 := 0#32
  ![arg0.toNat, v2.toNat, v5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S6x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel6Ideal.lean ====
variable {F : FTy → Type} [FloatOps F] [Named F]
def κ : String → Option EReal := fun
  | "neg_inf" => some ⊥
  | _ => none
-- ==== Reference6Ideal.lean ====
abbrev S2x4096x5376 : Shape := ⟨3, ![2, 4096, 5376]⟩
abbrev S32x6 : Shape := ⟨2, ![32, 6]⟩
abbrev S129 : Shape := ⟨1, ![129]⟩
abbrev S1x129 : Shape := ⟨2, ![1, 129]⟩
abbrev S2x4096x768 : Shape := ⟨3, ![2, 4096, 768]⟩
abbrev S2x4096x6x128 : Shape := ⟨4, ![2, 4096, 6, 128]⟩
abbrev S_ : Shape := ⟨0, ![]⟩
abbrev S129x1 : Shape := ⟨2, ![129, 1]⟩
abbrev S129x6 : Shape := ⟨2, ![129, 6]⟩
abbrev S6x129 : Shape := ⟨2, ![6, 129]⟩
abbrev S4096 : Shape := ⟨1, ![4096]⟩
abbrev S4096x1 : Shape := ⟨2, ![4096, 1]⟩
abbrev S4096x129 : Shape := ⟨2, ![4096, 129]⟩
abbrev S4096x129x1 : Shape := ⟨3, ![4096, 129, 1]⟩
abbrev S2x4096x129x6x128 : Shape := ⟨5, ![2, 4096, 129, 6, 128]⟩
abbrev S2x6x4096x129 : Shape := ⟨4, ![2, 6, 4096, 129]⟩
abbrev S1x6x1x129 : Shape := ⟨4, ![1, 6, 1, 129]⟩
abbrev S1x1x4096x129 : Shape := ⟨4, ![1, 1, 4096, 129]⟩
abbrev S2x6x4096 : Shape := ⟨3, ![2, 6, 4096]⟩
abbrev S2x6x4096x1 : Shape := ⟨4, ![2, 6, 4096, 1]⟩
abbrev S2x4096x6 : Shape := ⟨3, ![2, 4096, 6]⟩
abbrev S2x4096x128 : Shape := ⟨3, ![2, 4096, 128]⟩
abbrev S2x1024x3072 : Shape := ⟨3, ![2, 1024, 3072]⟩
abbrev S2x1024x512 : Shape := ⟨3, ![2, 1024, 512]⟩

abbrev nBuf : Space → Nat
  | .hbm => 75
  | .vmem => 0
  | .smem => 0
  | _ => 0

abbrev bufTy : (tb : Table) → Fin (tcTables nBuf tb) → BufTy
  | .hbm, ⟨0, _⟩ => ⟨S2x4096x5376, .bf16⟩
  | .hbm, ⟨1, _⟩ => ⟨S32x6, .f32⟩
  | .hbm, ⟨2, _⟩ => ⟨S129, .i32⟩
  | .hbm, ⟨3, _⟩ => ⟨S129, .i1⟩
  | .hbm, ⟨4, _⟩ => ⟨S129, .i32⟩
  | .hbm, ⟨5, _⟩ => ⟨S1x129, .i32⟩
  | .hbm, ⟨6, _⟩ => ⟨S2x4096x768, .bf16⟩
  | .hbm, ⟨7, _⟩ => ⟨S2x4096x6x128, .bf16⟩
  | .hbm, ⟨8, _⟩ => ⟨S2x4096x6x128, .f32⟩
  | .hbm, ⟨9, _⟩ => ⟨S2x4096x768, .bf16⟩
  | .hbm, ⟨10, _⟩ => ⟨S2x4096x6x128, .bf16⟩
  | .hbm, ⟨11, _⟩ => ⟨S2x4096x6x128, .f32⟩
  | .hbm, ⟨12, _⟩ => ⟨S2x4096x768, .bf16⟩
  | .hbm, ⟨13, _⟩ => ⟨S2x4096x6x128, .bf16⟩
  | .hbm, ⟨14, _⟩ => ⟨S2x4096x6x128, .f32⟩
  | .hbm, ⟨15, _⟩ => ⟨S_, .i32⟩
  | .hbm, ⟨16, _⟩ => ⟨S129, .i32⟩
  | .hbm, ⟨17, _⟩ => ⟨S129, .i32⟩
  | .hbm, ⟨18, _⟩ => ⟨S129, .i32⟩
  | .hbm, ⟨19, _⟩ => ⟨S129x1, .i32⟩
  | .hbm, ⟨20, _⟩ => ⟨S129x6, .f32⟩
  | .hbm, ⟨21, _⟩ => ⟨S6x129, .f32⟩
  | .hbm, ⟨22, _⟩ => ⟨S4096, .i32⟩
  | .hbm, ⟨23, _⟩ => ⟨S4096x1, .i32⟩
  | .hbm, ⟨24, _⟩ => ⟨S4096x129, .i32⟩
  | .hbm, ⟨25, _⟩ => ⟨S4096x129, .i32⟩
  | .hbm, ⟨26, _⟩ => ⟨S4096x129, .i32⟩
  | .hbm, ⟨27, _⟩ => ⟨S_, .i32⟩
  | .hbm, ⟨28, _⟩ => ⟨S4096x129, .i32⟩
  | .hbm, ⟨29, _⟩ => ⟨S4096x129, .i32⟩
  | .hbm, ⟨30, _⟩ => ⟨S4096x129x1, .i32⟩
  | .hbm, ⟨31, _⟩ => ⟨S2x4096x129x6x128, .f32⟩
  | .hbm, ⟨32, _⟩ => ⟨S_, .i32⟩
  | .hbm, ⟨33, _⟩ => ⟨S4096x129, .i32⟩
  | .hbm, ⟨34, _⟩ => ⟨S4096x129, .i32⟩
  | .hbm, ⟨35, _⟩ => ⟨S4096x129x1, .i32⟩
  | .hbm, ⟨36, _⟩ => ⟨S2x4096x129x6x128, .f32⟩
  | .hbm, ⟨37, _⟩ => ⟨S2x6x4096x129, .f32⟩
  | .hbm, ⟨38, _⟩ => ⟨S_, .f32⟩
  | .hbm, ⟨39, _⟩ => ⟨S2x6x4096x129, .f32⟩
  | .hbm, ⟨40, _⟩ => ⟨S2x6x4096x129, .f32⟩
  | .hbm, ⟨41, _⟩ => ⟨S1x6x1x129, .f32⟩
  | .hbm, ⟨42, _⟩ => ⟨S2x6x4096x129, .f32⟩
  | .hbm, ⟨43, _⟩ => ⟨S2x6x4096x129, .f32⟩
  | .hbm, ⟨44, _⟩ => ⟨S_, .i32⟩
  | .hbm, ⟨45, _⟩ => ⟨S4096x129, .i32⟩
  | .hbm, ⟨46, _⟩ => ⟨S4096x129, .i1⟩
  | .hbm, ⟨47, _⟩ => ⟨S1x1x4096x129, .i1⟩
  | .hbm, ⟨48, _⟩ => ⟨S_, .f32⟩
  | .hbm, ⟨49, _⟩ => ⟨S_, .f32⟩
  | .hbm, ⟨50, _⟩ => ⟨S2x6x4096x129, .i1⟩
  | .hbm, ⟨51, _⟩ => ⟨S2x6x4096x129, .f32⟩
  | .hbm, ⟨52, _⟩ => ⟨S2x6x4096x129, .f32⟩
  | .hbm, ⟨53, _⟩ => ⟨S_, .f32⟩
  | .hbm, ⟨54, _⟩ => ⟨S2x6x4096, .f32⟩
  | .hbm, ⟨55, _⟩ => ⟨S2x6x4096x1, .f32⟩
  | .hbm, ⟨56, _⟩ => ⟨S2x6x4096x129, .f32⟩
  | .hbm, ⟨57, _⟩ => ⟨S2x6x4096x129, .f32⟩
  | .hbm, ⟨58, _⟩ => ⟨S2x6x4096x129, .f32⟩
  | .hbm, ⟨59, _⟩ => ⟨S_, .f32⟩
  | .hbm, ⟨60, _⟩ => ⟨S2x6x4096, .f32⟩
  | .hbm, ⟨61, _⟩ => ⟨S2x6x4096x1, .f32⟩
  | .hbm, ⟨62, _⟩ => ⟨S2x6x4096x129, .f32⟩
  | .hbm, ⟨63, _⟩ => ⟨S2x6x4096x129, .f32⟩
  | .hbm, ⟨64, _⟩ => ⟨S2x4096x6x128, .f32⟩
  | .hbm, ⟨65, _⟩ => ⟨S2x4096x6x128, .bf16⟩
  | .hbm, ⟨66, _⟩ => ⟨S2x6x4096x1, .f32⟩
  | .hbm, ⟨67, _⟩ => ⟨S2x6x4096x1, .f32⟩
  | .hbm, ⟨68, _⟩ => ⟨S2x6x4096, .f32⟩
  | .hbm, ⟨69, _⟩ => ⟨S2x4096x6, .f32⟩
  | .hbm, ⟨70, _⟩ => ⟨S_, .i32⟩
  | .hbm, ⟨71, _⟩ => ⟨S_, .f32⟩
  | .hbm, ⟨72, _⟩ => ⟨S2x4096x128, .f32⟩
  | .hbm, ⟨73, _⟩ => ⟨S2x1024x3072, .bf16⟩
  | .hbm, ⟨74, _⟩ => ⟨S2x1024x512, .f32⟩
  | _, _ => ⟨S2x4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_call1_v0 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_call3_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proof.Stick.Tile.lean ====
/-
  The attention kernel's body, one head at a time.

  The kernel goes over one block of 256 queries: first the key block on the diagonal (masked), then, in a loop, the key
  blocks before it, nearest first.  Each of its four heads carries the sum of the log survival terms of the keys already
  passed and the weighted sum of their values.  This file names what one step does to one head (`diagCarry`, `diagAcc`,
  `offCarry`, `offAcc`) and shows that a trip of the loop, and the whole body, is those functions of the loaded blocks.
-/
module

public import proofs.«01_k».proof.Proof.Gen.KernelIdeal.Value
public import Idealize.ShloMosaic.Lib.Pipeline.ValueKit

@[expose] public section

set_option maxRecDepth 16384

noncomputable section

namespace Cert.KernelIdeal.Stick

open Idealize.ShloMosaic Idealize.ShloMosaic.TcCoe Idealize.ShloMosaic.Tactic
open Cert.KernelIdeal Cert.KernelIdeal.Gen

variable {F : FTy → Type} [FloatOps F]

/-- One head's state: the sum of the log survival terms so far, and the weighted values so far. -/
abbrev Carry (F : FTy → Type) := FVec F S256x1 .f32
abbrev Acc (F : FTy → Type) := FVec F S256x128 .f32
/-- The state of the four heads, as the loop carries it. -/
abbrev State (F : FTy → Type) :=
  Carry F × Acc F × Carry F × Acc F × Carry F × Acc F × Carry F × Acc F

/-- The scaled scores of a block of queries against a block of keys. -/
def score (q k : Vec F S1x256x128 .bf16) : FVec F S256x256 .f32 :=
  mulf (matmul dot_S256x128_S256x128_S256x256_1_1_0_0_n_n none
      (shapeCast S256x128 q shapeCasts_S1x256x128_S256x128)
      (shapeCast S256x128 k shapeCasts_S1x256x128_S256x128) (constant S256x256 .f32 0x00000000#32))
    (broadcast S256x256 (Scalar.ofBits .f32 0x3DB504F3#32))

/-- The log of the survival probability of a score: minus the softplus, taken as the score itself above 40. -/
def logSurv (z : FVec F S256x256 .f32) : FVec F S256x256 .f32 :=
  subf (broadcast S256x256 (Scalar.ofBits .f32 0x00000000#32))
    (select (cmpf .ogt z (broadcast S256x256 (Scalar.ofBits .f32 0x42200000#32))) z
      (log (addf (broadcast S256x256 (Scalar.ofBits .f32 0x3F800000#32)) (exp z))))

/-- The lower triangle with its diagonal, as a matrix of ones: entry `(r, c)` is one where `r ≥ c`. -/
def lowerOnes : FVec F S256x256 .bf16 :=
  truncf .bf16 (select (cmpi .sge (iota .tc S256x256 32 [0] iota_S256x256_d0_w32)
      (iota .tc S256x256 32 [1] iota_S256x256_d1_w32))
    (broadcast S256x256 (Scalar.ofBits .f32 0x3F800000#32))
    (broadcast S256x256 (Scalar.ofBits .f32 0x00000000#32))) bitsLt_bf16_f32

/-- The strict lower triangle, as a mask: the key comes before the query. -/
def before : IVec S256x256 1 :=
  cmpi .slt (iota .tc S256x256 32 [1] iota_S256x256_d1_w32) (iota .tc S256x256 32 [0] iota_S256x256_d0_w32)

/-- A block under the strict lower triangle, zero elsewhere. -/
def masked (x : FVec F S256x256 .f32) : FVec F S256x256 .f32 :=
  select before x (broadcast S256x256 (Scalar.ofBits .f32 0x00000000#32))

/-- The sums of a block's columns from each column on, through a product with the triangle of ones in two halves. -/
def tailSum (l : FVec F S256x256 .f32) : FVec F S256x256 .f32 :=
  addf (matmul dot_S256x256_S256x256_S256x256_1_0_0_1_n_n none (truncf .bf16 l bitsLt_bf16_f32) lowerOnes
      (constant S256x256 .f32 0x00000000#32))
    (matmul dot_S256x256_S256x256_S256x256_1_0_0_1_n_n none
      (truncf .bf16 (subf l (extf .f32 (truncf .bf16 l bitsLt_bf16_f32) bitsLt_bf16_f32)) bitsLt_bf16_f32) lowerOnes
      (constant S256x256 .f32 0x00000000#32))

/-- The weights of a block, from its scores, its tail sums and the carried sum. -/
def weight (z t : FVec F S256x256 .f32) (c : Carry F) : FVec F S256x256 .f32 :=
  exp (addf (addf z t) (broadcastTo S256x256 c broadcasts_S256x1_S256x256))

/-- The carried sum after a block with tail sums `t`. -/
def nextCarry (t : FVec F S256x256 .f32) (c : Carry F) : Carry F :=
  addf c (extractStridedSlice S256x1 ![0, 0] t slices_S256x256_o0_0_S256x1)

/-- The weighted values after a block with weights `w` and values `v`. -/
def nextAcc (w : FVec F S256x256 .f32) (v : Vec F S1x256x128 .bf16) (a : Acc F) : Acc F :=
  addf a (matmul dot_S256x256_S256x128_S256x128_1_0_0_1_n_n none (truncf .bf16 w bitsLt_bf16_f32)
    (shapeCast S256x128 v shapeCasts_S1x256x128_S256x128) (constant S256x128 .f32 0x00000000#32))

/-- A step over a block before the diagonal: the carried sum. -/
def offCarry (q k : Vec F S1x256x128 .bf16) (c : Carry F) : Carry F :=
  nextCarry (tailSum (logSurv (score q k))) c

/-- A step over a block before the diagonal: the weighted values. -/
def offAcc (q k v : Vec F S1x256x128 .bf16) (c : Carry F) (a : Acc F) : Acc F :=
  nextAcc (weight (score q k) (tailSum (logSurv (score q k))) c) v a

/-- The step over the diagonal block: the carried sum. -/
def diagCarry (q k : Vec F S1x256x128 .bf16) : Carry F :=
  nextCarry (tailSum (masked (logSurv (score q k)))) (broadcast S256x1 (Scalar.ofBits .f32 0x00000000#32))

/-- The step over the diagonal block: the weighted values. -/
def diagAcc (q k v : Vec F S1x256x128 .bf16) : Acc F :=
  nextAcc (masked (weight (score q k) (tailSum (masked (logSurv (score q k))))
      (broadcast S256x1 (Scalar.ofBits .f32 0x00000000#32)))) v
    (broadcast S256x128 (Scalar.ofBits .f32 0x00000000#32))

/-- The left and the right head of a pair's queries. -/
def qL (x : Vec F S1x256x256 .bf16) : Vec F S1x256x128 .bf16 :=
  View.ld x (Rect.unit (s := S1x256x256) ![0, 0, 0] S1x256x128.size inb_S1x256x256_S1x256x128_0_0_0)
def qR (x : Vec F S1x256x256 .bf16) : Vec F S1x256x128 .bf16 :=
  View.ld x (Rect.unit (s := S1x256x256) ![0, 0, 128] S1x256x128.size inb_S1x256x256_S1x256x128_0_0_128)

/-- The left and the right head of a pair's keys (or values) in the diagonal block. -/
def dL (i : grid0.Coords) (x : Vec F S1x4096x256 .bf16) : Vec F S1x256x128 .bf16 :=
  View.ld x (Rect.unit (s := S1x4096x256) (k0_off1 i) S1x256x128.size (k0_off1_inb i))
def dR (i : grid0.Coords) (x : Vec F S1x4096x256 .bf16) : Vec F S1x256x128 .bf16 :=
  View.ld x (Rect.unit (s := S1x4096x256) (k0_off2 i) S1x256x128.size (k0_off2_inb i))

/-- The left and the right head of a pair's keys (or values) in the block of trip `k`. -/
def tL (i : grid0.Coords) (k : Fin (k0_t1_loop i).trips) (x : Vec F S1x4096x256 .bf16) : Vec F S1x256x128 .bf16 :=
  View.ld x (Rect.unit (s := S1x4096x256) (k0_off3 i k) S1x256x128.size (k0_off3_inb i k))
def tR (i : grid0.Coords) (k : Fin (k0_t1_loop i).trips) (x : Vec F S1x4096x256 .bf16) : Vec F S1x256x128 .bf16 :=
  View.ld x (Rect.unit (s := S1x4096x256) (k0_off4 i k) S1x256x128.size (k0_off4_inb i k))

section Body

variable (x0 x1 : Vec F S1x256x256 .bf16) (x2 x3 x4 x5 : Vec F S1x4096x256 .bf16)

/-- The state after the diagonal block. -/
def start (i : grid0.Coords) : State F :=
  (diagCarry (qL x0) (dL i x2), diagAcc (qL x0) (dL i x2) (dL i x4),
   diagCarry (qR x0) (dR i x2), diagAcc (qR x0) (dR i x2) (dR i x4),
   diagCarry (qL x1) (dL i x3), diagAcc (qL x1) (dL i x3) (dL i x5),
   diagCarry (qR x1) (dR i x3), diagAcc (qR x1) (dR i x3) (dR i x5))

/-- The state after one trip of the loop. -/
def step (i : grid0.Coords) (k : Fin (k0_t1_loop i).trips) (s : State F) : State F :=
  (offCarry (qL x0) (tL i k x2) s.1, offAcc (qL x0) (tL i k x2) (tL i k x4) s.1 s.2.1,
   offCarry (qR x0) (tR i k x2) s.2.2.1, offAcc (qR x0) (tR i k x2) (tR i k x4) s.2.2.1 s.2.2.2.1,
   offCarry (qL x1) (tL i k x3) s.2.2.2.2.1, offAcc (qL x1) (tL i k x3) (tL i k x5) s.2.2.2.2.1 s.2.2.2.2.2.1,
   offCarry (qR x1) (tR i k x3) s.2.2.2.2.2.2.1,
   offAcc (qR x1) (tR i k x3) (tR i k x5) s.2.2.2.2.2.2.1 s.2.2.2.2.2.2.2)

/-- The state before trip `n`. -/
def stateAt (i : grid0.Coords) : ℕ → State F
  | 0 => start x0 x1 x2 x3 x4 x5 i
  | n + 1 => if h : n < (k0_t1_loop i).trips then step x0 x1 x2 x3 x4 x5 i ⟨n, h⟩ (stateAt i n) else stateAt i n

variable (c : Dev nD) (i : grid0.Coords) (arg2 : Memref sig .tc .vmem S1x256x256 .bf16) (harg2 : arg2.IsWhole)
  (arg3 : Memref sig .tc .vmem S1x256x256 .bf16) (harg3 : arg3.IsWhole)
  (arg4 : Memref sig .tc .vmem S1x4096x256 .bf16) (harg4 : arg4.IsWhole)
  (arg5 : Memref sig .tc .vmem S1x4096x256 .bf16) (harg5 : arg5.IsWhole)
  (arg6 : Memref sig .tc .vmem S1x4096x256 .bf16) (harg6 : arg6.IsWhole)
  (arg7 : Memref sig .tc .vmem S1x4096x256 .bf16) (harg7 : arg7.IsWhole)
  (arg8 : Memref sig .tc .vmem S1x256x512 .bf16) (harg8 : arg8.IsWhole)

set_option maxHeartbeats 2000000 in
/-- One trip of the kernel's loop is one step of the four heads. -/
theorem trip_eq (arg1 : BitVec 32) (v8 v10 v12 : Carry F) (v13 : Acc F) (v14 : Carry F) (v15 : Acc F) (v17 : BitVec 32)
    (v112 v115 v118 v121 v145 : FVec F S256x256 .f32) (v151 v157 : Acc F) (v158 : FVec F S256x256 .bf16)
    (v161 : FVec F S256x128 .bf16) (cst_71 : Acc F) (k : Fin (k0_t1_loop i).trips) (s : State F) :
    tripR_k0_t1 (F := F) Variants.none c none i arg2 harg2 arg3 harg3 arg4 harg4 arg5 harg5 arg6 harg6 arg7 harg7 arg8 harg8
      arg1 lowerOnes v8 v10 v12 v13 v14 v15 v17 v112 v115 v118 v121 v145 v151 v157 v158 v161 cst_71
      (harg2.unread x0) (harg3.unread x1) (harg4.unread x2) (harg5.unread x3) (harg6.unread x4) (harg7.unread x5) k s
      = step x0 x1 x2 x3 x4 x5 i k s := by
  unfold tripR_k0_t1 trip_k0_t1
  dsimp only
  sl_unfold_words
  simp only [View.readAt_eq_ld, harg2.read_unread, harg3.read_unread, harg4.read_unread, harg5.read_unread,
    harg6.read_unread, harg7.read_unread]
  rfl

/-- Before trip `n` the loop's state is `stateAt n`. -/
theorem loop_eq (arg1 : BitVec 32) (v6 : FVec F S256x256 .bf16) (hv6 : v6 = lowerOnes) (v8 v10 v12 : Carry F) (v13 : Acc F)
    (v14 : Carry F) (v15 : Acc F) (v17 : BitVec 32)
    (v112 v115 v118 v121 v145 : FVec F S256x256 .f32) (v151 v157 : Acc F) (v158 : FVec F S256x256 .bf16)
    (v161 : FVec F S256x128 .bf16) (cst_71 : Acc F) (s : State F) (hs : s = start x0 x1 x2 x3 x4 x5 i)
    (n : ℕ) (hn : n ≤ (k0_t1_loop i).trips) :
    st_k0_t1 (F := F) Variants.none c none i arg2 harg2 arg3 harg3 arg4 harg4 arg5 harg5 arg6 harg6 arg7 harg7 arg8 harg8
      arg1 v6 v8 v10 v12 v13 v14 v15 v17 v112 v115 v118 v121 v145 v151 v157 v158 v161 cst_71
      (harg2.unread x0) (harg3.unread x1) (harg4.unread x2) (harg5.unread x3) (harg6.unread x4) (harg7.unread x5) s n
      = stateAt x0 x1 x2 x3 x4 x5 i n := by
  subst hv6 hs
  induction n with
  | zero => rw [st_k0_t1_zero]; rfl
  | succ n ih =>
    have hlt : n < (k0_t1_loop i).trips := hn
    have := st_k0_t1_succ (F := F) Variants.none c none i arg2 harg2 arg3 harg3 arg4 harg4 arg5 harg5 arg6 harg6 arg7 harg7
      arg8 harg8 arg1 lowerOnes v8 v10 v12 v13 v14 v15 v17 v112 v115 v118 v121 v145 v151 v157 v158 v161 cst_71
      (harg2.unread x0) (harg3.unread x1) (harg4.unread x2) (harg5.unread x3) (harg6.unread x4) (harg7.unread x5)
      (start x0 x1 x2 x3 x4 x5 i) ⟨n, hlt⟩
    rw [this, trip_eq, ih (Nat.le_of_lt hlt), stateAt, dif_pos hlt]

/-- The loop after it, which would take a remainder of trips, takes none. -/
theorem trips_rest : (k0_t2_loop i).trips = 0 := by
  have h : ∀ i : grid0.Coords, (k0_t2_loop i).trips = 0 := by decide +kernel
  exact h i

/-- The loop makes one trip for every key block before the diagonal. -/
theorem trips_eq : (k0_t1_loop i).trips = (i 1).val := by
  have h : ∀ i : grid0.Coords, (k0_t1_loop i).trips = (i 1).val := by decide +kernel
  exact h i

/-- The state when the body is done. -/
def final : State F := stateAt x0 x1 x2 x3 x4 x5 i (i 1).val

/-- A head's values as the body stores them. -/
def stored (a : Acc F) : FVec F S1x256x128 .bf16 :=
  shapeCast S1x256x128 (truncf .bf16 a bitsLt_bf16_f32) shapeCasts_S256x128_S1x256x128

/-- The four stores of a state. -/
def stores (s : State F) : List (View.Piece (Elt F) S1x256x512 .bf16) :=
  [⟨Rect.unit (s := S1x256x512) ![0, 0, 384] S1x256x128.size inb_S1x256x512_S1x256x128_0_0_384,
      stored s.2.2.2.2.2.2.2⟩,
   ⟨Rect.unit (s := S1x256x512) ![0, 0, 256] S1x256x128.size inb_S1x256x512_S1x256x128_0_0_256,
      stored s.2.2.2.2.2.1⟩,
   ⟨Rect.unit (s := S1x256x512) ![0, 0, 128] S1x256x128.size inb_S1x256x512_S1x256x128_0_0_128,
      stored s.2.2.2.1⟩,
   ⟨Rect.unit (s := S1x256x512) ![0, 0, 0] S1x256x128.size inb_S1x256x512_S1x256x128_0_0_0,
      stored s.2.1⟩]

set_option maxHeartbeats 2000000 in
/-- What the body stores: each head's weighted values in its own 128 lanes. -/
theorem pieces_eq : (kernelRun0_A c i arg2 harg2 arg3 harg3 arg4 harg4 arg5 harg5 arg6 harg6 arg7 harg7 arg8 harg8
      x0 x1 x2 x3 x4 x5).1 = stores (final x0 x1 x2 x3 x4 x5 i) := by
  unfold kernelRun0_A
  dsimp only
  sl_unfold_words
  refine (congrArg stores (?_ : st_k0_t2 .. = _))
  have hz : ∀ n, n = 0 → ∀ f : ℕ → State F, f n = f 0 := fun n h f => by rw [h]
  refine (hz _ (trips_rest i) _).trans ((st_k0_t2_zero ..).trans ?_)
  refine Eq.trans (loop_eq x0 x1 x2 x3 x4 x5 (hv6 := rfl) (hs := ?_) (hn := le_rfl) ..) ?_
  · simp only [View.readAt_eq_ld, harg2.read_unread, harg3.read_unread, harg4.read_unread, harg5.read_unread,
      harg6.read_unread, harg7.read_unread]
    rfl
  · exact congrArg (stateAt x0 x1 x2 x3 x4 x5 i) (trips_eq i)

end Body

end Cert.KernelIdeal.Stick
end
-- ==== Proof.Stick.Row.lean ====
/-
  One row of stick-breaking attention over the extended reals.

  A query at position `r` has a score `s n` and a value `v n` at every key position `n`.  Only the keys before the query
  count.  `term` is the log survival of a key (zero from the query on), `tail n` the sum of the terms from `n` on, `wt`
  the weight and `row` the weighted sum of the values.
-/
module

public import Idealize.ShloMosaic.PureOps.Ideal
public import Idealize.ShloMosaic.Lib.Pointwise.Index
public import Mathlib.Algebra.BigOperators.Intervals

@[expose] public section

noncomputable section

namespace Cert.StickRow

open Idealize.ShloMosaic

/-- The log survival of a score: minus `log (1 + exp z)`, in the form that never overflows. -/
def surv (z : EReal) : EReal := -(max z 0 + Ideal.log1p (Ideal.exp (-(max z (-z)))))

/-- Real and below zero or not, the stable form of the softplus is the plain one. -/
theorem softplus_real (x : ℝ) : max x 0 + Real.log (1 + Real.exp (-(max x (-x)))) = Real.log (1 + Real.exp x) := by
  rcases le_total 0 x with h | h
  · rw [max_eq_left h, max_eq_left (by linarith)]
    have h1 : (1 : ℝ) + Real.exp x = Real.exp x * (1 + Real.exp (-x)) := by
      rw [mul_add, mul_one, ← Real.exp_add, add_neg_cancel, Real.exp_zero, add_comm]
    rw [h1, Real.log_mul (Real.exp_pos x).ne' (by positivity), Real.log_exp]
  · rw [max_eq_right h, max_eq_right (by linarith), neg_neg, zero_add]

theorem log1p_exp_coe (x : ℝ) : Ideal.log1p (Ideal.exp (x : EReal)) = ((Real.log (1 + Real.exp x) : ℝ) : EReal) := by
  have h : ¬ (1 + Real.exp x ≤ 0) := not_le.mpr (by positivity)
  rw [Ideal.log1p, Ideal.exp_coe, ← EReal.coe_one, ← EReal.coe_add, Ideal.log_coe, if_neg h]

theorem max_coe (x y : ℝ) : max (x : EReal) (y : EReal) = ((max x y : ℝ) : EReal) :=
  (EReal.coe_strictMono.monotone.map_max).symm

theorem surv_coe (x : ℝ) : surv (x : EReal) = ((-Real.log (1 + Real.exp x) : ℝ) : EReal) := by
  rw [surv, ← EReal.coe_neg, max_coe, ← EReal.coe_neg, log1p_exp_coe, ← EReal.coe_zero, max_coe, ← EReal.coe_add,
    softplus_real, ← EReal.coe_neg]

theorem log1p_zero : Ideal.log1p 0 = 0 := by
  rw [Ideal.log1p, add_zero, ← EReal.coe_one, Ideal.log_coe, if_neg (by norm_num), Real.log_one, EReal.coe_zero]

theorem surv_bot : surv ⊥ = 0 := by
  rw [surv, EReal.neg_bot, max_eq_right bot_le, max_eq_right bot_le, EReal.neg_top, Ideal.exp_bot, log1p_zero, add_zero,
    neg_zero]

/-- A score short of `+∞` has a finite log survival. -/
theorem surv_fin {z : EReal} (h : z ≠ ⊤) : ∃ x : ℝ, surv z = (x : EReal) := by
  induction z with
  | bot => exact ⟨0, surv_bot⟩
  | coe x => exact ⟨_, surv_coe x⟩
  | top => exact absurd rfl h

/-- … which is minus `log (1 + exp z)`. -/
theorem surv_plain {z : EReal} (h : z ≠ ⊤) : 0 - Ideal.log (1 + Ideal.exp z) = surv z := by
  induction z with
  | bot =>
    rw [surv_bot, Ideal.exp_bot]
    show 0 - Ideal.log1p 0 = 0
    rw [log1p_zero, sub_zero]
  | coe x =>
    rw [surv_coe]
    show 0 - Ideal.log1p (Ideal.exp (x : EReal)) = _
    rw [log1p_exp_coe, zero_sub, EReal.coe_neg]
  | top => exact absurd rfl h

/-- The log of the logistic function is the score plus its log survival. -/
theorem surv_neg {z : EReal} (h : z ≠ ⊤) : surv (-z) = z + surv z := by
  induction z with
  | bot =>
    rw [surv_bot, add_zero, EReal.neg_bot, surv, max_eq_left le_top, EReal.neg_top, max_eq_left le_top, EReal.neg_top,
      Ideal.exp_bot, log1p_zero, add_zero, EReal.neg_top]
  | coe x =>
    rw [surv_coe, ← EReal.coe_neg, surv_coe, ← EReal.coe_add]
    congr 1
    have h1 : (1 : ℝ) + Real.exp x = Real.exp x * (1 + Real.exp (-x)) := by
      rw [mul_add, mul_one, ← Real.exp_add, add_neg_cancel, Real.exp_zero, add_comm]
    rw [h1, Real.log_mul (Real.exp_pos x).ne' (by positivity), Real.log_exp]
    ring
  | top => exact absurd rfl h

section Row

variable (s v : ℕ → EReal) (r : ℕ)

/-- A key's log survival, zero from the query on. -/
def term (n : ℕ) : EReal := if n < r then surv (s n) else 0

/-- The sum of the log survival terms from key `n` on. -/
def tail (n : ℕ) : EReal := ∑ i ∈ Finset.Ico n 4096, term s r i

/-- A key's weight. -/
def wt (n : ℕ) : EReal := if n < r then Ideal.exp (s n + tail s r n) else 0

/-- The weighted values of the keys from `n` on. -/
def from_ (n : ℕ) : EReal := ∑ i ∈ Finset.Ico n 4096, wt s r i * v i

/-- The row's result. -/
def row : EReal := ∑ i ∈ Finset.range 4096, wt s r i * v i

variable (hs : ∀ n < r, s n ≠ ⊤)
include hs

theorem term_fin (n : ℕ) : ∃ x : ℝ, term s r n = (x : EReal) := by
  unfold term
  split
  · exact surv_fin (hs n ‹_›)
  · exact ⟨0, rfl⟩

theorem tail_fin (n : ℕ) : ∃ x : ℝ, tail s r n = (x : EReal) := by
  choose f hf using term_fin s r hs
  refine ⟨∑ i ∈ Finset.Ico n 4096, f i, ?_⟩
  unfold tail
  simp only [hf]
  exact (map_sum (⟨⟨Real.toEReal, EReal.coe_zero⟩, EReal.coe_add⟩ : ℝ →+ EReal) f _).symm

/-- The weight as the log of the logistic function plus the terms of the later keys. -/
theorem wt_logistic (n : ℕ) (hn : n < r) :
    wt s r n = Ideal.exp (surv (-(s n)) + (tail s r n - term s r n)) := by
  rw [wt, if_pos hn, surv_neg (hs n hn)]
  obtain ⟨t, ht⟩ := tail_fin s r hs n
  obtain ⟨x, hx⟩ := surv_fin (hs n hn)
  have ht' : term s r n = (x : EReal) := by rw [term, if_pos hn, hx]
  rw [ht, ht', hx, add_assoc, ← EReal.coe_sub, ← EReal.coe_add]
  congr 3
  ring

omit hs in
/-- A block of 256 keys, from key `c` of it on, and the keys after the block. -/
theorem tail_block (K : ℕ) (hK : K + 256 ≤ 4096) (c : Fin 256) :
    (∑ c' : Fin 256, term s r (K + c'.val) * (if c.val ≤ c'.val then 1 else 0)) + tail s r (K + 256)
      = tail s r (K + c.val) := by
  have hc := c.isLt
  rw [Fin.sum_univ_eq_sum_range (fun i => term s r (K + i) * (if c.val ≤ i then 1 else 0)) 256, tail, tail,
    ← Finset.sum_Ico_consecutive (term s r) (by omega : K + c.val ≤ K + 256) hK]
  congr 1
  rw [Finset.sum_Ico_eq_sum_range, Finset.range_eq_Ico,
    ← Finset.sum_Ico_consecutive _ (Nat.zero_le c.val) hc.le, Finset.sum_eq_zero, zero_add,
    Finset.sum_Ico_eq_sum_range]
  · have e : K + 256 - (K + c.val) = 256 - c.val := by omega
    rw [e]
    refine Finset.sum_congr rfl fun i hi => ?_
    rw [if_pos (by omega), mul_one, add_assoc]
  · intro i hi
    have := (Finset.mem_Ico.mp hi).2
    rw [if_neg (by omega), mul_zero]

omit hs in
theorem from_block (K : ℕ) (hK : K + 256 ≤ 4096) :
    from_ s v r (K + 256) + ∑ c : Fin 256, wt s r (K + c.val) * v (K + c.val) = from_ s v r K := by
  rw [Fin.sum_univ_eq_sum_range (fun i => wt s r (K + i) * v (K + i)) 256, from_, from_,
    ← Finset.sum_Ico_consecutive _ (by omega : K ≤ K + 256) hK, add_comm,
    Finset.sum_Ico_eq_sum_range _ K, Nat.add_sub_cancel_left]

omit hs in
theorem tail_zero (n : ℕ) (hn : r ≤ n) : tail s r n = 0 :=
  Finset.sum_eq_zero fun i hi => if_neg (by have := (Finset.mem_Ico.mp hi).1; omega)

omit hs in
theorem from_zero (n : ℕ) (hn : r ≤ n) : from_ s v r n = 0 :=
  Finset.sum_eq_zero fun i hi => by rw [wt, if_neg (by have := (Finset.mem_Ico.mp hi).1; omega), zero_mul]

omit hs in
theorem from_row : from_ s v r 0 = row s v r := by rw [from_, row, Finset.range_eq_Ico]

end Row

/-! ## Where a row's scores and values lie -/

/-- The projected activations: 4096 rows of 5376 columns in each of two batches. -/
abbrev Acts := (⟨3, ![2, 4096, 5376]⟩ : Shape).Idx → EReal

/-- An activation by the numbers of its batch, row and column. -/
def fetch (z : Acts) (b r c : ℕ) : EReal :=
  if h : b < 2 ∧ r < 4096 ∧ c < 5376 then z (ix3 ⟨b, h.1⟩ ⟨r, h.2.1⟩ ⟨c, h.2.2⟩) else 0

theorem fetch_eq (z : Acts) (i : (⟨3, ![2, 4096, 5376]⟩ : Shape).Idx) (b r c : ℕ)
    (h0 : (i 0).val = b) (h1 : (i 1).val = r) (h2 : (i 2).val = c) : z i = fetch z b r c := by
  subst h0 h1 h2
  have h : (i 0).val < 2 ∧ (i 1).val < 4096 ∧ (i 2).val < 5376 := ⟨(i 0).isLt, (i 1).isLt, (i 2).isLt⟩
  rw [fetch, dif_pos h]
  exact congrArg z (eq_ix3 i)

/-- The scaled score of head `h` in batch `b`: the query at `r` against the key at `n`. -/
def sc (z : Acts) (b h r n : ℕ) : EReal :=
  (∑ d : Fin 128, fetch z b r (3840 + 128 * h + d.val) * fetch z b n (4352 + 128 * h + d.val))
    * Ideal.ofBits FTy.f32 1035273459#32

/-- Entry `d` of head `h`'s value at `n`. -/
def vl (z : Acts) (b h d n : ℕ) : EReal := fetch z b n (4864 + 128 * h + d)

/-- The causal scores are at most 40. -/
def Small (z : Acts) : Prop := ∀ b < 2, ∀ h < 4, ∀ r < 4096, ∀ n < r, sc z b h r n ≤ ((40 : ℝ) : EReal)

end Cert.StickRow
end
-- ==== Proof.Stick.Head.lean ====
/-
  One head's steps over the extended reals.

  Where a query's scores against a block of keys are `s K, s (K + 1), …`, a step takes the sum of the log survival terms
  and the weighted values from the keys after the block to the keys from the block on.
-/
module

public import proofs.«01_k».proof.Proof.Stick.Tile
public import proofs.«01_k».proof.Proof.Stick.Row
public import Idealize.ShloMosaic.Lib.WordCmp

@[expose] public section

set_option maxRecDepth 16384

noncomputable section

namespace Cert.KernelIdeal.Stick

open Idealize.ShloMosaic Idealize.ShloMosaic.TcCoe Idealize.ShloMosaic.Tactic
open Idealize.ShloMosaic.WordCmp (cmpi_slt_ofNat cmpi_sge_ofNat select_ofBool)
open Cert.KernelIdeal Cert.KernelIdeal.Gen Cert.StickRow

theorem score_apply (q k : Vec Ideal S1x256x128 .bf16) (j : S256x256.Idx) :
    score q k j = (∑ d : Fin 128, q (ix3 0 (j 0) d) * k (ix3 0 (j 1) d)) * Ideal.ofBits FTy.f32 1035273459#32 := by
  unfold score
  pointwise

theorem ofBits_forty : Ideal.ofBits FTy.f32 1109393408#32 = ((40 : ℝ) : EReal) := by
  simp [Ideal.ofBits, Ideal.ieee, -EReal.coe_mul]; norm_num

theorem logSurv_apply (z : FVec Ideal S256x256 .f32) (j : S256x256.Idx) (h : z j ≤ ((40 : ℝ) : EReal)) :
    logSurv z j = surv (z j) := by
  rw [← surv_plain (h.trans_lt (EReal.coe_lt_top 40)).ne]
  unfold logSurv
  pointwise
  rw [ofBits_forty, if_neg (not_lt.mpr h)]

theorem lowerOnes_apply (j : S256x256.Idx) :
    lowerOnes (F := Ideal) j = if (j 1).val ≤ (j 0).val then 1 else 0 := by
  have h0 : (j 0).val < 256 := (j 0).isLt
  have h1 : (j 1).val < 256 := (j 1).isLt
  unfold lowerOnes
  pointwise
  rw [cmpi_sge_ofNat (by omega) (by omega), select_ofBool]
  simp only [decide_eq_true_eq]

theorem masked_apply (x : FVec Ideal S256x256 .f32) (j : S256x256.Idx) :
    masked x j = if (j 1).val < (j 0).val then x j else 0 := by
  have h0 : (j 0).val < 256 := (j 0).isLt
  have h1 : (j 1).val < 256 := (j 1).isLt
  unfold masked before
  pointwise
  rw [cmpi_slt_ofNat (by omega) (by omega), select_ofBool]
  simp only [decide_eq_true_eq]

theorem tailSum_apply (l : FVec Ideal S256x256 .f32) (j : S256x256.Idx) :
    tailSum l j = (∑ x : Fin 256, l (ix2 (j 0) x) * lowerOnes (F := Ideal) (ix2 x (j 1)))
      + ∑ x : Fin 256, (l (ix2 (j 0) x) - l (ix2 (j 0) x)) * lowerOnes (F := Ideal) (ix2 x (j 1)) := by
  unfold tailSum
  pointwise

theorem weight_apply (z t : FVec Ideal S256x256 .f32) (c : Carry Ideal) (j : S256x256.Idx) :
    weight z t c j = Ideal.exp (z j + t j + c (ix2 (j 0) 0)) := by
  unfold weight
  pointwise

theorem nextCarry_apply (t : FVec Ideal S256x256 .f32) (c : Carry Ideal) (r : Fin 256) :
    nextCarry t c (ix2 r 0) = c (ix2 r 0) + t (ix2 r 0) := by
  unfold nextCarry
  pointwise

theorem nextAcc_apply (w : FVec Ideal S256x256 .f32) (v : Vec Ideal S1x256x128 .bf16) (a : Acc Ideal) (j : S256x128.Idx) :
    nextAcc w v a j = a j + ∑ x : Fin 256, w (ix2 (j 0) x) * v (ix3 0 x (j 1)) := by
  unfold nextAcc
  pointwise

/-! ## A step, from the keys after a block to the keys from it on -/

section Steps

variable (s vv : ℕ → EReal) (r K : ℕ) (rr : Fin 256) (lane : Fin 128) (hK : K + 256 ≤ 4096)
  (hsmall : ∀ n < r, s n ≤ ((40 : ℝ) : EReal))
include hK hsmall

theorem scores_fin (n : ℕ) (hn : n < r) : s n ≠ ⊤ := ((hsmall n hn).trans_lt (EReal.coe_lt_top 40)).ne

/-- A block's tail sums and the sum after the block make the sums from the block's keys on. -/
theorem tailSum_block (l : FVec Ideal S256x256 .f32) (hl : ∀ c : Fin 256, l (ix2 rr c) = term s r (K + c.val))
    (c : Fin 256) : tailSum l (ix2 rr c) + tail s r (K + 256) = tail s r (K + c.val) := by
  rw [← tail_block s r K hK c, tailSum_apply]
  have hz : ∀ x : Fin 256, term s r (K + x.val) - term s r (K + x.val) = 0 := fun x => by
    obtain ⟨y, hy⟩ := term_fin s r (scores_fin s r K hK hsmall) (K + x.val)
    rw [hy, ← EReal.coe_sub, sub_self, EReal.coe_zero]
  simp only [ix2_0, ix2_1, hl, hz, zero_mul, Finset.sum_const_zero, add_zero, lowerOnes_apply]
  rfl

theorem weight_block (z l : FVec Ideal S256x256 .f32) (cy : Carry Ideal)
    (hl : ∀ c : Fin 256, l (ix2 rr c) = term s r (K + c.val)) (c : Fin 256) (hz : z (ix2 rr c) = s (K + c.val))
    (hc : cy (ix2 rr 0) = tail s r (K + 256)) (hr : K + c.val < r) :
    weight z (tailSum l) cy (ix2 rr c) = wt s r (K + c.val) := by
  rw [weight_apply, wt, if_pos hr]
  simp only [ix2_0]
  rw [hc, hz, add_assoc, tailSum_block s r K rr hK hsmall l hl]

/-- A head's step over a block before the diagonal: the carried sum. -/
theorem offCarry_step (q k : Vec Ideal S1x256x128 .bf16) (cy : Carry Ideal) (hr : K + 256 ≤ r)
    (hq : ∀ c : Fin 256, score q k (ix2 rr c) = s (K + c.val)) (hc : cy (ix2 rr 0) = tail s r (K + 256)) :
    offCarry q k cy (ix2 rr 0) = tail s r K := by
  have hl : ∀ c : Fin 256, logSurv (score q k) (ix2 rr c) = term s r (K + c.val) := fun c => by
    have hlt : K + c.val < r := by omega
    rw [logSurv_apply _ _ (by rw [hq]; exact hsmall _ hlt), hq, term, if_pos hlt]
  unfold offCarry
  rw [nextCarry_apply, hc, add_comm]
  exact tailSum_block s r K rr hK hsmall _ hl 0

/-- … and the weighted values. -/
theorem offAcc_step (q k v : Vec Ideal S1x256x128 .bf16) (cy : Carry Ideal) (a : Acc Ideal) (hr : K + 256 ≤ r)
    (hq : ∀ c : Fin 256, score q k (ix2 rr c) = s (K + c.val)) (hv : ∀ c : Fin 256, v (ix3 0 c lane) = vv (K + c.val))
    (hc : cy (ix2 rr 0) = tail s r (K + 256)) (ha : a (ix2 rr lane) = from_ s vv r (K + 256)) :
    offAcc q k v cy a (ix2 rr lane) = from_ s vv r K := by
  have hl : ∀ c : Fin 256, logSurv (score q k) (ix2 rr c) = term s r (K + c.val) := fun c => by
    have hlt : K + c.val < r := by omega
    rw [logSurv_apply _ _ (by rw [hq]; exact hsmall _ hlt), hq, term, if_pos hlt]
  unfold offAcc
  rw [nextAcc_apply, ha, ← from_block s vv r K hK]
  refine congrArg (_ + ·) (Finset.sum_congr rfl fun c _ => ?_)
  exact congr_arg₂ (· * ·) (weight_block s r K rr hK hsmall _ _ _ hl c (hq c) hc (by omega)) (hv c)

theorem diag_terms (q k : Vec Ideal S1x256x128 .bf16) (hr : K + rr.val = r)
    (hq : ∀ c : Fin 256, score q k (ix2 rr c) = s (K + c.val)) (c : Fin 256) :
    masked (logSurv (score q k)) (ix2 rr c) = term s r (K + c.val) := by
  rw [masked_apply, term]
  show (if c.val < rr.val then _ else _) = _
  by_cases hlt : c.val < rr.val
  · rw [if_pos hlt, if_pos (by omega), logSurv_apply _ _ (by rw [hq]; exact hsmall _ (by omega)), hq]
  · rw [if_neg hlt, if_neg (by omega)]

/-- A head's step over the diagonal block: the carried sum. -/
theorem diagCarry_step (q k : Vec Ideal S1x256x128 .bf16) (hr : K + rr.val = r)
    (hq : ∀ c : Fin 256, score q k (ix2 rr c) = s (K + c.val)) :
    diagCarry q k (ix2 rr 0) = tail s r K := by
  unfold diagCarry
  rw [nextCarry_apply, add_comm]
  refine Eq.trans (congrArg (tailSum _ (ix2 rr 0) + ·) ?_) (tailSum_block s r K rr hK hsmall _ (diag_terms s r K rr hK hsmall q k hr hq) 0)
  rw [tail_zero s r (K + 256) (by omega)]
  pointwise

/-- … and the weighted values. -/
theorem diagAcc_step (q k v : Vec Ideal S1x256x128 .bf16) (hr : K + rr.val = r)
    (hq : ∀ c : Fin 256, score q k (ix2 rr c) = s (K + c.val)) (hv : ∀ c : Fin 256, v (ix3 0 c lane) = vv (K + c.val)) :
    diagAcc q k v (ix2 rr lane) = from_ s vv r K := by
  unfold diagAcc
  rw [nextAcc_apply, ← from_block s vv r K hK, from_zero s vv r (K + 256) (by omega)]
  refine congr_arg₂ (· + ·) (by pointwise) (Finset.sum_congr rfl fun c _ => ?_)
  refine congr_arg₂ (· * ·) ?_ (hv c)
  show masked _ (ix2 rr c) = _
  rw [masked_apply]
  show (if c.val < rr.val then _ else _) = _
  by_cases hlt : c.val < rr.val
  · rw [if_pos hlt, weight_block s r K rr hK hsmall _ _ _ (diag_terms s r K rr hK hsmall q k hr hq) c (hq c) ?_ (by omega)]
    rw [tail_zero s r (K + 256) (by omega)]
    pointwise
  · rw [if_neg hlt, wt, if_neg (by omega)]

end Steps

end Cert.KernelIdeal.Stick
end
-- ==== Proof.Stick.Out.lean ====
/-
  The attention kernel's output array.

  A head is right after `n` trips when, for every query of the block, its carried sum is the sum of the log survival terms
  from the first key passed on, and its values are the weighted values from there on.  The step lemmas carry this through
  the loop, at whose end all keys are passed, so every grid point writes its block of the array of the rows' results.
-/
module

public import proofs.«01_k».proof.Proof.Stick.Head

@[expose] public section

set_option maxRecDepth 16384

noncomputable section

namespace Cert.KernelIdeal.Stick

open Idealize.ShloMosaic Idealize.ShloMosaic.TcCoe Idealize.ShloMosaic.Tactic
open Idealize.ShloMosaic.Pipeline (Dat)
open Cert.KernelIdeal Cert.KernelIdeal.Gen Cert.StickRow

variable (z : Acts) (b qi : ℕ)

/-- The block holds 256 rows from `R` on of one head's columns, which begin at `col`. -/
def Blk (col R : ℕ) (x : Vec Ideal S1x256x128 .bf16) : Prop :=
  ∀ (r : Fin 256) (d : Fin 128), x (ix3 0 r d) = fetch z b (R + r.val) (col + d.val)

/-- The block holds 256 rows from `R` on of a pair of heads' columns. -/
def Pair (col R : ℕ) (x : Vec Ideal S1x256x256 .bf16) : Prop :=
  ∀ i, x i = fetch z b (R + (i 1).val) (col + (i 2).val)

/-- The block holds all rows of a pair of heads' columns. -/
def Long (col : ℕ) (x : Vec Ideal S1x4096x256 .bf16) : Prop :=
  ∀ i, x i = fetch z b (i 1).val (col + (i 2).val)

/-- A head's state is right after `n` trips. -/
def Ok (h n : ℕ) (cy : Carry Ideal) (a : Acc Ideal) : Prop :=
  ∀ rr : Fin 256, cy (ix2 rr 0) = tail (sc z b h (256 * qi + rr.val)) (256 * qi + rr.val) (256 * (qi - n))
    ∧ ∀ d : Fin 128, a (ix2 rr d) = from_ (sc z b h (256 * qi + rr.val)) (vl z b h d.val) (256 * qi + rr.val) (256 * (qi - n))

theorem score_blk (h R R' : ℕ) (q k : Vec Ideal S1x256x128 .bf16) (hq : Blk z b (3840 + 128 * h) R q)
    (hk : Blk z b (4352 + 128 * h) R' k) (rr c : Fin 256) :
    score q k (ix2 rr c) = sc z b h (R + rr.val) (R' + c.val) := by
  rw [score_apply, sc]
  exact congrArg (· * _) (Finset.sum_congr rfl fun d _ => congr_arg₂ (· * ·) (hq rr d) (hk c d))

section Heads

variable (hz : Small z) (hb : b < 2) (hqi : qi < 16)
include hz hb hqi

theorem start_ok (h : ℕ) (hh : h < 4) (q k v : Vec Ideal S1x256x128 .bf16) (hq : Blk z b (3840 + 128 * h) (256 * qi) q)
    (hk : Blk z b (4352 + 128 * h) (256 * qi) k) (hv : Blk z b (4864 + 128 * h) (256 * qi) v) :
    Ok z b qi h 0 (diagCarry q k) (diagAcc q k v) := fun rr =>
  have hr := rr.isLt
  have hsm := hz b hb h hh (256 * qi + rr.val) (by omega)
  ⟨diagCarry_step _ _ (256 * qi) rr (by omega) hsm q k rfl (score_blk z b h _ _ q k hq hk rr),
    fun d => diagAcc_step _ _ _ (256 * qi) rr d (by omega) hsm q k v rfl (score_blk z b h _ _ q k hq hk rr)
      (fun c => hv c d)⟩

theorem step_ok (h n : ℕ) (hh : h < 4) (hn : n < qi) (q k v : Vec Ideal S1x256x128 .bf16)
    (hq : Blk z b (3840 + 128 * h) (256 * qi) q) (hk : Blk z b (4352 + 128 * h) (256 * (qi - 1 - n)) k)
    (hv : Blk z b (4864 + 128 * h) (256 * (qi - 1 - n)) v) (cy : Carry Ideal) (a : Acc Ideal) (hok : Ok z b qi h n cy a) :
    Ok z b qi h (n + 1) (offCarry q k cy) (offAcc q k v cy a) := fun rr => by
  have hr := rr.isLt
  have hsm := hz b hb h hh (256 * qi + rr.val) (by omega)
  have e : qi - (n + 1) = qi - 1 - n := by omega
  have e' : 256 * (qi - n) = 256 * (qi - 1 - n) + 256 := by omega
  have hc := (hok rr).1
  rw [e'] at hc
  rw [e]
  refine ⟨offCarry_step _ _ _ rr (by omega) hsm q k cy (by omega) (score_blk z b h _ _ q k hq hk rr) hc, fun d => ?_⟩
  have ha := (hok rr).2 d
  rw [e'] at ha
  exact offAcc_step _ _ _ _ rr d (by omega) hsm q k v cy a (by omega) (score_blk z b h _ _ q k hq hk rr)
    (fun c => hv c d) hc ha

end Heads

/-! ## The loads -/

theorem qL_blk (col R : ℕ) (x : Vec Ideal S1x256x256 .bf16) (hx : Pair z b col R x) : Blk z b col R (qL x) := fun r d => by
  refine (hx _).trans ?_
  show fetch z b (R + (0 + 1 * r.val)) (col + (0 + 1 * d.val)) = _
  congr 1 <;> omega

theorem qR_blk (col R : ℕ) (x : Vec Ideal S1x256x256 .bf16) (hx : Pair z b col R x) : Blk z b (col + 128) R (qR x) :=
  fun r d => by
  refine (hx _).trans ?_
  show fetch z b (R + (0 + 1 * r.val)) (col + (128 + 1 * d.val)) = _
  congr 1 <;> omega

theorem off_diag (i : grid0.Coords) : k0_off1 i 1 = 256 * (i 1).val ∧ k0_off1 i 2 = 0
    ∧ k0_off2 i 1 = 256 * (i 1).val ∧ k0_off2 i 2 = 128 := by
  have h : ∀ i : grid0.Coords, k0_off1 i 1 = 256 * (i 1).val ∧ k0_off1 i 2 = 0
    ∧ k0_off2 i 1 = 256 * (i 1).val ∧ k0_off2 i 2 = 128 := by decide +kernel
  exact h i

theorem off_trip (i : grid0.Coords) (k : Fin (k0_t1_loop i).trips) :
    k0_off3 i k 1 = 256 * ((i 1).val - 1 - k.val) ∧ k0_off3 i k 2 = 0
    ∧ k0_off4 i k 1 = 256 * ((i 1).val - 1 - k.val) ∧ k0_off4 i k 2 = 128 := by
  have h : ∀ (i : grid0.Coords) (k : Fin (k0_t1_loop i).trips),
    k0_off3 i k 1 = 256 * ((i 1).val - 1 - k.val) ∧ k0_off3 i k 2 = 0
    ∧ k0_off4 i k 1 = 256 * ((i 1).val - 1 - k.val) ∧ k0_off4 i k 2 = 128 := by decide +kernel
  exact h i k

theorem dL_blk (col : ℕ) (i : grid0.Coords) (x : Vec Ideal S1x4096x256 .bf16) (hx : Long z b col x) :
    Blk z b col (256 * (i 1).val) (dL i x) := fun r d => by
  refine (hx _).trans ?_
  show fetch z b (k0_off1 i 1 + 1 * r.val) (col + (k0_off1 i 2 + 1 * d.val)) = _
  rw [(off_diag i).1, (off_diag i).2.1]
  congr 1 <;> omega

theorem dR_blk (col : ℕ) (i : grid0.Coords) (x : Vec Ideal S1x4096x256 .bf16) (hx : Long z b col x) :
    Blk z b (col + 128) (256 * (i 1).val) (dR i x) := fun r d => by
  refine (hx _).trans ?_
  show fetch z b (k0_off2 i 1 + 1 * r.val) (col + (k0_off2 i 2 + 1 * d.val)) = _
  rw [(off_diag i).2.2.1, (off_diag i).2.2.2]
  congr 1 <;> omega

theorem tL_blk (col : ℕ) (i : grid0.Coords) (k : Fin (k0_t1_loop i).trips) (x : Vec Ideal S1x4096x256 .bf16)
    (hx : Long z b col x) : Blk z b col (256 * ((i 1).val - 1 - k.val)) (tL i k x) := fun r d => by
  refine (hx _).trans ?_
  show fetch z b (k0_off3 i k 1 + 1 * r.val) (col + (k0_off3 i k 2 + 1 * d.val)) = _
  rw [(off_trip i k).1, (off_trip i k).2.1]
  congr 1 <;> omega

theorem tR_blk (col : ℕ) (i : grid0.Coords) (k : Fin (k0_t1_loop i).trips) (x : Vec Ideal S1x4096x256 .bf16)
    (hx : Long z b col x) : Blk z b (col + 128) (256 * ((i 1).val - 1 - k.val)) (tR i k x) := fun r d => by
  refine (hx _).trans ?_
  show fetch z b (k0_off4 i k 1 + 1 * r.val) (col + (k0_off4 i k 2 + 1 * d.val)) = _
  rw [(off_trip i k).2.2.1, (off_trip i k).2.2.2]
  congr 1 <;> omega

/-! ## The loop -/

/-- The four heads of a state are right after `n` trips. -/
def AllOk (n : ℕ) (s : State Ideal) : Prop :=
  Ok z b qi 0 n s.1 s.2.1 ∧ Ok z b qi 1 n s.2.2.1 s.2.2.2.1 ∧ Ok z b qi 2 n s.2.2.2.2.1 s.2.2.2.2.2.1
    ∧ Ok z b qi 3 n s.2.2.2.2.2.2.1 s.2.2.2.2.2.2.2

/-- The rows' results, as an array. -/
def value (z : Acts) (j : S2x4096x512.Idx) : EReal :=
  row (sc z (j 0).val ((j 2).val / 128) (j 1).val) (vl z (j 0).val ((j 2).val / 128) ((j 2).val % 128)) (j 1).val

/-- What a head that has passed all keys stores. -/
theorem stored_ok (h : ℕ) (cy : Carry Ideal) (a : Acc Ideal) (hok : Ok z b qi h qi cy a) (x : S1x256x128.Idx) (l : ℕ)
    (hl : l = 128 * h + (x 2).val) :
    stored a x = row (sc z b (l / 128) (256 * qi + (x 1).val)) (vl z b (l / 128) (l % 128)) (256 * qi + (x 1).val) := by
  have hx : (x 2).val < 128 := (x 2).isLt
  have e1 : l / 128 = h := by omega
  have e2 : l % 128 = (x 2).val := by omega
  have e3 := (hok (x 1)).2 (x 2)
  rw [Nat.sub_self, Nat.mul_zero, from_row] at e3
  rw [e1, e2]
  refine Eq.trans ?_ e3
  unfold stored
  pointwise

section Loop

variable (x0 x1 : Vec Ideal S1x256x256 .bf16) (x2 x3 x4 x5 : Vec Ideal S1x4096x256 .bf16) (i : grid0.Coords)
  (hz : Small z) (hb : b < 2)
  (h0 : Pair z b 3840 (256 * (i 1).val) x0) (h1 : Pair z b 4096 (256 * (i 1).val) x1)
  (h2 : Long z b 4352 x2) (h3 : Long z b 4608 x3) (h4 : Long z b 4864 x4) (h5 : Long z b 5120 x5)
include hz hb h0 h1 h2 h3 h4 h5

theorem stateAt_ok (n : ℕ) (hn : n ≤ (i 1).val) : AllOk z b (i 1).val n (stateAt x0 x1 x2 x3 x4 x5 i n) := by
  have hqi : (i 1).val < 16 := (i 1).isLt
  induction n with
  | zero =>
    exact ⟨start_ok z b _ hz hb hqi 0 (by omega) _ _ _ (qL_blk z b _ _ _ h0) (dL_blk z b _ _ _ h2) (dL_blk z b _ _ _ h4),
      start_ok z b _ hz hb hqi 1 (by omega) _ _ _ (qR_blk z b _ _ _ h0) (dR_blk z b _ _ _ h2) (dR_blk z b _ _ _ h4),
      start_ok z b _ hz hb hqi 2 (by omega) _ _ _ (qL_blk z b _ _ _ h1) (dL_blk z b _ _ _ h3) (dL_blk z b _ _ _ h5),
      start_ok z b _ hz hb hqi 3 (by omega) _ _ _ (qR_blk z b _ _ _ h1) (dR_blk z b _ _ _ h3) (dR_blk z b _ _ _ h5)⟩
  | succ n ih =>
    have hlt : n < (k0_t1_loop i).trips := by rw [trips_eq]; omega
    have hlt' : n < (i 1).val := hn
    obtain ⟨o0, o1, o2, o3⟩ := ih (by omega)
    rw [stateAt, dif_pos hlt]
    exact ⟨step_ok z b _ hz hb hqi 0 n (by omega) hlt' _ _ _ (qL_blk z b _ _ _ h0) (tL_blk z b _ i ⟨n, hlt⟩ _ h2)
        (tL_blk z b _ i ⟨n, hlt⟩ _ h4) _ _ o0,
      step_ok z b _ hz hb hqi 1 n (by omega) hlt' _ _ _ (qR_blk z b _ _ _ h0) (tR_blk z b _ i ⟨n, hlt⟩ _ h2)
        (tR_blk z b _ i ⟨n, hlt⟩ _ h4) _ _ o1,
      step_ok z b _ hz hb hqi 2 n (by omega) hlt' _ _ _ (qL_blk z b _ _ _ h1) (tL_blk z b _ i ⟨n, hlt⟩ _ h3)
        (tL_blk z b _ i ⟨n, hlt⟩ _ h5) _ _ o2,
      step_ok z b _ hz hb hqi 3 n (by omega) hlt' _ _ _ (qR_blk z b _ _ _ h1) (tR_blk z b _ i ⟨n, hlt⟩ _ h3)
        (tR_blk z b _ i ⟨n, hlt⟩ _ h5) _ _ o3⟩

/-- What the body stores, read at an index of the block. -/
theorem stores_apply (y : S1x256x512.Idx) :
    View.canon (stores (final x0 x1 x2 x3 x4 x5 i)) y
      = row (sc z b ((y 2).val / 128) (256 * (i 1).val + (y 1).val)) (vl z b ((y 2).val / 128) ((y 2).val % 128))
          (256 * (i 1).val + (y 1).val) := by
  obtain ⟨o0, o1, o2, o3⟩ := stateAt_ok z b x0 x1 x2 x3 x4 x5 i hz hb h0 h1 h2 h3 h4 h5 _ le_rfl
  unfold stores final
  canon_tiles x h
  all_goals rw [h1]
  · exact stored_ok z b _ 3 _ _ o3 x _ h2
  · exact stored_ok z b _ 2 _ _ o2 x _ h2
  · exact stored_ok z b _ 1 _ _ o1 x _ h2
  · exact stored_ok z b _ 0 _ _ o0 x _ (by omega)

end Loop

/-! ## The windows -/

section Windows

variable (m : (ℓ : Loc nD τ sig) → Buf (Elt Ideal) ℓ) (c : Dev nD) (t : Fin cfg0.N)

/-- The activations as the kernel finds them. -/
abbrev acts : Acts := m ((c : Thread nD τ).loc main_arg0)

theorem idx_all (t : Fin grid0.N) :
    (win0_0.index t 0 = (grid0.coords t 0).val ∧ win0_0.index t 1 = (grid0.coords t 1).val ∧ win0_0.index t 2 = 15)
    ∧ (win0_1.index t 0 = (grid0.coords t 0).val ∧ win0_1.index t 1 = (grid0.coords t 1).val ∧ win0_1.index t 2 = 16)
    ∧ (win0_2.index t 0 = (grid0.coords t 0).val ∧ win0_2.index t 1 = 0 ∧ win0_2.index t 2 = 17)
    ∧ (win0_3.index t 0 = (grid0.coords t 0).val ∧ win0_3.index t 1 = 0 ∧ win0_3.index t 2 = 18)
    ∧ (win0_4.index t 0 = (grid0.coords t 0).val ∧ win0_4.index t 1 = 0 ∧ win0_4.index t 2 = 19)
    ∧ (win0_5.index t 0 = (grid0.coords t 0).val ∧ win0_5.index t 1 = 0 ∧ win0_5.index t 2 = 20)
    ∧ (win0_6.index t 0 = (grid0.coords t 0).val ∧ win0_6.index t 1 = (grid0.coords t 1).val ∧ win0_6.index t 2 = 0) := by
  have h : ∀ t : Fin grid0.N,
    (win0_0.index t 0 = (grid0.coords t 0).val ∧ win0_0.index t 1 = (grid0.coords t 1).val ∧ win0_0.index t 2 = 15)
    ∧ (win0_1.index t 0 = (grid0.coords t 0).val ∧ win0_1.index t 1 = (grid0.coords t 1).val ∧ win0_1.index t 2 = 16)
    ∧ (win0_2.index t 0 = (grid0.coords t 0).val ∧ win0_2.index t 1 = 0 ∧ win0_2.index t 2 = 17)
    ∧ (win0_3.index t 0 = (grid0.coords t 0).val ∧ win0_3.index t 1 = 0 ∧ win0_3.index t 2 = 18)
    ∧ (win0_4.index t 0 = (grid0.coords t 0).val ∧ win0_4.index t 1 = 0 ∧ win0_4.index t 2 = 19)
    ∧ (win0_5.index t 0 = (grid0.coords t 0).val ∧ win0_5.index t 1 = 0 ∧ win0_5.index t 2 = 20)
    ∧ (win0_6.index t 0 = (grid0.coords t 0).val ∧ win0_6.index t 1 = (grid0.coords t 1).val ∧ win0_6.index t 2 = 0) := by
    decide +kernel
  exact h t

theorem pair0 : Pair (acts m c) (grid0.coords t 0).val 3840 (256 * (grid0.coords t 1).val) (iblk m c 0 t) := fun y => by
  obtain ⟨⟨e0, e1, e2⟩, -⟩ := idx_all t
  have hy : (y 0).val < 1 := (y 0).isLt
  refine fetch_eq (acts m c) _ _ _ _ ?_ ?_ ?_
  · show win0_0.index t 0 * 1 + 1 * (y 0).val = _
    rw [e0]; omega
  · show win0_0.index t 1 * 256 + 1 * (y 1).val = _
    rw [e1]; omega
  · show win0_0.index t 2 * 256 + 1 * (y 2).val = _
    rw [e2]; omega

theorem pair1 : Pair (acts m c) (grid0.coords t 0).val 4096 (256 * (grid0.coords t 1).val) (iblk m c 1 t) := fun y => by
  obtain ⟨-, ⟨e0, e1, e2⟩, -⟩ := idx_all t
  have hy : (y 0).val < 1 := (y 0).isLt
  refine fetch_eq (acts m c) _ _ _ _ ?_ ?_ ?_
  · show win0_1.index t 0 * 1 + 1 * (y 0).val = _
    rw [e0]; omega
  · show win0_1.index t 1 * 256 + 1 * (y 1).val = _
    rw [e1]; omega
  · show win0_1.index t 2 * 256 + 1 * (y 2).val = _
    rw [e2]; omega

theorem long2 : Long (acts m c) (grid0.coords t 0).val 4352 (iblk m c 2 t) := fun y => by
  obtain ⟨-, -, ⟨e0, e1, e2⟩, -⟩ := idx_all t
  have hy : (y 0).val < 1 := (y 0).isLt
  refine fetch_eq (acts m c) _ _ _ _ ?_ ?_ ?_
  · show win0_2.index t 0 * 1 + 1 * (y 0).val = _
    rw [e0]; omega
  · show win0_2.index t 1 * 4096 + 1 * (y 1).val = _
    rw [e1]; omega
  · show win0_2.index t 2 * 256 + 1 * (y 2).val = _
    rw [e2]; omega

theorem long3 : Long (acts m c) (grid0.coords t 0).val 4608 (iblk m c 3 t) := fun y => by
  obtain ⟨-, -, -, ⟨e0, e1, e2⟩, -⟩ := idx_all t
  have hy : (y 0).val < 1 := (y 0).isLt
  refine fetch_eq (acts m c) _ _ _ _ ?_ ?_ ?_
  · show win0_3.index t 0 * 1 + 1 * (y 0).val = _
    rw [e0]; omega
  · show win0_3.index t 1 * 4096 + 1 * (y 1).val = _
    rw [e1]; omega
  · show win0_3.index t 2 * 256 + 1 * (y 2).val = _
    rw [e2]; omega

theorem long4 : Long (acts m c) (grid0.coords t 0).val 4864 (iblk m c 4 t) := fun y => by
  obtain ⟨-, -, -, -, ⟨e0, e1, e2⟩, -⟩ := idx_all t
  have hy : (y 0).val < 1 := (y 0).isLt
  refine fetch_eq (acts m c) _ _ _ _ ?_ ?_ ?_
  · show win0_4.index t 0 * 1 + 1 * (y 0).val = _
    rw [e0]; omega
  · show win0_4.index t 1 * 4096 + 1 * (y 1).val = _
    rw [e1]; omega
  · show win0_4.index t 2 * 256 + 1 * (y 2).val = _
    rw [e2]; omega

theorem long5 : Long (acts m c) (grid0.coords t 0).val 5120 (iblk m c 5 t) := fun y => by
  obtain ⟨-, -, -, -, -, ⟨e0, e1, e2⟩, -⟩ := idx_all t
  have hy : (y 0).val < 1 := (y 0).isLt
  refine fetch_eq (acts m c) _ _ _ _ ?_ ?_ ?_
  · show win0_5.index t 0 * 1 + 1 * (y 0).val = _
    rw [e0]; omega
  · show win0_5.index t 1 * 4096 + 1 * (y 1).val = _
    rw [e1]; omega
  · show win0_5.index t 2 * 256 + 1 * (y 2).val = _
    rw [e2]; omega

/-- What a point writes back is its block of the rows' results. -/
theorem flushed_eq (hz : Small (acts m c)) :
    (dats m 0 c).flushed 6 t = ((cfg0.win 6).blk t).view.read (Elt Ideal) (value (acts m c)) := by
  obtain ⟨-, -, -, -, -, -, ⟨e0, e1, e2⟩⟩ := idx_all t
  rw [Value.flushed6_A]
  funext y
  show out0_A_6 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (iblk m c 0 t) (iblk m c 1 t) (iblk m c 2 t)
    (iblk m c 3 t) (iblk m c 4 t) (iblk m c 5 t) y = _
  unfold out0_A_6
  rw [View.read_writes_eq_canon _ _ _ (fun y => cover0_A_6 (y := y) ..), pieces_eq]
  rw [stores_apply (acts m c) (grid0.coords t 0).val _ _ _ _ _ _ _ hz (grid0.coords t 0).isLt (pair0 m c t) (pair1 m c t)
    (long2 m c t) (long3 m c t) (long4 m c t) (long5 m c t)]
  have hy : (y 0).val < 1 := (y 0).isLt
  have f0 : ((((cfg0.win 6).blk t).view.emb y) 0).val = (grid0.coords t 0).val := by
    show win0_6.index t 0 * 1 + 1 * (y 0).val = _
    rw [e0]; omega
  have f1 : ((((cfg0.win 6).blk t).view.emb y) 1).val = 256 * (grid0.coords t 1).val + (y 1).val := by
    show win0_6.index t 1 * 256 + 1 * (y 1).val = _
    rw [e1]; omega
  have f2 : ((((cfg0.win 6).blk t).view.emb y) 2).val = (y 2).val := by
    show win0_6.index t 2 * 512 + 1 * (y 2).val = _
    rw [e2]; omega
  show _ = value (acts m c) (((cfg0.win 6).blk t).view.emb y)
  unfold value
  rw [f0, f1, f2]

/-- The blocks tile the array. -/
theorem cover (j : S2x4096x512.Idx) :
    ∃ t : Fin cfg0.N, (cfg0.win 6).flush t = true ∧ j ∈ ((cfg0.win 6).blk t).view.set := by
  have b0 : (j 0).val < 2 := (j 0).isLt
  have b1 : (j 1).val < 4096 := (j 1).isLt
  have b2 : (j 2).val < 512 := (j 2).isLt
  have pts : ∀ (b : Fin 2) (q : Fin 16), ∃ t : Fin grid0.N, (grid0.coords t 0).val = b.val ∧ (grid0.coords t 1).val = q.val := by
    decide +kernel
  obtain ⟨t, ht0, ht1⟩ := pts ⟨(j 0).val, b0⟩ ⟨(j 1).val / 256, by omega⟩
  obtain ⟨-, -, -, -, -, -, ⟨e0, e1, e2⟩⟩ := idx_all t
  refine ⟨t, flush0_6 t, ?_⟩
  show j ∈ ((View.whole main_v0).slice (win0_6.rect t)).set
  rw [View.set_slice_whole, Rect.mem_set_unit]
  intro a
  match a with
  | ⟨0, _⟩ =>
    show win0_6.index t 0 * 1 ≤ (j 0).val ∧ (j 0).val < win0_6.index t 0 * 1 + 1
    rw [e0, ht0]; dsimp only; omega
  | ⟨1, _⟩ =>
    show win0_6.index t 1 * 256 ≤ (j 1).val ∧ (j 1).val < win0_6.index t 1 * 256 + 256
    rw [e1, ht1]; dsimp only; omega
  | ⟨2, _⟩ =>
    show win0_6.index t 2 * 512 ≤ (j 2).val ∧ (j 2).val < win0_6.index t 2 * 512 + 512
    rw [e2]; omega

/-- The kernel's output array is the array of the rows' results. -/
theorem final_array (hz : Small (acts m c)) : (dats m 0 c).arrAt 6 cfg0.N = value (acts m c) :=
  (dats m 0 c).arrAt_eq_of_cover 6 (value (acts m c)) (fun t _ => flushed_eq m c t hz) cover

end Windows

end Cert.KernelIdeal.Stick
end
-- ==== Proof.Norm.lean ====
/-
  The layer's norms, as terms over the extended reals.
-/
module

public import Idealize.ShloMosaic.PureOps.Ideal

@[expose] public section

noncomputable section

namespace Cert.Norm

open Idealize.ShloMosaic

/-- The RMS norm of a row of length `len` with gain `g`; the summand beside the mean square is the float nearest 1e-6. -/
def rms {n : ℕ} (len : EReal) (x g : Fin n → EReal) (k : Fin n) : EReal :=
  x k * Ideal.rsqrt (Ideal.div (∑ d, x d * x d) len + Ideal.ofBits FTy.f32 897988541#32) * g k

/-- The modulated norm of a row of 2048. -/
def adaln (x g scale shift : Fin 2048 → EReal) (k : Fin 2048) : EReal :=
  rms (Ideal.ofBits FTy.f32 1157627904#32) x g k * (1 + scale k) + shift k

/-- The batch and the position of a row of the flattened activations. -/
def batch (r : ℕ) (h : r < 8192) : Fin 2 := ⟨r / 4096, by omega⟩
def pos (r : ℕ) : Fin 4096 := ⟨r % 4096, Nat.mod_lt _ (by decide)⟩

end Cert.Norm

end
-- ==== Proof.Proj.Out.lean ====
/-
  The input projection's output array.

  The scratch holds the modulated norms of a block of rows from the block's first grid point on, so every point multiplies
  these by its columns of the weights.
-/
module

public import proofs.«01_k».proof.Proof.Gen.Kernel2Ideal.Value
public import Idealize.ShloMosaic.Lib.Pipeline.ValueKit
public import Idealize.ShloMosaic.Lib.Pointwise
public import proofs.«01_k».proof.Proof.Norm

@[expose] public section

set_option maxRecDepth 16384

noncomputable section

namespace Cert.Kernel2Ideal.Proj

open Idealize.ShloMosaic Idealize.ShloMosaic.TcCoe Idealize.ShloMosaic.Tactic
open Idealize.ShloMosaic.Pipeline (Dat)
open Cert.Kernel2Ideal Cert.Kernel2Ideal.Gen Cert.Norm

/-! ## The body's two payloads at an index -/

theorem normed_apply (x : Vec Ideal S1024x2048 .f32) (g : Vec Ideal S1x2048 .f32) (sc sh : Vec Ideal S1x1x2048 .f32)
    (r : Fin 1024) (k : Fin 2048) :
    k0_pay1 x g sc sh (ix2 r k)
      = adaln (fun d => x (ix2 r d)) (fun d => g (ix2 0 d)) (fun d => sc (ix3 0 0 d)) (fun d => sh (ix3 0 0 d)) k := by
  unfold k0_pay1 adaln rms
  pointwise

theorem product_apply (h : Vec Ideal S1024x2048 .bf16) (w : Vec Ideal S1x2048x1792 .bf16) (r : Fin 1024) (n : Fin 1792) :
    k0_pay2 h w (ix2 r n) = ∑ k, h (ix2 r k) * w (ix3 0 k n) := by
  unfold k0_pay2
  pointwise

/-! ## What the run leaves -/

variable (m : (ℓ : Loc nD τ sig) → Buf (Elt Ideal) ℓ) (c : Dev nD)

theorem scratch_first (t : Fin cfg0.N) (h : t.val % 3 = 0) :
    (outsAt0 m c t.val t.isLt).2 = k0_pay1 (iblk m c 0 t) (iblk m c 1 t) (iblk m c 2 t) (iblk m c 3 t) := by
  rw [outsAt0_A m c t h]
  dsimp only
  frame_out

theorem out_first (t : Fin cfg0.N) (h : t.val % 3 = 0) :
    (outsAt0 m c t.val t.isLt).1 = k0_pay2 (outsAt0 m c t.val t.isLt).2 (iblk m c 4 t) := by
  rw [scratch_first m c t h, outsAt0_A m c t h]
  dsimp only
  frame_out

theorem out_later (t : Fin cfg0.N) (h : ¬ t.val % 3 = 0) :
    (outsAt0 m c t.val t.isLt).1 = k0_pay2 (outsAt0 m c t.val t.isLt).2 (iblk m c 4 t) := by
  rw [outsAt0_B m c t h]
  dsimp only
  frame_out
  exact congrArg (fun s => k0_pay2 s (iblk m c 4 t)) ((Memref.isWhole_whole cc0_scratch0).read_unread _)

theorem scratch_later (n : ℕ) (hn : n + 1 < cfg0.N) (h : ¬ (n + 1) % 3 = 0) :
    (outsAt0 m c (n + 1) hn).2 = (outsAt0 m c n (by omega)).2 := by
  have e := outsAt0_B m c ⟨n + 1, hn⟩ h
  dsimp only at e
  rw [e]
  rfl

/-! ## The windows -/

theorem idx_all (t : Fin grid0.N) :
    (win0_0.index t 0 = t.val / 3 ∧ win0_0.index t 1 = 0)
    ∧ (win0_1.index t 0 = 0 ∧ win0_1.index t 1 = 0)
    ∧ (win0_2.index t 0 = t.val / 12 ∧ win0_2.index t 1 = 0 ∧ win0_2.index t 2 = 0)
    ∧ (win0_3.index t 0 = t.val / 12 ∧ win0_3.index t 1 = 0 ∧ win0_3.index t 2 = 0)
    ∧ (win0_4.index t 0 = 0 ∧ win0_4.index t 1 = 0 ∧ win0_4.index t 2 = t.val % 3)
    ∧ (win0_5.index t 0 = t.val / 3 ∧ win0_5.index t 1 = t.val % 3) := by
  have h : ∀ t : Fin grid0.N,
    (win0_0.index t 0 = t.val / 3 ∧ win0_0.index t 1 = 0)
    ∧ (win0_1.index t 0 = 0 ∧ win0_1.index t 1 = 0)
    ∧ (win0_2.index t 0 = t.val / 12 ∧ win0_2.index t 1 = 0 ∧ win0_2.index t 2 = 0)
    ∧ (win0_3.index t 0 = t.val / 12 ∧ win0_3.index t 1 = 0 ∧ win0_3.index t 2 = 0)
    ∧ (win0_4.index t 0 = 0 ∧ win0_4.index t 1 = 0 ∧ win0_4.index t 2 = t.val % 3)
    ∧ (win0_5.index t 0 = t.val / 3 ∧ win0_5.index t 1 = t.val % 3) := by
    decide +kernel
  exact h t

/-- The arguments. -/
abbrev argX : Vec Ideal S2x4096x2048 .f32 := m ((c : Thread nD τ).loc main_arg0)
abbrev argMod : Vec Ideal S2x2x12288 .f32 := m ((c : Thread nD τ).loc main_arg1)
abbrev argG : Vec Ideal S2x2048 .f32 := m ((c : Thread nD τ).loc main_arg2)
abbrev argW : Vec Ideal S2x2048x5376 .f32 := m ((c : Thread nD τ).loc main_arg3)

theorem host_x : V m c main_v18 = shapeCast S8192x2048 (argX m c) shapeCasts_S2x4096x2048_S8192x2048 := by
  unfold V hostOps0; after_results_simp <;> rfl
theorem host_scale : V m c main_v5 = shapeCast S2x1x2048 (shapeCast S2x2048 (extractStridedSlice S1x2x2048 ![0, 0, 2048]
    (argMod m c) slices_S2x2x12288_S1x2x2048_0_0_2048) shapeCasts_S1x2x2048_S2x2048) shapeCasts_S2x2048_S2x1x2048 := by
  unfold V hostOps0; after_results_simp <;> rfl
theorem host_shift : V m c main_v2 = shapeCast S2x1x2048 (shapeCast S2x2048 (extractStridedSlice S1x2x2048 ![0, 0, 0]
    (argMod m c) slices_S2x2x12288_S1x2x2048_0_0_0) shapeCasts_S1x2x2048_S2x2048) shapeCasts_S2x2048_S2x1x2048 := by
  unfold V hostOps0; after_results_simp <;> rfl
theorem host_g : V m c main_v21 = shapeCast S1x2048 (shapeCast S2048 (extractStridedSlice S1x2048 ![0, 0] (argG m c)
    slices_S2x2048_S1x2048_0_0) shapeCasts_S1x2048_S2048) shapeCasts_S2048_S1x2048 := by
  unfold V hostOps0; after_results_simp <;> rfl
theorem host_w : V m c main_v22 = (truncf .bf16 (argW m c) bitsLt_bf16_f32 : FVec Ideal S2x2048x5376 .bf16) := by
  unfold V hostOps0; after_results_simp <;> rfl

/-! ## The input blocks at an index -/

variable (t : Fin cfg0.N)

theorem points : t.val < 24 := by
  have h : ∀ t : Fin grid0.N, t.val < 24 := by decide +kernel
  exact h t

theorem blk_x (r : Fin 1024) (k : Fin 2048) (R : ℕ) (hR : R < 8192) (e : R = 1024 * (t.val / 3) + r.val) :
    iblk m c 0 t (ix2 r k) = argX m c (ix3 (batch R hR) (pos R) k) := by
  obtain ⟨⟨e0, e1⟩, -⟩ := idx_all t
  show V m c main_v18 ((((cfg0.win 0).blk t).view.emb (ix2 r k)) : S8192x2048.Idx) = _
  have f : ((((cfg0.win 0).blk t).view.emb (ix2 r k)) : S8192x2048.Idx) = ix2 ⟨R, hR⟩ k := by
    funext a
    match a with
    | ⟨0, _⟩ => exact Fin.ext (show win0_0.index t 0 * 1024 + 1 * r.val = R by rw [e0]; omega)
    | ⟨1, _⟩ => exact Fin.ext (show win0_0.index t 1 * 2048 + 1 * k.val = k.val by rw [e1]; omega)
  rw [f, host_x]
  pointwise
  rfl

theorem blk_g (k : Fin 2048) : iblk m c 1 t (ix2 0 k) = argG m c (ix2 0 k) := by
  obtain ⟨-, ⟨e0, e1⟩, -⟩ := idx_all t
  show V m c main_v21 ((((cfg0.win 1).blk t).view.emb (ix2 0 k)) : S1x2048.Idx) = _
  have f : ((((cfg0.win 1).blk t).view.emb (ix2 0 k)) : S1x2048.Idx) = ix2 0 k := by
    funext a
    match a with
    | ⟨0, _⟩ => exact Fin.ext (show win0_1.index t 0 * 1 + 1 * 0 = 0 by rw [e0])
    | ⟨1, _⟩ => exact Fin.ext (show win0_1.index t 1 * 2048 + 1 * k.val = k.val by rw [e1]; omega)
  rw [f, host_g]
  pointwise

theorem blk_scale (k : Fin 2048) (b : Fin 2) (e : b.val = t.val / 12) :
    iblk m c 2 t (ix3 0 0 k) = argMod m c (ix3 0 b ⟨2048 + k.val, by omega⟩) := by
  obtain ⟨-, -, ⟨e0, e1, e2⟩, -⟩ := idx_all t
  show V m c main_v5 ((((cfg0.win 2).blk t).view.emb (ix3 0 0 k)) : S2x1x2048.Idx) = _
  have f : ((((cfg0.win 2).blk t).view.emb (ix3 0 0 k)) : S2x1x2048.Idx) = ix3 b 0 k := by
    funext a
    match a with
    | ⟨0, _⟩ => exact Fin.ext (show win0_2.index t 0 * 1 + 1 * 0 = b.val by rw [e0]; omega)
    | ⟨1, _⟩ => exact Fin.ext (show win0_2.index t 1 * 1 + 1 * 0 = 0 by rw [e1])
    | ⟨2, _⟩ => exact Fin.ext (show win0_2.index t 2 * 2048 + 1 * k.val = k.val by rw [e2]; omega)
  rw [f, host_scale]
  pointwise

theorem blk_shift (k : Fin 2048) (b : Fin 2) (e : b.val = t.val / 12) :
    iblk m c 3 t (ix3 0 0 k) = argMod m c (ix3 0 b ⟨k.val, by omega⟩) := by
  obtain ⟨-, -, -, ⟨e0, e1, e2⟩, -⟩ := idx_all t
  show V m c main_v2 ((((cfg0.win 3).blk t).view.emb (ix3 0 0 k)) : S2x1x2048.Idx) = _
  have f : ((((cfg0.win 3).blk t).view.emb (ix3 0 0 k)) : S2x1x2048.Idx) = ix3 b 0 k := by
    funext a
    match a with
    | ⟨0, _⟩ => exact Fin.ext (show win0_3.index t 0 * 1 + 1 * 0 = b.val by rw [e0]; omega)
    | ⟨1, _⟩ => exact Fin.ext (show win0_3.index t 1 * 1 + 1 * 0 = 0 by rw [e1])
    | ⟨2, _⟩ => exact Fin.ext (show win0_3.index t 2 * 2048 + 1 * k.val = k.val by rw [e2]; omega)
  rw [f, host_shift]
  pointwise

theorem blk_w (k : Fin 2048) (n : Fin 1792) (N : Fin 5376) (e : N.val = 1792 * (t.val % 3) + n.val) :
    iblk m c 4 t (ix3 0 k n) = argW m c (ix3 0 k N) := by
  obtain ⟨-, -, -, -, ⟨e0, e1, e2⟩, -⟩ := idx_all t
  show V m c main_v22 ((((cfg0.win 4).blk t).view.emb (ix3 0 k n)) : S2x2048x5376.Idx) = _
  have f : ((((cfg0.win 4).blk t).view.emb (ix3 0 k n)) : S2x2048x5376.Idx) = ix3 0 k N := by
    funext a
    match a with
    | ⟨0, _⟩ => exact Fin.ext (show win0_4.index t 0 * 1 + 1 * 0 = 0 by rw [e0])
    | ⟨1, _⟩ => exact Fin.ext (show win0_4.index t 1 * 2048 + 1 * k.val = k.val by rw [e1]; omega)
    | ⟨2, _⟩ => exact Fin.ext (show win0_4.index t 2 * 1792 + 1 * n.val = N.val by rw [e2]; omega)
  rw [f, host_w]
  pointwise

/-! ## The scratch -/

/-- The modulated norms of a row of the flattened activations. -/
def normedRow (x : Vec Ideal S2x4096x2048 .f32) (md : Vec Ideal S2x2x12288 .f32) (g : Vec Ideal S2x2048 .f32)
    (R : ℕ) (hR : R < 8192) (k : Fin 2048) : EReal :=
  adaln (fun d => x (ix3 (batch R hR) (pos R) d)) (fun d => g (ix2 0 d))
    (fun d => md (ix3 0 (batch R hR) ⟨2048 + d.val, by omega⟩)) (fun d => md (ix3 0 (batch R hR) ⟨d.val, by omega⟩)) k

/-- The projection of the norms. -/
def value (x : Vec Ideal S2x4096x2048 .f32) (md : Vec Ideal S2x2x12288 .f32) (g : Vec Ideal S2x2048 .f32)
    (w : Vec Ideal S2x2048x5376 .f32) (j : S8192x5376.Idx) : EReal :=
  ∑ k, normedRow x md g (j 0).val (j 0).isLt k * w (ix3 0 k (j 1))

theorem stored_norms (h : t.val % 3 = 0) (r : Fin 1024) (k : Fin 2048) (R : ℕ) (hR : R < 8192)
    (e : R = 1024 * (t.val / 3) + r.val) :
    (outsAt0 m c t.val t.isLt).2 (ix2 r k) = normedRow (argX m c) (argMod m c) (argG m c) R hR k := by
  have eb : (batch R hR).val = t.val / 12 := by
    show R / 4096 = _
    omega
  rw [scratch_first m c t h, normed_apply]
  unfold normedRow
  congr 1
  · funext d; exact blk_x m c t r d R hR e
  · funext d; exact blk_g m c t d
  · funext d; exact blk_scale m c t d _ eb
  · funext d; exact blk_shift m c t d _ eb

theorem scratch_norms (n : ℕ) : ∀ (hn : n < cfg0.N) (r : Fin 1024) (k : Fin 2048) (R : ℕ) (hR : R < 8192),
    R = 1024 * (n / 3) + r.val →
    (outsAt0 m c n hn).2 (ix2 r k) = normedRow (argX m c) (argMod m c) (argG m c) R hR k := by
  induction n with
  | zero => exact fun hn r k R hR e => stored_norms m c ⟨0, hn⟩ rfl r k R hR e
  | succ n ih =>
    intro hn r k R hR e
    by_cases h : (n + 1) % 3 = 0
    · exact stored_norms m c ⟨n + 1, hn⟩ h r k R hR e
    · rw [scratch_later m c n hn h]
      exact ih _ r k R hR (by omega)

/-! ## The output -/

theorem flushed_eq : (dats m 0 c).flushed 5 t
    = ((cfg0.win 5).blk t).view.read (Elt Ideal) (value (argX m c) (argMod m c) (argG m c) (argW m c)) := by
  obtain ⟨-, -, -, -, -, ⟨e0, e1⟩⟩ := idx_all t
  have ht := points t
  rw [Value.flushed5]
  funext y
  show (outsAt0 m c t.val t.isLt).1 y = value (argX m c) (argMod m c) (argG m c) (argW m c) (((cfg0.win 5).blk t).view.emb y)
  have hp : (outsAt0 m c t.val t.isLt).1 = k0_pay2 (outsAt0 m c t.val t.isLt).2 (iblk m c 4 t) := by
    by_cases h : t.val % 3 = 0
    · exact out_first m c t h
    · exact out_later m c t h
  have y0 : (y 0).val < 1024 := (y 0).isLt
  have y1 : (y 1).val < 1792 := (y 1).isLt
  have f0 : ((((cfg0.win 5).blk t).view.emb y) 0).val = 1024 * (t.val / 3) + (y 0).val := by
    show win0_5.index t 0 * 1024 + 1 * (y 0).val = _
    rw [e0]; omega
  have f1 : ((((cfg0.win 5).blk t).view.emb y) 1).val = 1792 * (t.val % 3) + (y 1).val := by
    show win0_5.index t 1 * 1792 + 1 * (y 1).val = _
    rw [e1]; omega
  refine (congrFun hp y).trans ((congrArg _ (eq_ix2 (n0 := 1024) (n1 := 1792) y)).trans
    ((product_apply _ _ (y 0) (y 1)).trans ?_))
  refine Finset.sum_congr rfl fun k _ => congr_arg₂ (· * ·) ?_ ?_
  · exact scratch_norms m c t.val t.isLt (y 0) k _ _ f0
  · exact blk_w m c t k (y 1) _ f1

theorem cover (j : S8192x5376.Idx) :
    ∃ t : Fin cfg0.N, (cfg0.win 5).flush t = true ∧ j ∈ ((cfg0.win 5).blk t).view.set := by
  have b0 : (j 0).val < 8192 := (j 0).isLt
  have b1 : (j 1).val < 5376 := (j 1).isLt
  have pts : ∀ (q : Fin 8) (n : Fin 3), ∃ t : Fin grid0.N, t.val / 3 = q.val ∧ t.val % 3 = n.val := by
    decide +kernel
  obtain ⟨t, ht0, ht1⟩ := pts ⟨(j 0).val / 1024, by omega⟩ ⟨(j 1).val / 1792, by omega⟩
  obtain ⟨-, -, -, -, -, ⟨e0, e1⟩⟩ := idx_all t
  refine ⟨t, flush0_5 t, ?_⟩
  show j ∈ ((View.whole main_v23).slice (win0_5.rect t)).set
  rw [View.set_slice_whole, Rect.mem_set_unit]
  intro a
  match a with
  | ⟨0, _⟩ =>
    show win0_5.index t 0 * 1024 ≤ (j 0).val ∧ (j 0).val < win0_5.index t 0 * 1024 + 1024
    rw [e0, ht0]; dsimp only; omega
  | ⟨1, _⟩ =>
    show win0_5.index t 1 * 1792 ≤ (j 1).val ∧ (j 1).val < win0_5.index t 1 * 1792 + 1792
    rw [e1, ht1]; dsimp only; omega

/-- The kernel's output array is the projection of the norms. -/
theorem final_array : (dats m 0 c).arrAt 5 cfg0.N = value (argX m c) (argMod m c) (argG m c) (argW m c) :=
  (dats m 0 c).arrAt_eq_of_cover 5 _ (fun t _ => flushed_eq m c t) cover

end Cert.Kernel2Ideal.Proj

end
-- ==== Proof.Proj.Ref.lean ====
/-
  The reference's run ends with the projection of the modulated norms.
-/
module

public import proofs.«01_k».proof.Proof.Gen.Reference2Ideal.Run
public import proofs.«01_k».proof.Proof.Proj.Out

@[expose] public section

set_option maxRecDepth 16384

noncomputable section

namespace Cert.Reference2Ideal.Proj

open Idealize.ShloMosaic Idealize.ShloMosaic.TcCoe Idealize.ShloMosaic.Tactic Idealize.SL.Sem
open Cert.Reference2Ideal Cert.Reference2Ideal.Gen Cert.Norm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
        = Cert.Kernel2Ideal.Proj.value (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run (F := Ideal) m ρ)
  funext j
  unfold Cert.Kernel2Ideal.Proj.value Cert.Kernel2Ideal.Proj.normedRow adaln rms
  idx_vars j
  pointwise
  rfl

end Cert.Reference2Ideal.Proj

end
-- ==== Proof.Mix.Spec.lean ====
/-
  The layer's mixing of its three kinds of attention, as terms over the extended reals.

  The three dilated passes are averaged head by head with the softmax of their log-sum-exps as weights; the average, the
  recurrence and the stick-breaking attention are normed one by one and laid side by side before the output projection.
-/
module

public import proofs.«01_k».proof.Proof.Norm
public import Mathlib.Algebra.BigOperators.Fin

@[expose] public section

noncomputable section

namespace Cert.MixRow

open Idealize.ShloMosaic Cert.Norm

/-- The exponential of a log-sum-exp beside the largest of the three. -/
def expo (a b d x : EReal) : EReal := Ideal.exp (x - max (max a b) d)

/-- The sum of the three exponentials. -/
def den (a b d : EReal) : EReal := expo a b d a + expo a b d b + expo a b d d

/-- The softmax weight of a pass. -/
def weight (a b d x : EReal) : EReal := Ideal.div (expo a b d x) (den a b d)

theorem exp_nonneg (x : EReal) : 0 ≤ Ideal.exp x := by
  induction x using EReal.rec with
  | bot => rw [Ideal.exp_bot]
  | top => exact le_top
  | coe r => rw [Ideal.exp_coe]; exact EReal.coe_nonneg.mpr (Real.exp_pos r).le

/-- A finite number less itself has exponential one. -/
theorem exp_self {x : EReal} (h : ⊥ < x) (h' : x < ⊤) : Ideal.exp (x - x) = 1 := by
  lift x to ℝ using ⟨h'.ne, h.ne'⟩
  rw [← EReal.coe_sub, sub_self, Ideal.exp_coe, Real.exp_zero, EReal.coe_one]

/-- When the largest of the three is finite, its exponential is one, so the sum is not zero. -/
theorem den_pos {a b d : EReal} (h : ⊥ < max (max a b) d) (h' : max (max a b) d < ⊤) : 0 < den a b d := by
  have e1 := exp_self h h'
  have ha := exp_nonneg (a - max (max a b) d)
  have hb := exp_nonneg (b - max (max a b) d)
  have hd := exp_nonneg (d - max (max a b) d)
  have one : (0 : EReal) < 1 := zero_lt_one
  unfold den expo
  rcases max_choice (max a b) d with e | e
  · rcases max_choice a b with f | f
    · have : Ideal.exp (a - max (max a b) d) = 1 := by
        have g : max (max a b) d = a := e.trans f
        rw [g] at e1 ⊢; exact e1
      rw [this]
      exact one.trans_le (le_trans (le_add_of_nonneg_right hb) (le_add_of_nonneg_right hd))
    · have : Ideal.exp (b - max (max a b) d) = 1 := by
        have g : max (max a b) d = b := e.trans f
        rw [g] at e1 ⊢; exact e1
      rw [this]
      exact one.trans_le (le_trans (le_add_of_nonneg_left ha) (le_add_of_nonneg_right hd))
  · have : Ideal.exp (d - max (max a b) d) = 1 := by
      rw [e] at e1 ⊢; exact e1
    rw [this]
    exact one.trans_le (le_add_of_nonneg_left (add_nonneg ha hb))

/-- Then multiplying by one over the sum is dividing by it. -/
theorem weight_eq {a b d : EReal} (x : EReal) (h : ⊥ < max (max a b) d) (h' : max (max a b) d < ⊤) :
    expo a b d x * Ideal.div 1 (den a b d) = weight a b d x := by
  have hn : den a b d ≠ 0 := (den_pos h h').ne'
  unfold weight Ideal.div
  rw [if_neg hn, if_neg hn, one_mul]

/-- The head of a column of the 768. -/
def head (k : Fin 768) : Fin 6 := ⟨k.val / 128, by omega⟩

/-- The average of the three passes: log-sum-exps by head, results by column. -/
def mix (a b d : Fin 6 → EReal) (o1 o2 o3 : Fin 768 → EReal) (k : Fin 768) : EReal :=
  weight (a (head k)) (b (head k)) (d (head k)) (a (head k)) * o1 k
    + weight (a (head k)) (b (head k)) (d (head k)) (b (head k)) * o2 k
    + weight (a (head k)) (b (head k)) (d (head k)) (d (head k)) * o3 k

/-- Rows of 768, 768 and 512 side by side. -/
def beside (u v : Fin 768 → EReal) (s : Fin 512 → EReal) (k : Fin 2048) : EReal :=
  if h : k.val < 768 then u ⟨k.val, h⟩
  else if h' : k.val < 1536 then v ⟨k.val - 768, by omega⟩ else s ⟨k.val - 1536, by omega⟩

/-- A product with the row side by side is the sum of the three products. -/
theorem sum_beside (u v : Fin 768 → EReal) (s : Fin 512 → EReal) (w : Fin 2048 → EReal) :
    ∑ k, beside u v s k * w k = (∑ k : Fin 768, u k * w ⟨k.val, by omega⟩) + (∑ k : Fin 768, v k * w ⟨768 + k.val, by omega⟩)
      + ∑ k : Fin 512, s k * w ⟨1536 + k.val, by omega⟩ := by
  rw [show (∑ k, beside u v s k * w k) = ∑ k : Fin (768 + 768 + 512), beside u v s k * w k from rfl,
    Fin.sum_univ_add, Fin.sum_univ_add]
  refine congr_arg₂ (· + ·) (congr_arg₂ (· + ·) ?_ ?_) ?_
  · refine Finset.sum_congr rfl fun k _ => congr_arg₂ (· * ·) ?_ rfl
    exact dif_pos k.isLt
  · refine Finset.sum_congr rfl fun k _ => congr_arg₂ (· * ·) ?_ rfl
    refine (dif_neg (show ¬ (768 + k.val < 768) by omega)).trans ((dif_pos (show 768 + k.val < 1536 by omega)).trans ?_)
    exact congrArg v (Fin.ext (Nat.add_sub_cancel_left 768 k.val))
  · refine Finset.sum_congr rfl fun k _ => congr_arg₂ (· * ·) ?_ rfl
    refine (dif_neg (show ¬ (1536 + k.val < 768) by omega)).trans ((dif_neg (show ¬ (1536 + k.val < 1536) by omega)).trans ?_)
    exact congrArg s (Fin.ext (Nat.add_sub_cancel_left 1536 k.val))

/-- The three norms of a token's row side by side. -/
def normed (ya yb : Fin 768 → EReal) (yc : Fin 512 → EReal) (ga gb : Fin 768 → EReal) (gc : Fin 512 → EReal) :
    Fin 2048 → EReal :=
  beside (rms (Ideal.ofBits FTy.f32 1145044992#32) ya ga) (rms (Ideal.ofBits FTy.f32 1145044992#32) yb gb)
    (rms (Ideal.ofBits FTy.f32 1140850688#32) yc gc)

end Cert.MixRow

end
-- ==== Proof.Mix.Body.lean ====
/-
  What a grid point of the mixing kernel stores, at an index of its block of 512 tokens.
-/
module

public import proofs.«01_k».proof.Proof.Gen.Kernel3Ideal.Value
public import Idealize.ShloMosaic.Lib.Pipeline.ValueKit
public import Idealize.ShloMosaic.Lib.Pointwise
public import proofs.«01_k».proof.Proof.Mix.Spec

@[expose] public section

set_option maxRecDepth 16384

noncomputable section

namespace Cert.Kernel3Ideal.Mix

open Idealize.ShloMosaic Idealize.ShloMosaic.TcCoe Idealize.ShloMosaic.Tactic
open Cert.Kernel3Ideal Cert.Kernel3Ideal.Gen Cert.Norm Cert.MixRow

/-! ## The norms and their products -/

/-- A normed row of 768 times a matrix. -/
theorem product_apply (x : Vec Ideal S512x768 .bf16) (g : Vec Ideal S1x768 .f32) (w : Vec Ideal S1x768x2048 .bf16)
    (r : Fin 512) (n : Fin 2048) :
    k0_pay2 x g w (ix2 r n)
      = ∑ k, rms (Ideal.ofBits FTy.f32 1145044992#32) (fun d => x (ix2 r d)) (fun d => g (ix2 0 d)) k * w (ix3 0 k n) := by
  unfold k0_pay2 rms
  pointwise

/-- The normed rows of 512. -/
theorem normed_apply (x : Vec Ideal S512x512 .bf16) (g : Vec Ideal S1x512 .f32) (r k : Fin 512) :
    k0_pay3 x g (ix2 r k)
      = rms (Ideal.ofBits FTy.f32 1140850688#32) (fun d => x (ix2 r d)) (fun d => g (ix2 0 d)) k := by
  unfold k0_pay3 rms
  pointwise

theorem added_apply (v : FVec Ideal S512x2048 .f32) (x : FVec Ideal S512x512 .bf16) (w : Vec Ideal S1x512x2048 .bf16)
    (r : Fin 512) (n : Fin 2048) :
    k0_pay4 v x w (ix2 r n) = v (ix2 r n) + ∑ k, x (ix2 r k) * w (ix3 0 k n) := by
  unfold k0_pay4
  pointwise

/-! ## The weights -/

section
variable (a b d : Vec Ideal S512x128 .f32) (r : Fin 512) (h : Fin 128)

theorem weight1_apply : k0_pay13 a b d (ix2 r h) = expo (a (ix2 r h)) (b (ix2 r h)) (d (ix2 r h)) (a (ix2 r h))
    * Ideal.div 1 (den (a (ix2 r h)) (b (ix2 r h)) (d (ix2 r h))) := by
  unfold k0_pay13 k0_pay12 k0_pay11 k0_pay10 k0_pay9 k0_pay8 k0_pay7 k0_pay6 k0_pay5 den expo
  pointwise

theorem weight2_apply : k0_pay14 a b d (ix2 r h) = expo (a (ix2 r h)) (b (ix2 r h)) (d (ix2 r h)) (b (ix2 r h))
    * Ideal.div 1 (den (a (ix2 r h)) (b (ix2 r h)) (d (ix2 r h))) := by
  unfold k0_pay14 k0_pay12 k0_pay11 k0_pay10 k0_pay9 k0_pay8 k0_pay7 k0_pay6 k0_pay5 den expo
  pointwise

theorem weight3_apply : k0_pay15 a b d (ix2 r h) = expo (a (ix2 r h)) (b (ix2 r h)) (d (ix2 r h)) (d (ix2 r h))
    * Ideal.div 1 (den (a (ix2 r h)) (b (ix2 r h)) (d (ix2 r h))) := by
  unfold k0_pay15 k0_pay12 k0_pay11 k0_pay10 k0_pay9 k0_pay8 k0_pay7 k0_pay6 k0_pay5 den expo
  pointwise

end

/-! ## The heads -/

section
variable (p q s : FVec Ideal S512x128 .f32) (u v z : Vec Ideal S512x128 .bf16) (r : Fin 512) (j : Fin 128)

/-- The weighted sum of the three passes for head `h`, at column `j` of the head. -/
def part (h : Fin 128) : EReal :=
  p (ix2 r h) * u (ix2 r j) + q (ix2 r h) * v (ix2 r j) + s (ix2 r h) * z (ix2 r j)

theorem head0 (a b d : Vec Ideal S512x128 .f32) :
    k0_pay19 (k0_pay16 a b d u v) (k0_pay17 z) (k0_pay18 a b d) (ix2 r j)
      = part (k0_pay13 a b d) (k0_pay14 a b d) (k0_pay15 a b d) u v z r j 0 := by
  unfold k0_pay19 k0_pay16 k0_pay17 k0_pay18 part
  pointwise

theorem head1 : k0_pay20 p q s u v z (ix2 r j) = part p q s u v z r j 1 := by
  unfold k0_pay20 part
  pointwise

theorem head2 : k0_pay21 p q s u v z (ix2 r j) = part p q s u v z r j 2 := by
  unfold k0_pay21 part
  pointwise

theorem head3 : k0_pay22 p q s u v z (ix2 r j) = part p q s u v z r j 3 := by
  unfold k0_pay22 part
  pointwise

theorem head4 : k0_pay23 p q s u v z (ix2 r j) = part p q s u v z r j 4 := by
  unfold k0_pay23 part
  pointwise

/-- The last head, whose sum the kernel forms just before laying the heads side by side. -/
def last (p : FVec Ideal S512x1 .f32) : FVec Ideal S512x128 .f32 :=
  addf (addf (addf (broadcast S512x128 (Scalar.ofBits .f32 0x00000000#32 : Ideal .f32))
      (mulf (broadcastTo S512x128 p broadcasts_S512x1_S512x128)
        (extf .f32 (shapeCast S512x128 u shapeCasts_S512x128_S512x128 : FVec Ideal S512x128 .bf16) bitsLt_bf16_f32)))
      (mulf (broadcastTo S512x128 (extractStridedSlice S512x1 ![0, 5] q slices_S512x128_o0_5_S512x1) broadcasts_S512x1_S512x128)
        (extf .f32 (shapeCast S512x128 v shapeCasts_S512x128_S512x128 : FVec Ideal S512x128 .bf16) bitsLt_bf16_f32)))
    (mulf (broadcastTo S512x128 (extractStridedSlice S512x1 ![0, 5] s slices_S512x128_o0_5_S512x1) broadcasts_S512x1_S512x128)
      (extf .f32 (shapeCast S512x128 z shapeCasts_S512x128_S512x128 : FVec Ideal S512x128 .bf16) bitsLt_bf16_f32))

theorem head5 : last q s u v z (k0_pay24 p) (ix2 r j) = part p q s u v z r j 5 := by
  unfold last k0_pay24 part
  pointwise

end

/-- Six heads side by side. -/
abbrev heads (h0 h1 h2 h3 h4 h5 : FVec Ideal S512x128 .f32) : FVec Ideal S512x768 .f32 :=
  concatenate S512x768 1 [⟨S512x128, h0⟩, ⟨S512x128, h1⟩, ⟨S512x128, h2⟩, ⟨S512x128, h3⟩, ⟨S512x128, h4⟩, ⟨S512x128, h5⟩]
    concatenates_S512x128_S512x128_S512x128_S512x128_S512x128_S512x128_S512x768_d1

theorem heads_apply (h0 h1 h2 h3 h4 h5 : FVec Ideal S512x128 .f32) (r : Fin 512) (f : Fin 768 → EReal)
    (e0 : ∀ j : Fin 128, h0 (ix2 r j) = f ⟨j.val, by omega⟩) (e1 : ∀ j : Fin 128, h1 (ix2 r j) = f ⟨128 + j.val, by omega⟩)
    (e2 : ∀ j : Fin 128, h2 (ix2 r j) = f ⟨256 + j.val, by omega⟩) (e3 : ∀ j : Fin 128, h3 (ix2 r j) = f ⟨384 + j.val, by omega⟩)
    (e4 : ∀ j : Fin 128, h4 (ix2 r j) = f ⟨512 + j.val, by omega⟩) (e5 : ∀ j : Fin 128, h5 (ix2 r j) = f ⟨640 + j.val, by omega⟩)
    (k : Fin 768) : heads h0 h1 h2 h3 h4 h5 (ix2 r k) = f k := by
  unfold heads
  pointwise
  simp only [e0, e1, e2, e3, e4, e5]
  split_ifs
  all_goals exact congrArg f (Fin.ext (by first | rfl | (dsimp only; omega)))

theorem sum_apply (v41 : FVec Ideal S512x2048 .f32) (p q s h0 h1 h2 h3 h4 : FVec Ideal S512x128 .f32)
    (u v z : Vec Ideal S512x128 .bf16) (g : Vec Ideal S1x768 .f32) (w : Vec Ideal S1x768x2048 .bf16) :
    k0_pay25 v41 q s h0 h1 h2 h3 h4 (k0_pay24 p) u v z g w
      = addf v41 (k0_pay2 (heads h0 h1 h2 h3 h4 (last q s u v z (k0_pay24 p))) g w) := rfl

theorem stored_apply (v x : FVec Ideal S512x2048 .f32) (g : Vec Ideal S1x1x2048 .f32) (r : Fin 512) (n : Fin 2048) :
    k0_pay1 v x g (ix2 r n) = x (ix2 r n) + g (ix3 0 0 n) * v (ix2 r n) := by
  unfold k0_pay1
  pointwise

/-! ## The stored block -/

/-- Column `k` of the weighted sum of the three passes. -/
def column (p q s : FVec Ideal S512x128 .f32) (o1 o2 o3 : Vec Ideal S512x768 .bf16) (r : Fin 512) (k : Fin 768) : EReal :=
  p (ix2 r ⟨k.val / 128, by omega⟩) * o1 (ix2 r k) + q (ix2 r ⟨k.val / 128, by omega⟩) * o2 (ix2 r k)
    + s (ix2 r ⟨k.val / 128, by omega⟩) * o3 (ix2 r k)

theorem part_eq (p q s : FVec Ideal S512x128 .f32) (o1 o2 o3 : Vec Ideal S512x768 .bf16) (u v z : Vec Ideal S512x128 .bf16)
    (r : Fin 512) (j h : Fin 128) (k : Fin 768) (e : k.val / 128 = h.val) (eu : u (ix2 r j) = o1 (ix2 r k))
    (ev : v (ix2 r j) = o2 (ix2 r k)) (ez : z (ix2 r j) = o3 (ix2 r k)) :
    part p q s u v z r j h = column p q s o1 o2 o3 r k := by
  unfold part column
  rw [eu, ev, ez, show (⟨k.val / 128, by omega⟩ : Fin 128) = h from Fin.ext e]

section
variable (x0 : Vec Ideal S512x2048 .f32) (x1 x2 x3 x4 : Vec Ideal S512x768 .bf16) (x5 x6 x7 : Vec Ideal S512x128 .f32)
  (x8 : Vec Ideal S512x512 .bf16) (x9 x10 : Vec Ideal S1x768 .f32) (x11 : Vec Ideal S1x512 .f32)
  (x12 : Vec Ideal S1x2048x2048 .bf16) (x13 : Vec Ideal S1x1x2048 .f32)

/-- The mixed passes of a block. -/
abbrev mixed : FVec Ideal S512x768 .f32 :=
  heads (k0_pay19 (k0_pay16 x5 x6 x7 (View.ld x2 r0_7) (View.ld x3 r0_7)) (k0_pay17 (View.ld x4 r0_7)) (k0_pay18 x5 x6 x7))
    (k0_pay20 (k0_pay13 x5 x6 x7) (k0_pay14 x5 x6 x7) (k0_pay15 x5 x6 x7) (View.ld x2 r0_8) (View.ld x3 r0_8) (View.ld x4 r0_8))
    (k0_pay21 (k0_pay13 x5 x6 x7) (k0_pay14 x5 x6 x7) (k0_pay15 x5 x6 x7) (View.ld x2 r0_9) (View.ld x3 r0_9) (View.ld x4 r0_9))
    (k0_pay22 (k0_pay13 x5 x6 x7) (k0_pay14 x5 x6 x7) (k0_pay15 x5 x6 x7) (View.ld x2 r0_10) (View.ld x3 r0_10) (View.ld x4 r0_10))
    (k0_pay23 (k0_pay13 x5 x6 x7) (k0_pay14 x5 x6 x7) (k0_pay15 x5 x6 x7) (View.ld x2 r0_11) (View.ld x3 r0_11) (View.ld x4 r0_11))
    (last (k0_pay14 x5 x6 x7) (k0_pay15 x5 x6 x7) (View.ld x2 r0_12) (View.ld x3 r0_12) (View.ld x4 r0_12)
      (k0_pay24 (k0_pay13 x5 x6 x7)))

theorem mixed_apply (r : Fin 512) (k : Fin 768) :
    mixed x2 x3 x4 x5 x6 x7 (ix2 r k)
      = column (k0_pay13 x5 x6 x7) (k0_pay14 x5 x6 x7) (k0_pay15 x5 x6 x7) x2 x3 x4 r k := by
  refine heads_apply _ _ _ _ _ _ r _ (fun j => (head0 _ _ _ r j _ _ _).trans ?_) (fun j => (head1 _ _ _ _ _ _ r j).trans ?_)
    (fun j => (head2 _ _ _ _ _ _ r j).trans ?_) (fun j => (head3 _ _ _ _ _ _ r j).trans ?_)
    (fun j => (head4 _ _ _ _ _ _ r j).trans ?_) (fun j => (head5 _ _ _ _ _ _ r j).trans ?_) k
  · exact part_eq _ _ _ _ _ _ _ _ _ r j _ _ (by show j.val / 128 = 0; omega) (by pointwise) (by pointwise) (by pointwise)
  · exact part_eq _ _ _ _ _ _ _ _ _ r j _ _ (by show (128 + j.val) / 128 = 1; omega) (by pointwise) (by pointwise) (by pointwise)
  · exact part_eq _ _ _ _ _ _ _ _ _ r j _ _ (by show (256 + j.val) / 128 = 2; omega) (by pointwise) (by pointwise) (by pointwise)
  · exact part_eq _ _ _ _ _ _ _ _ _ r j _ _ (by show (384 + j.val) / 128 = 3; omega) (by pointwise) (by pointwise) (by pointwise)
  · exact part_eq _ _ _ _ _ _ _ _ _ r j _ _ (by show (512 + j.val) / 128 = 4; omega) (by pointwise) (by pointwise) (by pointwise)
  · exact part_eq _ _ _ _ _ _ _ _ _ r j _ _ (by show (640 + j.val) / 128 = 5; omega) (by pointwise) (by pointwise) (by pointwise)

theorem same : k0_pay26 x0 = x0 := by
  funext j
  idx_vars j
  unfold k0_pay26
  pointwise

theorem block_eq : out0_14 x0 x1 x2 x3 x4 x5 x6 x7 x8 x9 x10 x11 x12 x13
    = k0_pay1 (addf (k0_pay4 (k0_pay2 x1 x9 (View.ld x12 r0_2)) (k0_pay3 x8 x11) (View.ld x12 r0_5))
        (k0_pay2 (mixed x2 x3 x4 x5 x6 x7) x10 (View.ld x12 r0_13))) x0 x13 := by
  unfold out0_14 k0_pay27 k0_pay28 k0_pay29
  frame_out
  rw [sum_apply, same]

theorem block_apply (r : Fin 512) (n : Fin 2048) :
    out0_14 x0 x1 x2 x3 x4 x5 x6 x7 x8 x9 x10 x11 x12 x13 (ix2 r n)
      = x0 (ix2 r n) + x13 (ix3 0 0 n) * ∑ k, normed (fun d => x1 (ix2 r d))
          (column (k0_pay13 x5 x6 x7) (k0_pay14 x5 x6 x7) (k0_pay15 x5 x6 x7) x2 x3 x4 r) (fun d => x8 (ix2 r d))
          (fun d => x9 (ix2 0 d)) (fun d => x10 (ix2 0 d)) (fun d => x11 (ix2 0 d)) k * x12 (ix3 0 k n) := by
  unfold normed
  rw [block_eq, stored_apply, sum_beside, add_right_comm]
  refine congrArg (x0 (ix2 r n) + x13 (ix3 0 0 n) * ·) (congr_arg₂ (· + ·) ?_ ?_)
  · refine (added_apply _ _ _ r n).trans (congr_arg₂ (· + ·) ((product_apply _ _ _ r n).trans ?_) ?_)
    · exact Finset.sum_congr rfl fun k _ => congrArg _ (by pointwise)
    · exact Finset.sum_congr rfl fun k _ => congr_arg₂ (· * ·) (normed_apply _ _ r k) (by pointwise)
  · refine (product_apply _ _ _ r n).trans (Finset.sum_congr rfl fun k _ => congr_arg₂ (· * ·) ?_ (by pointwise))
    exact congrArg (fun y => rms _ y _ k) (funext fun l => mixed_apply x2 x3 x4 x5 x6 x7 r l)

end

end Cert.Kernel3Ideal.Mix

end
-- ==== Proof.Mix.Out.lean ====
/-
  The mixing kernel's output array: every token's activation plus its gated projection.
-/
module

public import proofs.«01_k».proof.Proof.Mix.Body

@[expose] public section

set_option maxRecDepth 16384

noncomputable section

namespace Cert.Kernel3Ideal.Mix

open Idealize.ShloMosaic Idealize.ShloMosaic.TcCoe Idealize.ShloMosaic.Tactic
open Idealize.ShloMosaic.Pipeline (Dat)
open Cert.Kernel3Ideal Cert.Kernel3Ideal.Gen Cert.Norm Cert.MixRow

/-! ## The specification -/

/-- The activations, the modulation, the recurrence's output, the three passes' outputs and log-sum-exps, the
    stick-breaking attention's output, the three gains and the output weights. -/
structure Args where
  x : Vec Ideal S2x4096x2048 .f32
  md : Vec Ideal S2x2x12288 .f32
  ya : Vec Ideal S8192x768 .bf16
  o1 : Vec Ideal S2x4096x768 .bf16
  l1 : Vec Ideal S2x4096x128 .f32
  o2 : Vec Ideal S2x1024x3072 .bf16
  l2 : Vec Ideal S2x1024x512 .f32
  o3 : Vec Ideal S2x256x12288 .bf16
  l3 : Vec Ideal S2x256x2048 .f32
  yc : Vec Ideal S2x4096x512 .bf16
  ga : Vec Ideal S2x768 .f32
  gb : Vec Ideal S2x768 .f32
  gc : Vec Ideal S2x512 .f32
  w : Vec Ideal S2x2048x2048 .f32

namespace Args
variable (A : Args) (b : Fin 2) (t : Fin 4096)

/-- The log-sum-exps of a token, by lane; the second and third passes keep 4 and 16 tokens in a row. -/
def lse1 (h : Fin 128) : EReal := A.l1 (ix3 b t h)
def lse2 (h : Fin 128) : EReal := A.l2 (ix3 b ⟨t.val / 4, by omega⟩ ⟨t.val % 4 * 128 + h.val, by omega⟩)
def lse3 (h : Fin 128) : EReal := A.l3 (ix3 b ⟨t.val / 16, by omega⟩ ⟨t.val % 16 * 128 + h.val, by omega⟩)

/-- The results of a token. -/
def out1 (k : Fin 768) : EReal := A.o1 (ix3 b t k)
def out2 (k : Fin 768) : EReal := A.o2 (ix3 b ⟨t.val / 4, by omega⟩ ⟨t.val % 4 * 768 + k.val, by omega⟩)
def out3 (k : Fin 768) : EReal := A.o3 (ix3 b ⟨t.val / 16, by omega⟩ ⟨t.val % 16 * 768 + k.val, by omega⟩)

/-- A head's lane. -/
def lane (h : Fin 6) : Fin 128 := ⟨h.val, by omega⟩

/-- The average of the three passes. -/
def avg : Fin 768 → EReal :=
  mix (fun h => A.lse1 b t (lane h)) (fun h => A.lse2 b t (lane h)) (fun h => A.lse3 b t (lane h))
    (A.out1 b t) (A.out2 b t) (A.out3 b t)

/-- The largest of the three log-sum-exps of every token and head is finite. -/
def Finite : Prop := ∀ (b : Fin 2) (t : Fin 4096) (h : Fin 6),
  ⊥ < max (max (A.lse1 b t (lane h)) (A.lse2 b t (lane h))) (A.lse3 b t (lane h))
    ∧ max (max (A.lse1 b t (lane h)) (A.lse2 b t (lane h))) (A.lse3 b t (lane h)) < ⊤

/-- The result of a token at column `n`. -/
def result (n : Fin 2048) : EReal :=
  A.x (ix3 b t n) + A.md (ix3 0 b ⟨4096 + n.val, by omega⟩)
    * ∑ k, normed (fun d => A.ya (ix2 ⟨b.val * 4096 + t.val, by omega⟩ d)) (A.avg b t) (fun d => A.yc (ix3 b t d))
        (fun d => A.ga (ix2 0 d)) (fun d => A.gb (ix2 0 d)) (fun d => A.gc (ix2 0 d)) k * A.w (ix3 0 k n)

/-- The results as an array of rows. -/
def value (j : S8192x2048.Idx) : EReal := A.result (batch (j 0).val (j 0).isLt) (pos (j 0).val) (j 1)

end Args

variable (m : (ℓ : Loc nD τ sig) → Buf (Elt Ideal) ℓ) (c : Dev nD)

/-- The kernel's arguments. -/
def args : Args where
  x := m ((c : Thread nD τ).loc main_arg0)
  md := m ((c : Thread nD τ).loc main_arg1)
  ya := m ((c : Thread nD τ).loc main_arg2)
  o1 := m ((c : Thread nD τ).loc main_arg3)
  l1 := m ((c : Thread nD τ).loc main_arg4)
  o2 := m ((c : Thread nD τ).loc main_arg5)
  l2 := m ((c : Thread nD τ).loc main_arg6)
  o3 := m ((c : Thread nD τ).loc main_arg7)
  l3 := m ((c : Thread nD τ).loc main_arg8)
  yc := m ((c : Thread nD τ).loc main_arg9)
  ga := m ((c : Thread nD τ).loc main_arg10)
  gb := m ((c : Thread nD τ).loc main_arg11)
  gc := m ((c : Thread nD τ).loc main_arg12)
  w := m ((c : Thread nD τ).loc main_arg13)

/-! ## The windows -/

theorem idx_all (t : Fin grid0.N) :
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0 ∧ win0_12.index t 2 = 0)
    ∧ (win0_13.index t 0 = t.val / 8 ∧ win0_13.index t 1 = 0 ∧ win0_13.index t 2 = 0)
    ∧ (win0_14.index t 0 = t.val ∧ win0_14.index t 1 = 0) := by
  revert t
  decide +kernel

theorem host_x : V m c main_v24 = shapeCast S8192x2048 (args m c).x shapeCasts_S2x4096x2048_S8192x2048 := by
  unfold V hostOps0; after_results_simp <;> rfl
theorem host_ya : V m c main_arg2 = (args m c).ya := by
  unfold V hostOps0; after_results_simp <;> rfl
theorem host_o1 : V m c main_v18 = shapeCast S8192x768 (args m c).o1 shapeCasts_S2x4096x768_S8192x768 := by
  unfold V hostOps0; after_results_simp <;> rfl
theorem host_o2 : V m c main_v20 = shapeCast S8192x768 (args m c).o2 shapeCasts_S2x1024x3072_S8192x768 := by
  unfold V hostOps0; after_results_simp <;> rfl
theorem host_o3 : V m c main_v22 = shapeCast S8192x768 (args m c).o3 shapeCasts_S2x256x12288_S8192x768 := by
  unfold V hostOps0; after_results_simp <;> rfl
theorem host_l1 : V m c main_v19 = shapeCast S8192x128 (args m c).l1 shapeCasts_S2x4096x128_S8192x128 := by
  unfold V hostOps0; after_results_simp <;> rfl
theorem host_l2 : V m c main_v21 = shapeCast S8192x128 (args m c).l2 shapeCasts_S2x1024x512_S8192x128 := by
  unfold V hostOps0; after_results_simp <;> rfl
theorem host_l3 : V m c main_v23 = shapeCast S8192x128 (args m c).l3 shapeCasts_S2x256x2048_S8192x128 := by
  unfold V hostOps0; after_results_simp <;> rfl
theorem host_yc : V m c main_v25 = shapeCast S8192x512 (args m c).yc shapeCasts_S2x4096x512_S8192x512 := by
  unfold V hostOps0; after_results_simp <;> rfl
theorem host_ga : V m c main_v33 = shapeCast S1x768 (shapeCast S768 (extractStridedSlice S1x768 ![0, 0] (args m c).ga
    slices_S2x768_S1x768_0_0) shapeCasts_S1x768_S768) shapeCasts_S768_S1x768 := by
  unfold V hostOps0; after_results_simp <;> rfl
theorem host_gb : V m c main_v34 = shapeCast S1x768 (shapeCast S768 (extractStridedSlice S1x768 ![0, 0] (args m c).gb
    slices_S2x768_S1x768_0_0) shapeCasts_S1x768_S768) shapeCasts_S768_S1x768 := by
  unfold V hostOps0; after_results_simp <;> rfl
theorem host_gc : V m c main_v35 = shapeCast S1x512 (shapeCast S512 (extractStridedSlice S1x512 ![0, 0] (args m c).gc
    slices_S2x512_S1x512_0_0) shapeCasts_S1x512_S512) shapeCasts_S512_S1x512 := by
  unfold V hostOps0; after_results_simp <;> rfl
theorem host_w : V m c main_v32 = (truncf .bf16 ((args m c).w : FVec Ideal S2x2048x2048 .f32) bitsLt_bf16_f32
    : FVec Ideal S2x2048x2048 .bf16) := by
  unfold V hostOps0; after_results_simp <;> rfl
theorem host_gate : V m c main_v8 = shapeCast S2x1x2048 (shapeCast S2x2048 (extractStridedSlice S1x2x2048 ![0, 0, 4096]
    (args m c).md slices_S2x2x12288_S1x2x2048_0_0_4096) shapeCasts_S1x2x2048_S2x2048) shapeCasts_S2x2048_S2x1x2048 := by
  unfold V hostOps0; after_results_simp <;> rfl

/-! ## The input blocks at an index -/

variable (t : Fin cfg0.N)

theorem points : t.val < 16 := by
  have h : ∀ t : Fin grid0.N, t.val < 16 := by decide +kernel
  exact h t

theorem blk_x (r : Fin 512) (k : Fin 2048) (R : ℕ) (hR : R < 8192) (e : R = 512 * t.val + r.val) :
    iblk m c 0 t (ix2 r k) = (args m c).x (ix3 (batch R hR) (pos R) k) := by
  obtain ⟨⟨e0, e1⟩, -⟩ := idx_all t
  show V m c main_v24 ((((cfg0.win 0).blk t).view.emb (ix2 r k)) : S8192x2048.Idx) = _
  have f : ((((cfg0.win 0).blk t).view.emb (ix2 r k)) : S8192x2048.Idx) = ix2 ⟨R, hR⟩ k := by
    funext a
    match a with
    | ⟨0, _⟩ => exact Fin.ext (show win0_0.index t 0 * 512 + 1 * r.val = R by rw [e0]; omega)
    | ⟨1, _⟩ => exact Fin.ext (show win0_0.index t 1 * 2048 + 1 * k.val = k.val by rw [e1]; omega)
  rw [f, host_x]
  pointwise
  rfl

theorem blk_ya (r : Fin 512) (k : Fin 768) (R : ℕ) (hR : R < 8192) (e : R = 512 * t.val + r.val) :
    iblk m c 1 t (ix2 r k) = (args m c).ya (ix2 ⟨(batch R hR).val * 4096 + (pos R).val, by omega⟩ k) := by
  obtain ⟨-, ⟨e0, e1⟩, -⟩ := idx_all t
  show V m c main_arg2 ((((cfg0.win 1).blk t).view.emb (ix2 r k)) : S8192x768.Idx) = _
  have f : ((((cfg0.win 1).blk t).view.emb (ix2 r k)) : S8192x768.Idx) = ix2 ⟨R, hR⟩ k := by
    funext a
    match a with
    | ⟨0, _⟩ => exact Fin.ext (show win0_1.index t 0 * 512 + 1 * r.val = R by rw [e0]; omega)
    | ⟨1, _⟩ => exact Fin.ext (show win0_1.index t 1 * 768 + 1 * k.val = k.val by rw [e1]; omega)
  rw [f, host_ya]
  exact congrArg (fun i => (args m c).ya (ix2 i k)) (Fin.ext (by show R = R / 4096 * 4096 + R % 4096; omega))

theorem blk_o1 (r : Fin 512) (k : Fin 768) (R : ℕ) (hR : R < 8192) (e : R = 512 * t.val + r.val) :
    iblk m c 2 t (ix2 r k) = (args m c).out1 (batch R hR) (pos R) k := by
  obtain ⟨-, -, ⟨e0, e1⟩, -⟩ := idx_all t
  show V m c main_v18 ((((cfg0.win 2).blk t).view.emb (ix2 r k)) : S8192x768.Idx) = _
  have f : ((((cfg0.win 2).blk t).view.emb (ix2 r k)) : S8192x768.Idx) = ix2 ⟨R, hR⟩ k := by
    funext a
    match a with
    | ⟨0, _⟩ => exact Fin.ext (show win0_2.index t 0 * 512 + 1 * r.val = R by rw [e0]; omega)
    | ⟨1, _⟩ => exact Fin.ext (show win0_2.index t 1 * 768 + 1 * k.val = k.val by rw [e1]; omega)
  rw [f, host_o1]
  unfold Args.out1
  pointwise
  rfl

theorem blk_o2 (r : Fin 512) (k : Fin 768) (R : ℕ) (hR : R < 8192) (e : R = 512 * t.val + r.val) :
    iblk m c 3 t (ix2 r k) = (args m c).out2 (batch R hR) (pos R) k := by
  obtain ⟨-, -, -, ⟨e0, e1⟩, -⟩ := idx_all t
  show V m c main_v20 ((((cfg0.win 3).blk t).view.emb (ix2 r k)) : S8192x768.Idx) = _
  have f : ((((cfg0.win 3).blk t).view.emb (ix2 r k)) : S8192x768.Idx) = ix2 ⟨R, hR⟩ k := by
    funext a
    match a with
    | ⟨0, _⟩ => exact Fin.ext (show win0_3.index t 0 * 512 + 1 * r.val = R by rw [e0]; omega)
    | ⟨1, _⟩ => exact Fin.ext (show win0_3.index t 1 * 768 + 1 * k.val = k.val by rw [e1]; omega)
  rw [f, host_o2]
  unfold Args.out2
  pointwise
  exact congrArg (args m c).o2 (congr_arg₂ (ix3 _) (Fin.ext (show R / 4 % 1024 = R % 4096 / 4 by omega))
    (Fin.ext (show R % 4 * 768 + k.val = R % 4096 % 4 * 768 + k.val by omega)))

theorem blk_o3 (r : Fin 512) (k : Fin 768) (R : ℕ) (hR : R < 8192) (e : R = 512 * t.val + r.val) :
    iblk m c 4 t (ix2 r k) = (args m c).out3 (batch R hR) (pos R) k := by
  obtain ⟨-, -, -, -, ⟨e0, e1⟩, -⟩ := idx_all t
  show V m c main_v22 ((((cfg0.win 4).blk t).view.emb (ix2 r k)) : S8192x768.Idx) = _
  have f : ((((cfg0.win 4).blk t).view.emb (ix2 r k)) : S8192x768.Idx) = ix2 ⟨R, hR⟩ k := by
    funext a
    match a with
    | ⟨0, _⟩ => exact Fin.ext (show win0_4.index t 0 * 512 + 1 * r.val = R by rw [e0]; omega)
    | ⟨1, _⟩ => exact Fin.ext (show win0_4.index t 1 * 768 + 1 * k.val = k.val by rw [e1]; omega)
  rw [f, host_o3]
  unfold Args.out3
  pointwise
  exact congrArg (args m c).o3 (congr_arg₂ (ix3 _) (Fin.ext (show R / 16 % 256 = R % 4096 / 16 by omega))
    (Fin.ext (show R % 16 * 768 + k.val = R % 4096 % 16 * 768 + k.val by omega)))

theorem blk_l1 (r : Fin 512) (k : Fin 128) (R : ℕ) (hR : R < 8192) (e : R = 512 * t.val + r.val) :
    iblk m c 5 t (ix2 r k) = (args m c).lse1 (batch R hR) (pos R) k := by
  obtain ⟨-, -, -, -, -, ⟨e0, e1⟩, -⟩ := idx_all t
  show V m c main_v19 ((((cfg0.win 5).blk t).view.emb (ix2 r k)) : S8192x128.Idx) = _
  have f : ((((cfg0.win 5).blk t).view.emb (ix2 r k)) : S8192x128.Idx) = ix2 ⟨R, hR⟩ k := by
    funext a
    match a with
    | ⟨0, _⟩ => exact Fin.ext (show win0_5.index t 0 * 512 + 1 * r.val = R by rw [e0]; omega)
    | ⟨1, _⟩ => exact Fin.ext (show win0_5.index t 1 * 128 + 1 * k.val = k.val by rw [e1]; omega)
  rw [f, host_l1]
  unfold Args.lse1
  pointwise
  rfl

theorem blk_l2 (r : Fin 512) (k : Fin 128) (R : ℕ) (hR : R < 8192) (e : R = 512 * t.val + r.val) :
    iblk m c 6 t (ix2 r k) = (args m c).lse2 (batch R hR) (pos R) k := by
  obtain ⟨-, -, -, -, -, -, ⟨e0, e1⟩, -⟩ := idx_all t
  show V m c main_v21 ((((cfg0.win 6).blk t).view.emb (ix2 r k)) : S8192x128.Idx) = _
  have f : ((((cfg0.win 6).blk t).view.emb (ix2 r k)) : S8192x128.Idx) = ix2 ⟨R, hR⟩ k := by
    funext a
    match a with
    | ⟨0, _⟩ => exact Fin.ext (show win0_6.index t 0 * 512 + 1 * r.val = R by rw [e0]; omega)
    | ⟨1, _⟩ => exact Fin.ext (show win0_6.index t 1 * 128 + 1 * k.val = k.val by rw [e1]; omega)
  rw [f, host_l2]
  unfold Args.lse2
  pointwise
  exact congrArg (args m c).l2 (congr_arg₂ (ix3 _) (Fin.ext (show R / 4 % 1024 = R % 4096 / 4 by omega))
    (Fin.ext (show R % 4 * 128 + k.val = R % 4096 % 4 * 128 + k.val by omega)))

theorem blk_l3 (r : Fin 512) (k : Fin 128) (R : ℕ) (hR : R < 8192) (e : R = 512 * t.val + r.val) :
    iblk m c 7 t (ix2 r k) = (args m c).lse3 (batch R hR) (pos R) k := by
  obtain ⟨-, -, -, -, -, -, -, ⟨e0, e1⟩, -⟩ := idx_all t
  show V m c main_v23 ((((cfg0.win 7).blk t).view.emb (ix2 r k)) : S8192x128.Idx) = _
  have f : ((((cfg0.win 7).blk t).view.emb (ix2 r k)) : S8192x128.Idx) = ix2 ⟨R, hR⟩ k := by
    funext a
    match a with
    | ⟨0, _⟩ => exact Fin.ext (show win0_7.index t 0 * 512 + 1 * r.val = R by rw [e0]; omega)
    | ⟨1, _⟩ => exact Fin.ext (show win0_7.index t 1 * 128 + 1 * k.val = k.val by rw [e1]; omega)
  rw [f, host_l3]
  unfold Args.lse3
  pointwise
  exact congrArg (args m c).l3 (congr_arg₂ (ix3 _) (Fin.ext (show R / 16 % 256 = R % 4096 / 16 by omega))
    (Fin.ext (show R % 16 * 128 + k.val = R % 4096 % 16 * 128 + k.val by omega)))

theorem blk_yc (r : Fin 512) (k : Fin 512) (R : ℕ) (hR : R < 8192) (e : R = 512 * t.val + r.val) :
    iblk m c 8 t (ix2 r k) = (args m c).yc (ix3 (batch R hR) (pos R) k) := by
  obtain ⟨-, -, -, -, -, -, -, -, ⟨e0, e1⟩, -⟩ := idx_all t
  show V m c main_v25 ((((cfg0.win 8).blk t).view.emb (ix2 r k)) : S8192x512.Idx) = _
  have f : ((((cfg0.win 8).blk t).view.emb (ix2 r k)) : S8192x512.Idx) = ix2 ⟨R, hR⟩ k := by
    funext a
    match a with
    | ⟨0, _⟩ => exact Fin.ext (show win0_8.index t 0 * 512 + 1 * r.val = R by rw [e0]; omega)
    | ⟨1, _⟩ => exact Fin.ext (show win0_8.index t 1 * 512 + 1 * k.val = k.val by rw [e1]; omega)
  rw [f, host_yc]
  pointwise
  rfl

theorem blk_ga (k : Fin 768) : iblk m c 9 t (ix2 0 k) = (args m c).ga (ix2 0 k) := by
  obtain ⟨-, -, -, -, -, -, -, -, -, ⟨e0, e1⟩, -⟩ := idx_all t
  show V m c main_v33 ((((cfg0.win 9).blk t).view.emb (ix2 0 k)) : S1x768.Idx) = _
  have f : ((((cfg0.win 9).blk t).view.emb (ix2 0 k)) : S1x768.Idx) = ix2 0 k := by
    funext a
    match a with
    | ⟨0, _⟩ => exact Fin.ext (show win0_9.index t 0 * 1 + 1 * 0 = 0 by rw [e0])
    | ⟨1, _⟩ => exact Fin.ext (show win0_9.index t 1 * 768 + 1 * k.val = k.val by rw [e1]; omega)
  rw [f, host_ga]
  pointwise

theorem blk_gb (k : Fin 768) : iblk m c 10 t (ix2 0 k) = (args m c).gb (ix2 0 k) := by
  obtain ⟨-, -, -, -, -, -, -, -, -, -, ⟨e0, e1⟩, -⟩ := idx_all t
  show V m c main_v34 ((((cfg0.win 10).blk t).view.emb (ix2 0 k)) : S1x768.Idx) = _
  have f : ((((cfg0.win 10).blk t).view.emb (ix2 0 k)) : S1x768.Idx) = ix2 0 k := by
    funext a
    match a with
    | ⟨0, _⟩ => exact Fin.ext (show win0_10.index t 0 * 1 + 1 * 0 = 0 by rw [e0])
    | ⟨1, _⟩ => exact Fin.ext (show win0_10.index t 1 * 768 + 1 * k.val = k.val by rw [e1]; omega)
  rw [f, host_gb]
  pointwise

theorem blk_gc (k : Fin 512) : iblk m c 11 t (ix2 0 k) = (args m c).gc (ix2 0 k) := by
  obtain ⟨-, -, -, -, -, -, -, -, -, -, -, ⟨e0, e1⟩, -⟩ := idx_all t
  show V m c main_v35 ((((cfg0.win 11).blk t).view.emb (ix2 0 k)) : S1x512.Idx) = _
  have f : ((((cfg0.win 11).blk t).view.emb (ix2 0 k)) : S1x512.Idx) = ix2 0 k := by
    funext a
    match a with
    | ⟨0, _⟩ => exact Fin.ext (show win0_11.index t 0 * 1 + 1 * 0 = 0 by rw [e0])
    | ⟨1, _⟩ => exact Fin.ext (show win0_11.index t 1 * 512 + 1 * k.val = k.val by rw [e1]; omega)
  rw [f, host_gc]
  pointwise

theorem blk_w (k n : Fin 2048) : iblk m c 12 t (ix3 0 k n) = (args m c).w (ix3 0 k n) := by
  obtain ⟨-, -, -, -, -, -, -, -, -, -, -, -, ⟨e0, e1, e2⟩, -⟩ := idx_all t
  show V m c main_v32 ((((cfg0.win 12).blk t).view.emb (ix3 0 k n)) : S2x2048x2048.Idx) = _
  have f : ((((cfg0.win 12).blk t).view.emb (ix3 0 k n)) : S2x2048x2048.Idx) = ix3 0 k n := by
    funext a
    match a with
    | ⟨0, _⟩ => exact Fin.ext (show win0_12.index t 0 * 1 + 1 * 0 = 0 by rw [e0])
    | ⟨1, _⟩ => exact Fin.ext (show win0_12.index t 1 * 2048 + 1 * k.val = k.val by rw [e1]; omega)
    | ⟨2, _⟩ => exact Fin.ext (show win0_12.index t 2 * 2048 + 1 * n.val = n.val by rw [e2]; omega)
  rw [f, host_w]
  pointwise

theorem blk_gate (n : Fin 2048) (b : Fin 2) (e : b.val = t.val / 8) :
    iblk m c 13 t (ix3 0 0 n) = (args m c).md (ix3 0 b ⟨4096 + n.val, by omega⟩) := by
  obtain ⟨-, -, -, -, -, -, -, -, -, -, -, -, -, ⟨e0, e1, e2⟩, -⟩ := idx_all t
  show V m c main_v8 ((((cfg0.win 13).blk t).view.emb (ix3 0 0 n)) : S2x1x2048.Idx) = _
  have f : ((((cfg0.win 13).blk t).view.emb (ix3 0 0 n)) : S2x1x2048.Idx) = ix3 b 0 n := by
    funext a
    match a with
    | ⟨0, _⟩ => exact Fin.ext (show win0_13.index t 0 * 1 + 1 * 0 = b.val by rw [e0]; omega)
    | ⟨1, _⟩ => exact Fin.ext (show win0_13.index t 1 * 1 + 1 * 0 = 0 by rw [e1])
    | ⟨2, _⟩ => exact Fin.ext (show win0_13.index t 2 * 2048 + 1 * n.val = n.val by rw [e2]; omega)
  rw [f, host_gate]
  pointwise

/-! ## What a grid point stores -/

theorem point_avg (hf : (args m c).Finite) (r : Fin 512) (k : Fin 768) (R : ℕ) (hR : R < 8192) (e : R = 512 * t.val + r.val) :
    column (k0_pay13 (iblk m c 5 t) (iblk m c 6 t) (iblk m c 7 t)) (k0_pay14 (iblk m c 5 t) (iblk m c 6 t) (iblk m c 7 t))
        (k0_pay15 (iblk m c 5 t) (iblk m c 6 t) (iblk m c 7 t)) (iblk m c 2 t) (iblk m c 3 t) (iblk m c 4 t) r k
      = (args m c).avg (batch R hR) (pos R) k := by
  obtain ⟨h, h'⟩ := hf (batch R hR) (pos R) (head k)
  unfold column Args.avg mix
  refine congr_arg₂ (· + ·) (congr_arg₂ (· + ·) (congr_arg₂ (· * ·) ?_ (blk_o1 m c t r k R hR e))
    (congr_arg₂ (· * ·) ?_ (blk_o2 m c t r k R hR e))) (congr_arg₂ (· * ·) ?_ (blk_o3 m c t r k R hR e))
  · rw [weight1_apply, blk_l1 m c t r _ R hR e, blk_l2 m c t r _ R hR e, blk_l3 m c t r _ R hR e]
    exact weight_eq _ h h'
  · rw [weight2_apply, blk_l1 m c t r _ R hR e, blk_l2 m c t r _ R hR e, blk_l3 m c t r _ R hR e]
    exact weight_eq _ h h'
  · rw [weight3_apply, blk_l1 m c t r _ R hR e, blk_l2 m c t r _ R hR e, blk_l3 m c t r _ R hR e]
    exact weight_eq _ h h'

theorem point_result (hf : (args m c).Finite) (r : Fin 512) (n : Fin 2048) (R : ℕ) (hR : R < 8192)
    (e : R = 512 * t.val + r.val) :
    out0_14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (ix2 r n)
      = (args m c).result (batch R hR) (pos R) n := by
  have eb : (batch R hR).val = t.val / 8 := by
    show R / 4096 = _
    omega
  rw [block_apply]
  unfold Args.result
  refine congr_arg₂ (· + ·) (blk_x m c t r n R hR e) (congr_arg₂ (· * ·) (blk_gate m c t n _ eb)
    (Finset.sum_congr rfl fun k _ => congr_arg₂ (· * ·) (congrFun ?_ k) (blk_w m c t k n)))
  congr 1
  · funext d; exact blk_ya m c t r d R hR e
  · funext d; exact point_avg m c t hf r d R hR e
  · funext d; exact blk_yc m c t r d R hR e
  · funext d; exact blk_ga m c t d
  · funext d; exact blk_gb m c t d
  · funext d; exact blk_gc m c t d

/-! ## The output array -/

theorem flushed_result (hf : (args m c).Finite) : (dats m 0 c).flushed 14 t
    = ((cfg0.win 14).blk t).view.read (Elt Ideal) (args m c).value := by
  obtain ⟨-, -, -, -, -, -, -, -, -, -, -, -, -, -, ⟨e0, e1⟩⟩ := idx_all t
  rw [Value.flushed14]
  funext y
  have f0 : ((((cfg0.win 14).blk t).view.emb y) 0).val = 512 * t.val + (y 0).val := by
    show win0_14.index t 0 * 512 + 1 * (y 0).val = _
    rw [e0]; omega
  have f1 : (((cfg0.win 14).blk t).view.emb y) 1 = y 1 := Fin.ext (by
    show win0_14.index t 1 * 2048 + 1 * (y 1).val = (y 1).val
    rw [e1]; omega)
  show out0_14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) y
    = (args m c).result _ _ ((((cfg0.win 14).blk t).view.emb y) 1)
  refine (congrArg _ (eq_ix2 (n0 := 512) (n1 := 2048) y)).trans ((point_result m c t hf (y 0) (y 1) _
    ((((cfg0.win 14).blk t).view.emb y) 0).isLt f0).trans ?_)
  exact congrArg _ f1.symm

theorem point_of (r : ℕ) (h : r < 8192) : ∃ t : Fin cfg0.N, t.val = r / 512 := by
  have pts : ∀ q : Fin 16, ∃ t : Fin grid0.N, t.val = q.val := by decide +kernel
  exact pts ⟨r / 512, by omega⟩

theorem cover (j : S8192x2048.Idx) :
    ∃ t : Fin cfg0.N, (cfg0.win 14).flush t = true ∧ j ∈ ((cfg0.win 14).blk t).view.set := by
  have b0 : (j 0).val < 8192 := (j 0).isLt
  have b1 : (j 1).val < 2048 := (j 1).isLt
  obtain ⟨t, ht⟩ := point_of _ b0
  obtain ⟨-, -, -, -, -, -, -, -, -, -, -, -, -, -, ⟨e0, e1⟩⟩ := idx_all t
  refine ⟨t, flush0_14 t, ?_⟩
  show j ∈ ((View.whole main_v36).slice (win0_14.rect t)).set
  rw [View.set_slice_whole, Rect.mem_set_unit]
  intro a
  match a with
  | ⟨0, _⟩ =>
    show win0_14.index t 0 * 512 ≤ (j 0).val ∧ (j 0).val < win0_14.index t 0 * 512 + 512
    rw [e0]; omega
  | ⟨1, _⟩ =>
    show win0_14.index t 1 * 2048 ≤ (j 1).val ∧ (j 1).val < win0_14.index t 1 * 2048 + 2048
    rw [e1]; omega

/-- The kernel's output array. -/
theorem final_array (hf : (args m c).Finite) : (dats m 0 c).arrAt 14 cfg0.N = (args m c).value :=
  (dats m 0 c).arrAt_eq_of_cover 14 _ (fun t _ => flushed_result m c t hf) cover

end Cert.Kernel3Ideal.Mix

end
-- ==== Proof.Mix.Pre.lean ====
/-
  The precondition, read: the largest of a token's three log-sum-exps is finite.
-/
module

public import proofs.«01_k».proof.Pre_top_lse_finite
public import Idealize.ShloMosaic.Lib.Pipeline.ValueKit
public import Idealize.ShloMosaic.Lib.Pointwise
public import Idealize.ShloMosaic.Lib.ReduceAll

@[expose] public section

set_option maxRecDepth 16384

noncomputable section

namespace Cert.Pre_top_lse_finite.Mix

open Idealize.ShloMosaic Idealize.ShloMosaic.Tactic
open Cert.Pre_top_lse_finite

/-- The predicate's side conditions. -/
instance facts : Facts where
  slices_S2x4096x128_S2x4096x6_0_0_0 := by decide
  shapeCasts_S2x1024x512_S2x4096x128 := by decide
  shapeCasts_S2x256x2048_S2x4096x128 := by decide
  bcast_S_S2x4096x6 := by decide
  reducesTo_S2x4096x6_S_d0_1_2 := by decide
  h_S_ := by decide

open Facts

section
variable (a : FVec Ideal S2x4096x128 .f32) (b : FVec Ideal S2x1024x512 .f32) (d : FVec Ideal S2x256x2048 .f32)

/-- The largest of the three, for every token and head. -/
def top : FVec Ideal S2x4096x6 .f32 :=
  maximumf (maximumf (extractStridedSlice S2x4096x6 ![0, 0, 0] a slices_S2x4096x128_S2x4096x6_0_0_0)
      (extractStridedSlice S2x4096x6 ![0, 0, 0] (shapeCast S2x4096x128 b shapeCasts_S2x1024x512_S2x4096x128)
        slices_S2x4096x128_S2x4096x6_0_0_0))
    (extractStridedSlice S2x4096x6 ![0, 0, 0] (shapeCast S2x4096x128 d shapeCasts_S2x256x2048_S2x4096x128)
      slices_S2x4096x128_S2x4096x6_0_0_0)

/-- The test of every token and head. -/
def test : IVec S2x4096x6 1 :=
  andi (cmpf .ogt (top a b d) (broadcastInDim S2x4096x6 ![] bcast_S_S2x4096x6 (constant S_ .f32 0xFF800000#32)))
    (cmpf .olt (top a b d) (broadcastInDim S2x4096x6 ![] bcast_S_S2x4096x6 (constant S_ .f32 0x7F800000#32)))

theorem top_apply (i : Fin 2) (t : Fin 4096) (h : Fin 6) :
    top a b d (ix3 i t h) = max (max (a (ix3 i t ⟨h.val, by omega⟩))
        (b (ix3 i ⟨t.val / 4, by omega⟩ ⟨t.val % 4 * 128 + h.val, by omega⟩)))
      (d (ix3 i ⟨t.val / 16, by omega⟩ ⟨t.val % 16 * 128 + h.val, by omega⟩)) := by
  unfold top
  pointwise

end

theorem ofBits_top : Ideal.ofBits FTy.f32 2139095040#32 = ⊤ := by
  simp [Ideal.ofBits, Ideal.ieee]

theorem ofBits_bot : Ideal.ofBits FTy.f32 4286578688#32 = ⊥ := by
  simp [Ideal.ofBits, Ideal.ieee]

theorem of_words {p q : Prop} [Decidable p] [Decidable q] (h : BitVec.ofBool (decide p) &&& BitVec.ofBool (decide q) = 1#1) :
    p ∧ q := by
  by_cases hp : p <;> by_cases hq : q <;> simp [hp, hq] at h ⊢

section
variable {x0 : FVec Ideal S2x4096x2048 .f32} {x1 : FVec Ideal S2x2x12288 .f32} {x2 : FVec Ideal S8192x768 .bf16}
    {x3 : FVec Ideal S2x4096x768 .bf16} {a : FVec Ideal S2x4096x128 .f32} {x5 : FVec Ideal S2x1024x3072 .bf16}
    {b : FVec Ideal S2x1024x512 .f32} {x7 : FVec Ideal S2x256x12288 .bf16} {d : FVec Ideal S2x256x2048 .f32}
    {x9 : FVec Ideal S2x4096x512 .bf16} {x10 x11 : FVec Ideal S2x768 .f32} {x12 : FVec Ideal S2x512 .f32}
    {x13 : FVec Ideal S2x2048x2048 .f32}

theorem fn_eq : fn (F := Ideal) x0 x1 x2 x3 a x5 b x7 d x9 x10 x11 x12 x13
    = Host.reduce IntOp.andi (test a b d) (constantI S_ 1 1#1) reducesTo_S2x4096x6_S_d0_1_2 h_S_ := by
  unfold fn test top
  rfl

theorem finite
    (h : fn (F := Ideal) x0 x1 x2 x3 a x5 b x7 d x9 x10 x11 x12 x13 = fun _ => 1#1) (i : Fin 2) (t : Fin 4096) (n : Fin 6) :
    ⊥ < top a b d (ix3 i t n) ∧ top a b d (ix3 i t n) < ⊤ := by
  haveI : Subsingleton S_.Idx := ⟨fun a b => funext fun i => i.elim0⟩
  rw [fn_eq] at h
  have key := Host.reduce_andi_all _ _ _ _ (fun i => i.elim0) (congrFun h _) (ix3 (n0 := 2) (n1 := 4096) (n2 := 6) i t n)
  revert key
  unfold test
  pointwise
  rw [ofBits_top, ofBits_bot]
  intro key
  exact of_words key

end

end Cert.Pre_top_lse_finite.Mix
end
-- ==== Proof.Mix.Ref.lean ====
/-
  The reference's run ends with the mixed and projected activations.
-/
module

public import proofs.«01_k».proof.Proof.Gen.Reference3Ideal.Run
public import proofs.«01_k».proof.Proof.Mix.Out
public import proofs.«01_k».proof.Proof.Mix.Pre

@[expose] public section

set_option maxRecDepth 16384

noncomputable section

namespace Cert.Reference3Ideal.Mix

open Idealize.ShloMosaic Idealize.ShloMosaic.TcCoe Idealize.ShloMosaic.Tactic Idealize.SL.Sem
open Cert.Reference3Ideal Cert.Reference3Ideal.Gen Cert.Norm Cert.MixRow
open Cert.Kernel3Ideal.Mix (Args)

/-! ## The softmax over the three passes -/

section
variable (l1 : FVec Ideal S2x4096x128 .f32) (l2 : FVec Ideal S2x1024x512 .f32) (l3 : FVec Ideal S2x256x2048 .f32)

/-- The log-sum-exps of the three passes, one after the other. -/
def stack : FVec Ideal S3x2x4096x6 .f32 :=
  concatenate S3x2x4096x6 0
    [⟨S1x2x4096x6, broadcastInDim S1x2x4096x6 ![1, 2, 3] bcast_S2x4096x6_S1x2x4096x6_1_2_3
        (extractStridedSlice S2x4096x6 ![0, 0, 0] l1 slices_S2x4096x128_S2x4096x6_0_0_0)⟩,
      ⟨S1x2x4096x6, broadcastInDim S1x2x4096x6 ![1, 2, 3] bcast_S2x4096x6_S1x2x4096x6_1_2_3
        (extractStridedSlice S2x4096x6 ![0, 0, 0] (shapeCast _ l2 shapeCasts_S2x1024x512_S2x4096x128)
          slices_S2x4096x128_S2x4096x6_0_0_0)⟩,
      ⟨S1x2x4096x6, broadcastInDim S1x2x4096x6 ![1, 2, 3] bcast_S2x4096x6_S1x2x4096x6_1_2_3
        (extractStridedSlice S2x4096x6 ![0, 0, 0] (shapeCast _ l3 shapeCasts_S2x256x2048_S2x4096x128)
          slices_S2x4096x128_S2x4096x6_0_0_0)⟩]
    concatenates_S1x2x4096x6_S1x2x4096x6_S1x2x4096x6_S3x2x4096x6_d0

end

section
variable (s : FVec Ideal S3x2x4096x6 .f32)

/-- The largest over the passes. -/
def largest : FVec Ideal S2x4096x6 .f32 :=
  maximumf (broadcastInDim S2x4096x6 ![] bcast_S_S2x4096x6 (constant S_ .f32 0xFF800000#32))
    (Host.reduce FloatOps.maximumf s (constant S_ .f32 0xFF800000#32) reducesTo_S3x2x4096x6_S2x4096x6_d0 h_S_)

/-- The exponentials. -/
def exps : FVec Ideal S3x2x4096x6 .f32 :=
  Host.exp (subf s (broadcastInDim S3x2x4096x6 ![0, 1, 2, 3] bcast_S1x2x4096x6_S3x2x4096x6_0_1_2_3
    (broadcastInDim S1x2x4096x6 ![1, 2, 3] bcast_S2x4096x6_S1x2x4096x6_1_2_3 (largest s))))

/-- The softmax. -/
def weights : FVec Ideal S3x2x4096x6 .f32 :=
  Host.divf (exps s) (broadcastInDim S3x2x4096x6 ![0, 1, 2, 3] bcast_S1x2x4096x6_S3x2x4096x6_0_1_2_3
    (broadcastInDim S1x2x4096x6 ![1, 2, 3] bcast_S2x4096x6_S1x2x4096x6_1_2_3
      (Host.reduceAdd (exps s) (constant S_ .f32 0x00000000#32) reducesTo_S3x2x4096x6_S2x4096x6_d0 h_S_)))

theorem largest_apply (b : Fin 2) (t : Fin 4096) (h : Fin 6) :
    largest s (ix3 b t h) = max (max (s (ix4 0 b t h)) (s (ix4 1 b t h))) (s (ix4 2 b t h)) := by
  unfold largest
  pointwise
  rw [Cert.Pre_top_lse_finite.Mix.ofBits_bot]
  show max ⊥ (max (s (ix4 0 b t h)) (max (s (ix4 1 b t h)) (max (s (ix4 2 b t h)) ⊥))) = _
  simp [max_assoc]

theorem exps_apply (p : Fin 3) (b : Fin 2) (t : Fin 4096) (h : Fin 6) :
    exps s (ix4 p b t h) = expo (s (ix4 0 b t h)) (s (ix4 1 b t h)) (s (ix4 2 b t h)) (s (ix4 p b t h)) := by
  unfold exps expo
  pointwise
  rw [largest_apply]

theorem weights_apply (p : Fin 3) (b : Fin 2) (t : Fin 4096) (h : Fin 6) :
    weights s (ix4 p b t h) = weight (s (ix4 0 b t h)) (s (ix4 1 b t h)) (s (ix4 2 b t h)) (s (ix4 p b t h)) := by
  unfold weights weight den
  pointwise
  simp only [exps_apply, Fin.sum_univ_three]

end

/-! ## The average -/

section
variable (o1 : FVec Ideal S2x4096x768 .bf16) (o2 : FVec Ideal S2x1024x3072 .bf16) (o3 : FVec Ideal S2x256x12288 .bf16)

/-- The results of the three passes, one after the other. -/
def results : FVec Ideal S3x2x4096x6x128 .f32 :=
  concatenate S3x2x4096x6x128 0
    [⟨S1x2x4096x6x128, broadcastInDim S1x2x4096x6x128 ![1, 2, 3, 4] bcast_S2x4096x6x128_S1x2x4096x6x128_1_2_3_4
        (shapeCast _ (extf .f32 o1 bitsLt_bf16_f32) shapeCasts_S2x4096x768_S2x4096x6x128)⟩,
      ⟨S1x2x4096x6x128, broadcastInDim S1x2x4096x6x128 ![1, 2, 3, 4] bcast_S2x4096x6x128_S1x2x4096x6x128_1_2_3_4
        (shapeCast _ (extf .f32 o2 bitsLt_bf16_f32) shapeCasts_S2x1024x3072_S2x4096x6x128)⟩,
      ⟨S1x2x4096x6x128, broadcastInDim S1x2x4096x6x128 ![1, 2, 3, 4] bcast_S2x4096x6x128_S1x2x4096x6x128_1_2_3_4
        (shapeCast _ (extf .f32 o3 bitsLt_bf16_f32) shapeCasts_S2x256x12288_S2x4096x6x128)⟩]
    concatenates_S1x2x4096x6x128_S1x2x4096x6x128_S1x2x4096x6x128_S3x2x4096x6x128_d0

end

/-- The weighted sum over the passes. -/
def average (w : FVec Ideal S3x2x4096x6 .f32) (o : FVec Ideal S3x2x4096x6x128 .f32) : FVec Ideal S2x4096x768 .f32 :=
  shapeCast _ (Host.reduceAdd (mulf (broadcastInDim S3x2x4096x6x128 ![0, 1, 2, 3, 4]
      bcast_S3x2x4096x6x1_S3x2x4096x6x128_0_1_2_3_4 (broadcastInDim S3x2x4096x6x1 ![0, 1, 2, 3]
      bcast_S3x2x4096x6_S3x2x4096x6x1_0_1_2_3 w)) o) (constant S_ .f32 0x00000000#32)
      reducesTo_S3x2x4096x6x128_S2x4096x6x128_d0 h_S_) shapeCasts_S2x4096x6x128_S2x4096x768

theorem average_apply (w : FVec Ideal S3x2x4096x6 .f32) (o : FVec Ideal S3x2x4096x6x128 .f32) (b : Fin 2) (t : Fin 4096)
    (k : Fin 768) :
    average w o (ix3 b t k) = ∑ p : Fin 3, w (ix4 p b t (head k)) * o (ix5 p b t (head k) ⟨k.val % 128, by omega⟩) := by
  unfold average head
  pointwise

/-! ## The norms and the projection -/

/-- The norm of rows of 768. -/
def norm768 (x : FVec Ideal S2x4096x768 .f32) (g : FVec Ideal S2x768 .f32) : FVec Ideal S2x4096x768 .f32 :=
  mulf (mulf x (broadcastInDim S2x4096x768 ![0, 1, 2] bcast_S2x4096x1_S2x4096x768_0_1_2 (Host.rsqrt (addf (Host.divf
    (broadcastInDim S2x4096x1 ![0, 1] bcast_S2x4096_S2x4096x1_0_1 (Host.reduceAdd (mulf x x) (constant S_ .f32 0x00000000#32)
      reducesTo_S2x4096x768_S2x4096_d2 h_S_)) (broadcastInDim S2x4096x1 ![] bcast_S_S2x4096x1 (constant S_ .f32 0x44400000#32)))
    (broadcastInDim S2x4096x1 ![] bcast_S_S2x4096x1 (constant S_ .f32 0x358637BD#32))))))
    (broadcastInDim S2x4096x768 ![0, 1, 2] bcast_S1x1x768_S2x4096x768_0_1_2 (broadcastInDim S1x1x768 ![2] bcast_S768_S1x1x768_2
      (shapeCast _ (extractStridedSlice S1x768 ![0, 0] g slices_S2x768_S1x768_0_0) shapeCasts_S1x768_S768)))

theorem norm768_apply (x : FVec Ideal S2x4096x768 .f32) (g : FVec Ideal S2x768 .f32) (b : Fin 2) (t : Fin 4096) (k : Fin 768) :
    norm768 x g (ix3 b t k)
      = rms (Ideal.ofBits FTy.f32 1145044992#32) (fun d => x (ix3 b t d)) (fun d => g (ix2 0 d)) k := by
  unfold norm768 rms
  pointwise

/-- The norm of rows of 512. -/
def norm512 (x : FVec Ideal S2x4096x512 .f32) (g : FVec Ideal S2x512 .f32) : FVec Ideal S2x4096x512 .f32 :=
  mulf (mulf x (broadcastInDim S2x4096x512 ![0, 1, 2] bcast_S2x4096x1_S2x4096x512_0_1_2 (Host.rsqrt (addf (Host.divf
    (broadcastInDim S2x4096x1 ![0, 1] bcast_S2x4096_S2x4096x1_0_1 (Host.reduceAdd (mulf x x) (constant S_ .f32 0x00000000#32)
      reducesTo_S2x4096x512_S2x4096_d2 h_S_)) (broadcastInDim S2x4096x1 ![] bcast_S_S2x4096x1 (constant S_ .f32 0x44000000#32)))
    (broadcastInDim S2x4096x1 ![] bcast_S_S2x4096x1 (constant S_ .f32 0x358637BD#32))))))
    (broadcastInDim S2x4096x512 ![0, 1, 2] bcast_S1x1x512_S2x4096x512_0_1_2 (broadcastInDim S1x1x512 ![2] bcast_S512_S1x1x512_2
      (shapeCast _ (extractStridedSlice S1x512 ![0, 0] g slices_S2x512_S1x512_0_0) shapeCasts_S1x512_S512)))

theorem norm512_apply (x : FVec Ideal S2x4096x512 .f32) (g : FVec Ideal S2x512 .f32) (b : Fin 2) (t : Fin 4096) (k : Fin 512) :
    norm512 x g (ix3 b t k)
      = rms (Ideal.ofBits FTy.f32 1140850688#32) (fun d => x (ix3 b t d)) (fun d => g (ix2 0 d)) k := by
  unfold norm512 rms
  pointwise

/-- The three side by side. -/
def sides (u v : FVec Ideal S2x4096x768 .f32) (s : FVec Ideal S2x4096x512 .f32) : FVec Ideal S2x4096x2048 .f32 :=
  concatenate S2x4096x2048 2 [⟨S2x4096x768, u⟩, ⟨S2x4096x768, v⟩, ⟨S2x4096x512, s⟩]
    concatenates_S2x4096x768_S2x4096x768_S2x4096x512_S2x4096x2048_d2

theorem sides_apply (u v : FVec Ideal S2x4096x768 .f32) (s : FVec Ideal S2x4096x512 .f32) (b : Fin 2) (t : Fin 4096)
    (k : Fin 2048) :
    sides u v s (ix3 b t k) = beside (fun d => u (ix3 b t d)) (fun d => v (ix3 b t d)) (fun d => s (ix3 b t d)) k := by
  unfold sides beside
  pointwise
  by_cases h : k.val < 768
  · rw [dif_pos h, dif_pos h]
  by_cases h' : k.val < 1536
  · rw [dif_neg h, dif_neg h, dif_pos (by omega), dif_pos h']
  · rw [dif_neg h, dif_neg h, dif_neg (by omega), dif_neg h']
    congr 2

/-- The activation plus the gated projection. -/
def projected (x : FVec Ideal S2x4096x2048 .f32) (md : FVec Ideal S2x2x12288 .f32) (y : FVec Ideal S2x4096x2048 .f32)
    (w : FVec Ideal S2x2048x2048 .f32) : FVec Ideal S8192x2048 .f32 :=
  shapeCast _ (addf x (mulf (broadcastInDim S2x4096x2048 ![0, 1, 2] bcast_S2x1x2048_S2x4096x2048_0_1_2 (broadcastInDim S2x1x2048
    ![0, 2] bcast_S2x2048_S2x1x2048_0_2 (extractStridedSlice S2x2048 ![0, 4096] (shapeCast _ (extractStridedSlice S1x2x12288
    ![0, 0, 0] md slices_S2x2x12288_S1x2x12288_0_0_0) shapeCasts_S1x2x12288_S2x12288) slices_S2x12288_S2x2048_0_4096)))
    (Host.dotGeneral dot_S2x4096x2048_S2048x2048_S2x4096x2048_2_0_01_1_n_n none y (shapeCast _ (extractStridedSlice S1x2048x2048
    ![0, 0, 0] w slices_S2x2048x2048_S1x2048x2048_0_0_0) shapeCasts_S1x2048x2048_S2048x2048)))) shapeCasts_S2x4096x2048_S8192x2048

theorem projected_apply (x : FVec Ideal S2x4096x2048 .f32) (md : FVec Ideal S2x2x12288 .f32) (y : FVec Ideal S2x4096x2048 .f32)
    (w : FVec Ideal S2x2048x2048 .f32) (R : Fin 8192) (n : Fin 2048) :
    projected x md y w (ix2 R n) = x (ix3 (batch R.val R.isLt) (pos R.val) n)
      + md (ix3 0 (batch R.val R.isLt) ⟨4096 + n.val, by omega⟩)
        * ∑ k, y (ix3 (batch R.val R.isLt) (pos R.val) k) * w (ix3 0 k n) := by
  unfold projected
  pointwise
  rfl

/-! ## The result -/

section
variable (A : Args)

theorem stack0 (b : Fin 2) (t : Fin 4096) (h : Fin 6) : stack A.l1 A.l2 A.l3 (ix4 0 b t h) = A.lse1 b t (Args.lane h) := by
  unfold stack Args.lse1 Args.lane
  pointwise

theorem stack1 (b : Fin 2) (t : Fin 4096) (h : Fin 6) : stack A.l1 A.l2 A.l3 (ix4 1 b t h) = A.lse2 b t (Args.lane h) := by
  unfold stack Args.lse2 Args.lane
  pointwise

theorem stack2 (b : Fin 2) (t : Fin 4096) (h : Fin 6) : stack A.l1 A.l2 A.l3 (ix4 2 b t h) = A.lse3 b t (Args.lane h) := by
  unfold stack Args.lse3 Args.lane
  pointwise

theorem results0 (b : Fin 2) (t : Fin 4096) (k : Fin 768) :
    results A.o1 A.o2 A.o3 (ix5 0 b t (head k) ⟨k.val % 128, by omega⟩) = A.out1 b t k := by
  unfold results Args.out1 head
  pointwise

theorem results1 (b : Fin 2) (t : Fin 4096) (k : Fin 768) :
    results A.o1 A.o2 A.o3 (ix5 1 b t (head k) ⟨k.val % 128, by omega⟩) = A.out2 b t k := by
  unfold results Args.out2 head
  pointwise
  exact congrArg A.o2 (congrArg (ix3 b _) (Fin.ext (by dsimp only; omega)))

theorem results2 (b : Fin 2) (t : Fin 4096) (k : Fin 768) :
    results A.o1 A.o2 A.o3 (ix5 2 b t (head k) ⟨k.val % 128, by omega⟩) = A.out3 b t k := by
  unfold results Args.out3 head
  pointwise
  exact congrArg A.o3 (congrArg (ix3 b _) (Fin.ext (by dsimp only; omega)))

theorem avg_apply (b : Fin 2) (t : Fin 4096) (k : Fin 768) :
    average (weights (stack A.l1 A.l2 A.l3)) (results A.o1 A.o2 A.o3) (ix3 b t k) = A.avg b t k := by
  rw [average_apply, Fin.sum_univ_three]
  unfold Args.avg mix
  simp only [weights_apply, stack0, stack1, stack2, results0, results1, results2]

/-- The recurrence's output by batch and position. -/
def recurrence : FVec Ideal S2x4096x768 .f32 :=
  shapeCast _ (extf .f32 (A.ya : FVec Ideal S8192x768 .bf16) bitsLt_bf16_f32) shapeCasts_S8192x768_S2x4096x768

theorem recurrence_apply (b : Fin 2) (t : Fin 4096) (k : Fin 768) :
    recurrence A (ix3 b t k) = A.ya (ix2 ⟨b.val * 4096 + t.val, by omega⟩ k) := by
  unfold recurrence
  pointwise

theorem sides_eq (b : Fin 2) (t : Fin 4096) (k : Fin 2048) :
    sides (norm768 (recurrence A) A.ga)
        (norm768 (average (weights (stack A.l1 A.l2 A.l3)) (results A.o1 A.o2 A.o3)) A.gb)
        (norm512 (extf .f32 (A.yc : FVec Ideal S2x4096x512 .bf16) bitsLt_bf16_f32) A.gc) (ix3 b t k)
      = normed (fun d => A.ya (ix2 ⟨b.val * 4096 + t.val, by omega⟩ d)) (A.avg b t) (fun d => A.yc (ix3 b t d))
        (fun d => A.ga (ix2 0 d)) (fun d => A.gb (ix2 0 d)) (fun d => A.gc (ix2 0 d)) k := by
  rw [sides_apply]
  unfold normed
  simp only [norm768_apply, norm512_apply, avg_apply, recurrence_apply]
  rfl

theorem value_eq : projected A.x A.md (sides (norm768 (recurrence A) A.ga)
      (norm768 (average (weights (stack A.l1 A.l2 A.l3)) (results A.o1 A.o2 A.o3)) A.gb)
      (norm512 (extf .f32 (A.yc : FVec Ideal S2x4096x512 .bf16) bitsLt_bf16_f32) A.gc)) A.w = A.value := by
  funext j
  unfold Args.value Args.result
  idx_vars j
  refine (projected_apply _ _ _ _ _ _).trans ?_
  simp only [sides_eq]

end

/-! ## The run -/

/-- The reference's arguments. -/
def args (m : (ℓ : Loc nD τ sig) → Buf (Elt Ideal) ℓ) (c : Dev nD) : Args where
  x := m ((c.tc : Thread nD τ).loc main_arg0)
  md := m ((c.tc : Thread nD τ).loc main_arg1)
  ya := m ((c.tc : Thread nD τ).loc main_arg2)
  o1 := m ((c.tc : Thread nD τ).loc main_arg3)
  l1 := m ((c.tc : Thread nD τ).loc main_arg4)
  o2 := m ((c.tc : Thread nD τ).loc main_arg5)
  l2 := m ((c.tc : Thread nD τ).loc main_arg6)
  o3 := m ((c.tc : Thread nD τ).loc main_arg7)
  l3 := m ((c.tc : Thread nD τ).loc main_arg8)
  yc := m ((c.tc : Thread nD τ).loc main_arg9)
  ga := m ((c.tc : Thread nD τ).loc main_arg10)
  gb := m ((c.tc : Thread nD τ).loc main_arg11)
  gc := m ((c.tc : Thread nD τ).loc main_arg12)
  w := m ((c.tc : Thread nD τ).loc main_arg13)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104) = (args m c).value
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  exact (θ_run defs _ _).mono (fun _ h c => ⟨(h c).1.trans (value_eq (args m c)), (h c).2⟩) (Value.run (F := Ideal) m ρ)

end Cert.Reference3Ideal.Mix

end
-- ==== Proof.Query.Out.lean ====
/-
  The retrieval queries' output arrays: the modulated norms, and the scores of every token against every subkey.

  A grid point holds 512 tokens, and writes the scores of its tokens one head and half at a time.
-/
module

public import proofs.«01_k».proof.Proof.Gen.Kernel4Ideal.Value
public import Idealize.ShloMosaic.Lib.Pipeline.ValueKit
public import Idealize.ShloMosaic.Lib.Pointwise
public import proofs.«01_k».proof.Proof.Norm

@[expose] public section

set_option maxRecDepth 16384

noncomputable section

namespace Cert.Kernel4Ideal.Query

open Idealize.ShloMosaic Idealize.ShloMosaic.TcCoe Idealize.ShloMosaic.Tactic
open Idealize.ShloMosaic.Pipeline (Dat)
open Cert.Kernel4Ideal Cert.Kernel4Ideal.Gen Cert.Norm

/-! ## The payloads at an index -/

theorem normed_apply (x : Vec Ideal S512x2048 .f32) (g : Vec Ideal S1x2048 .f32) (sc sh : Vec Ideal S1x1x2048 .f32)
    (r : Fin 512) (k : Fin 2048) :
    k0_pay2 x g sc sh (ix2 r k)
      = adaln (fun d => x (ix2 r d)) (fun d => g (ix2 0 d)) (fun d => sc (ix3 0 0 d)) (fun d => sh (ix3 0 0 d)) k := by
  unfold k0_pay2 adaln rms
  pointwise

theorem query_apply (x : Vec Ideal S512x2048 .f32) (g : Vec Ideal S1x2048 .f32) (sc sh : Vec Ideal S1x1x2048 .f32)
    (w : Vec Ideal S1x2048x2048 .bf16) (r : Fin 512) (n : Fin 2048) :
    k0_pay3 x g sc sh w (ix2 r n) = ∑ k, k0_pay2 x g sc sh (ix2 r k) * w (ix3 0 k n) := by
  unfold k0_pay3
  pointwise

/-- The score of token `r` for subkey `k` of head-and-half `p`. -/
def score (q : Vec Ideal S512x2048 .bf16) (s : Vec Ideal S1x16x128x128 .bf16) (p : Fin 16) (k : Fin 128) (r : Fin 512) :
    EReal :=
  ∑ d : Fin 128, s (ix4 0 p k d) * q (ix2 r ⟨128 * p.val + d.val, by omega⟩)

/-- The norms and the queries of a block. -/
abbrev query (x : Vec Ideal S512x2048 .f32) (g : Vec Ideal S1x2048 .f32) (sc sh : Vec Ideal S1x1x2048 .f32)
    (w : Vec Ideal S1x2048x2048 .bf16) : Vec Ideal S512x2048 .bf16 := k0_pay3 x g sc sh w

section
variable (x : Vec Ideal S512x2048 .f32) (g : Vec Ideal S1x2048 .f32) (sc sh : Vec Ideal S1x1x2048 .f32)
  (w : Vec Ideal S1x2048x2048 .bf16) (s : Vec Ideal S1x16x128x128 .bf16)

theorem block_norms : out0_6 x g sc sh w s = k0_pay2 x g sc sh := by
  unfold out0_6
  frame_out

theorem block_scores (y : S16x128x512.Idx) :
    out0_7 x g sc sh w s y = score (query x g sc sh w) s (y 0) (y 1) (y 2) := by
  unfold out0_7 score query
  canon_tiles z h
  all_goals
    open_payloads
    pointwise
    exact Finset.sum_congr rfl fun d _ => congr_arg₂ (· * ·) (by blk_ext) (by blk_ext)

theorem block_first (y : S128x8x512.Idx) :
    out0_8 x g sc sh w s y
      = score (query x g sc sh w) s ⟨2 * (y 1).val, by have h : (y 1).val < 8 := (y 1).isLt; omega⟩ (y 0) (y 2) := by
  unfold out0_8 score query
  canon_tiles z h
  all_goals
    open_payloads
    pointwise
    exact Finset.sum_congr rfl fun d _ => congr_arg₂ (· * ·) (by blk_ext) (by blk_ext)

end

variable (m : (ℓ : Loc nD τ sig) → Buf (Elt Ideal) ℓ) (c : Dev nD)

/-! ## The windows -/

theorem idx_all (t : Fin grid0.N) :
    (win0_0.index t 0 = t.val ∧ win0_0.index t 1 = 0)
    ∧ (win0_1.index t 0 = 0 ∧ win0_1.index t 1 = 0)
    ∧ (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0 ∧ win0_5.index t 3 = 0)
    ∧ (win0_6.index t 0 = t.val ∧ win0_6.index t 1 = 0)
    ∧ (win0_7.index t 0 = 0 ∧ win0_7.index t 1 = 0 ∧ win0_7.index t 2 = t.val)
    ∧ (win0_8.index t 0 = 0 ∧ win0_8.index t 1 = 0 ∧ win0_8.index t 2 = t.val) := by
  revert t
  decide +kernel

/-- The arguments. -/
abbrev argX : Vec Ideal S2x4096x2048 .f32 := m ((c : Thread nD τ).loc main_arg0)
abbrev argMod : Vec Ideal S2x2x12288 .f32 := m ((c : Thread nD τ).loc main_arg1)
abbrev argG : Vec Ideal S2x2048 .f32 := m ((c : Thread nD τ).loc main_arg2)
abbrev argW : Vec Ideal S2x2048x2048 .f32 := m ((c : Thread nD τ).loc main_arg3)
abbrev argS : Vec Ideal S2x8x2x128x128 .f32 := m ((c : Thread nD τ).loc main_arg4)

theorem host_x : V m c main_v18 = shapeCast S8192x2048 (argX m c) shapeCasts_S2x4096x2048_S8192x2048 := by
  unfold V hostOps0; after_results_simp <;> rfl
theorem host_scale : V m c main_v14 = shapeCast S2x1x2048 (shapeCast S2x2048 (extractStridedSlice S1x2x2048 ![0, 0, 8192]
    (argMod m c) slices_S2x2x12288_S1x2x2048_0_0_8192) shapeCasts_S1x2x2048_S2x2048) shapeCasts_S2x2048_S2x1x2048 := by
  unfold V hostOps0; after_results_simp <;> rfl
theorem host_shift : V m c main_v11 = shapeCast S2x1x2048 (shapeCast S2x2048 (extractStridedSlice S1x2x2048 ![0, 0, 6144]
    (argMod m c) slices_S2x2x12288_S1x2x2048_0_0_6144) shapeCasts_S1x2x2048_S2x2048) shapeCasts_S2x2048_S2x1x2048 := by
  unfold V hostOps0; after_results_simp <;> rfl
theorem host_g : V m c main_v21 = shapeCast S1x2048 (shapeCast S2048 (extractStridedSlice S1x2048 ![0, 0] (argG m c)
    slices_S2x2048_S1x2048_0_0) shapeCasts_S1x2048_S2048) shapeCasts_S2048_S1x2048 := by
  unfold V hostOps0; after_results_simp <;> rfl
theorem host_w : V m c main_v22 = (truncf .bf16 (argW m c) bitsLt_bf16_f32 : FVec Ideal S2x2048x2048 .bf16) := by
  unfold V hostOps0; after_results_simp <;> rfl
theorem host_s : V m c main_v24 = (truncf .bf16 (shapeCast S2x16x128x128 (argS m c) shapeCasts_S2x8x2x128x128_S2x16x128x128
    : FVec Ideal S2x16x128x128 .f32) bitsLt_bf16_f32 : FVec Ideal S2x16x128x128 .bf16) := by
  unfold V hostOps0; after_results_simp <;> rfl

/-! ## The input blocks at an index -/

variable (t : Fin cfg0.N)

theorem points : t.val < 16 := by
  have h : ∀ t : Fin grid0.N, t.val < 16 := by decide +kernel
  exact h t

theorem blk_x (r : Fin 512) (k : Fin 2048) (R : ℕ) (hR : R < 8192) (e : R = 512 * t.val + r.val) :
    iblk m c 0 t (ix2 r k) = argX m c (ix3 (batch R hR) (pos R) k) := by
  obtain ⟨⟨e0, e1⟩, -⟩ := idx_all t
  show V m c main_v18 ((((cfg0.win 0).blk t).view.emb (ix2 r k)) : S8192x2048.Idx) = _
  have f : ((((cfg0.win 0).blk t).view.emb (ix2 r k)) : S8192x2048.Idx) = ix2 ⟨R, hR⟩ k := by
    funext a
    match a with
    | ⟨0, _⟩ => exact Fin.ext (show win0_0.index t 0 * 512 + 1 * r.val = R by rw [e0]; omega)
    | ⟨1, _⟩ => exact Fin.ext (show win0_0.index t 1 * 2048 + 1 * k.val = k.val by rw [e1]; omega)
  rw [f, host_x]
  pointwise
  rfl

theorem blk_g (k : Fin 2048) : iblk m c 1 t (ix2 0 k) = argG m c (ix2 0 k) := by
  obtain ⟨-, ⟨e0, e1⟩, -⟩ := idx_all t
  show V m c main_v21 ((((cfg0.win 1).blk t).view.emb (ix2 0 k)) : S1x2048.Idx) = _
  have f : ((((cfg0.win 1).blk t).view.emb (ix2 0 k)) : S1x2048.Idx) = ix2 0 k := by
    funext a
    match a with
    | ⟨0, _⟩ => exact Fin.ext (show win0_1.index t 0 * 1 + 1 * 0 = 0 by rw [e0])
    | ⟨1, _⟩ => exact Fin.ext (show win0_1.index t 1 * 2048 + 1 * k.val = k.val by rw [e1]; omega)
  rw [f, host_g]
  pointwise

theorem blk_scale (k : Fin 2048) (b : Fin 2) (e : b.val = t.val / 8) :
    iblk m c 2 t (ix3 0 0 k) = argMod m c (ix3 0 b ⟨8192 + k.val, by omega⟩) := by
  obtain ⟨-, -, ⟨e0, e1, e2⟩, -⟩ := idx_all t
  show V m c main_v14 ((((cfg0.win 2).blk t).view.emb (ix3 0 0 k)) : S2x1x2048.Idx) = _
  have f : ((((cfg0.win 2).blk t).view.emb (ix3 0 0 k)) : S2x1x2048.Idx) = ix3 b 0 k := by
    funext a
    match a with
    | ⟨0, _⟩ => exact Fin.ext (show win0_2.index t 0 * 1 + 1 * 0 = b.val by rw [e0]; omega)
    | ⟨1, _⟩ => exact Fin.ext (show win0_2.index t 1 * 1 + 1 * 0 = 0 by rw [e1])
    | ⟨2, _⟩ => exact Fin.ext (show win0_2.index t 2 * 2048 + 1 * k.val = k.val by rw [e2]; omega)
  rw [f, host_scale]
  pointwise

theorem blk_shift (k : Fin 2048) (b : Fin 2) (e : b.val = t.val / 8) :
    iblk m c 3 t (ix3 0 0 k) = argMod m c (ix3 0 b ⟨6144 + k.val, by omega⟩) := by
  obtain ⟨-, -, -, ⟨e0, e1, e2⟩, -⟩ := idx_all t
  show V m c main_v11 ((((cfg0.win 3).blk t).view.emb (ix3 0 0 k)) : S2x1x2048.Idx) = _
  have f : ((((cfg0.win 3).blk t).view.emb (ix3 0 0 k)) : S2x1x2048.Idx) = ix3 b 0 k := by
    funext a
    match a with
    | ⟨0, _⟩ => exact Fin.ext (show win0_3.index t 0 * 1 + 1 * 0 = b.val by rw [e0]; omega)
    | ⟨1, _⟩ => exact Fin.ext (show win0_3.index t 1 * 1 + 1 * 0 = 0 by rw [e1])
    | ⟨2, _⟩ => exact Fin.ext (show win0_3.index t 2 * 2048 + 1 * k.val = k.val by rw [e2]; omega)
  rw [f, host_shift]
  pointwise

theorem blk_w (k n : Fin 2048) : iblk m c 4 t (ix3 0 k n) = argW m c (ix3 0 k n) := by
  obtain ⟨-, -, -, -, ⟨e0, e1, e2⟩, -⟩ := idx_all t
  show V m c main_v22 ((((cfg0.win 4).blk t).view.emb (ix3 0 k n)) : S2x2048x2048.Idx) = _
  have f : ((((cfg0.win 4).blk t).view.emb (ix3 0 k n)) : S2x2048x2048.Idx) = ix3 0 k n := by
    funext a
    match a with
    | ⟨0, _⟩ => exact Fin.ext (show win0_4.index t 0 * 1 + 1 * 0 = 0 by rw [e0])
    | ⟨1, _⟩ => exact Fin.ext (show win0_4.index t 1 * 2048 + 1 * k.val = k.val by rw [e1]; omega)
    | ⟨2, _⟩ => exact Fin.ext (show win0_4.index t 2 * 2048 + 1 * n.val = n.val by rw [e2]; omega)
  rw [f, host_w]
  pointwise

theorem blk_s (p : Fin 16) (k d : Fin 128) :
    iblk m c 5 t (ix4 0 p k d) = argS m c (ix5 0 ⟨p.val / 2, by omega⟩ ⟨p.val % 2, by omega⟩ k d) := by
  obtain ⟨-, -, -, -, -, ⟨e0, e1, e2, e3⟩, -⟩ := idx_all t
  show V m c main_v24 ((((cfg0.win 5).blk t).view.emb (ix4 0 p k d)) : S2x16x128x128.Idx) = _
  have f : ((((cfg0.win 5).blk t).view.emb (ix4 0 p k d)) : S2x16x128x128.Idx) = ix4 0 p k d := by
    funext a
    match a with
    | ⟨0, _⟩ => exact Fin.ext (show win0_5.index t 0 * 1 + 1 * 0 = 0 by rw [e0])
    | ⟨1, _⟩ => exact Fin.ext (show win0_5.index t 1 * 16 + 1 * p.val = p.val by rw [e1]; omega)
    | ⟨2, _⟩ => exact Fin.ext (show win0_5.index t 2 * 128 + 1 * k.val = k.val by rw [e2]; omega)
    | ⟨3, _⟩ => exact Fin.ext (show win0_5.index t 3 * 128 + 1 * d.val = d.val by rw [e3]; omega)
  rw [f, host_s]
  pointwise

/-! ## The specification -/

/-- The modulated norms of a row of the flattened activations. -/
def normedRow (x : Vec Ideal S2x4096x2048 .f32) (md : Vec Ideal S2x2x12288 .f32) (g : Vec Ideal S2x2048 .f32)
    (R : ℕ) (hR : R < 8192) (k : Fin 2048) : EReal :=
  adaln (fun d => x (ix3 (batch R hR) (pos R) d)) (fun d => g (ix2 0 d))
    (fun d => md (ix3 0 (batch R hR) ⟨8192 + d.val, by omega⟩)) (fun d => md (ix3 0 (batch R hR) ⟨6144 + d.val, by omega⟩)) k

/-- The norms as an array. -/
def norms (x : Vec Ideal S2x4096x2048 .f32) (md : Vec Ideal S2x2x12288 .f32) (g : Vec Ideal S2x2048 .f32)
    (j : S8192x2048.Idx) : EReal := normedRow x md g (j 0).val (j 0).isLt (j 1)

/-- The score of the token in row `R` for subkey `k` of half `b` of head `a`. -/
def tokenScore (x : Vec Ideal S2x4096x2048 .f32) (md : Vec Ideal S2x2x12288 .f32) (g : Vec Ideal S2x2048 .f32)
    (w : Vec Ideal S2x2048x2048 .f32) (s : Vec Ideal S2x8x2x128x128 .f32) (a : Fin 8) (b : Fin 2) (k : Fin 128)
    (R : ℕ) (hR : R < 8192) : EReal :=
  ∑ d : Fin 128, s (ix5 0 a b k d)
    * ∑ l, normedRow x md g R hR l * w (ix3 0 l ⟨256 * a.val + 128 * b.val + d.val, by omega⟩)

/-- The scores, with the heads and their halves as one axis. -/
def scores (x : Vec Ideal S2x4096x2048 .f32) (md : Vec Ideal S2x2x12288 .f32) (g : Vec Ideal S2x2048 .f32)
    (w : Vec Ideal S2x2048x2048 .f32) (s : Vec Ideal S2x8x2x128x128 .f32) (j : S16x128x8192.Idx) : EReal :=
  tokenScore x md g w s ⟨(j 0).val / 2, by have h : (j 0).val < 16 := (j 0).isLt; omega⟩
    ⟨(j 0).val % 2, by omega⟩ (j 1) (j 2).val (j 2).isLt

/-- The scores of the first halves. -/
def firstScores (x : Vec Ideal S2x4096x2048 .f32) (md : Vec Ideal S2x2x12288 .f32) (g : Vec Ideal S2x2048 .f32)
    (w : Vec Ideal S2x2048x2048 .f32) (s : Vec Ideal S2x8x2x128x128 .f32) (j : S128x8x8192.Idx) : EReal :=
  tokenScore x md g w s (j 1) 0 (j 0) (j 2).val (j 2).isLt

/-! ## What a grid point stores -/

theorem point_norms (r : Fin 512) (k : Fin 2048) (R : ℕ) (hR : R < 8192) (e : R = 512 * t.val + r.val) :
    k0_pay2 (iblk m c 0 t) (iblk m c 1 t) (iblk m c 2 t) (iblk m c 3 t) (ix2 r k)
      = normedRow (argX m c) (argMod m c) (argG m c) R hR k := by
  have eb : (batch R hR).val = t.val / 8 := by
    show R / 4096 = _
    omega
  rw [normed_apply]
  unfold normedRow
  congr 1
  · funext d; exact blk_x m c t r d R hR e
  · funext d; exact blk_g m c t d
  · funext d; exact blk_scale m c t d _ eb
  · funext d; exact blk_shift m c t d _ eb

theorem half_lt (p : Fin 16) : p.val / 2 < 8 := by omega

theorem point_score (p : Fin 16) (k : Fin 128) (r : Fin 512) (a : Fin 8) (b : Fin 2) (ea : a.val = p.val / 2)
    (eb : b.val = p.val % 2) (R : ℕ) (hR : R < 8192) (e : R = 512 * t.val + r.val) :
    score (query (iblk m c 0 t) (iblk m c 1 t) (iblk m c 2 t) (iblk m c 3 t) (iblk m c 4 t)) (iblk m c 5 t) p k r
      = tokenScore (argX m c) (argMod m c) (argG m c) (argW m c) (argS m c) a b k R hR := by
  rw [show a = ⟨p.val / 2, half_lt p⟩ from Fin.ext ea, show b = ⟨p.val % 2, Nat.mod_lt _ (by decide)⟩ from Fin.ext eb]
  unfold score tokenScore
  refine Finset.sum_congr rfl fun d _ => congr_arg₂ (· * ·) (blk_s m c t p k d) ((query_apply _ _ _ _ _ r _).trans ?_)
  refine Finset.sum_congr rfl fun l _ => congr_arg₂ (· * ·) (point_norms m c t r l R hR e) ((blk_w m c t l _).trans ?_)
  exact congrArg _ (congrArg (ix3 0 l) (Fin.ext (by show 128 * p.val + d.val = 256 * (p.val / 2) + 128 * (p.val % 2) + d.val; omega)))

/-! ## The output arrays -/

theorem flushed_norms : (dats m 0 c).flushed 6 t
    = ((cfg0.win 6).blk t).view.read (Elt Ideal) (norms (argX m c) (argMod m c) (argG m c)) := by
  obtain ⟨-, -, -, -, -, -, ⟨e0, e1⟩, -⟩ := idx_all t
  rw [Value.flushed6, block_norms]
  funext y
  have f0 : ((((cfg0.win 6).blk t).view.emb y) 0).val = 512 * t.val + (y 0).val := by
    show win0_6.index t 0 * 512 + 1 * (y 0).val = _
    rw [e0]; omega
  have f1 : (((cfg0.win 6).blk t).view.emb y) 1 = y 1 := Fin.ext (by
    show win0_6.index t 1 * 2048 + 1 * (y 1).val = (y 1).val
    rw [e1]; omega)
  show k0_pay2 (iblk m c 0 t) (iblk m c 1 t) (iblk m c 2 t) (iblk m c 3 t) y
    = normedRow (argX m c) (argMod m c) (argG m c) _ _ ((((cfg0.win 6).blk t).view.emb y) 1)
  refine (congrArg _ (eq_ix2 (n0 := 512) (n1 := 2048) y)).trans ((point_norms m c t (y 0) (y 1) _
    ((((cfg0.win 6).blk t).view.emb y) 0).isLt f0).trans ?_)
  exact congrArg _ f1.symm

theorem flushed_scores : (dats m 0 c).flushed 7 t
    = ((cfg0.win 7).blk t).view.read (Elt Ideal) (scores (argX m c) (argMod m c) (argG m c) (argW m c) (argS m c)) := by
  obtain ⟨-, -, -, -, -, -, -, ⟨e0, e1, e2⟩, -⟩ := idx_all t
  rw [Value.flushed7]
  funext y
  have f0 : ((((cfg0.win 7).blk t).view.emb y) 0).val = (y 0).val := by
    show win0_7.index t 0 * 16 + 1 * (y 0).val = _
    rw [e0]; omega
  have f1 : (((cfg0.win 7).blk t).view.emb y) 1 = y 1 := Fin.ext (by
    show win0_7.index t 1 * 128 + 1 * (y 1).val = (y 1).val
    rw [e1]; omega)
  have f2 : ((((cfg0.win 7).blk t).view.emb y) 2).val = 512 * t.val + (y 2).val := by
    show win0_7.index t 2 * 512 + 1 * (y 2).val = _
    rw [e2]; omega
  have b0 : (y 0).val < 16 := (y 0).isLt
  have fa := congrArg (· / 2) f0
  have fb := congrArg (· % 2) f0
  refine (block_scores _ _ _ _ _ _ y).trans ((point_score m c t (y 0) (y 1) (y 2)
    ⟨((((cfg0.win 7).blk t).view.emb y) 0).val / 2, by rw [f0]; omega⟩
    ⟨((((cfg0.win 7).blk t).view.emb y) 0).val % 2, Nat.mod_lt _ (by decide)⟩ fa fb
    _ ((((cfg0.win 7).blk t).view.emb y) 2).isLt f2).trans ?_)
  exact congrArg (fun k => tokenScore (argX m c) (argMod m c) (argG m c) (argW m c) (argS m c) _ _ k _ _) f1.symm

theorem flushed_first : (dats m 0 c).flushed 8 t
    = ((cfg0.win 8).blk t).view.read (Elt Ideal) (firstScores (argX m c) (argMod m c) (argG m c) (argW m c) (argS m c)) := by
  obtain ⟨-, -, -, -, -, -, -, -, ⟨e0, e1, e2⟩⟩ := idx_all t
  rw [Value.flushed8]
  funext y
  have b1 : (y 1).val < 8 := (y 1).isLt
  have f0 : (((cfg0.win 8).blk t).view.emb y) 0 = y 0 := Fin.ext (by
    show win0_8.index t 0 * 128 + 1 * (y 0).val = (y 0).val
    rw [e0]; omega)
  have f1 : ((((cfg0.win 8).blk t).view.emb y) 1).val = (y 1).val := by
    show win0_8.index t 1 * 8 + 1 * (y 1).val = (y 1).val
    rw [e1]; omega
  have f2 : ((((cfg0.win 8).blk t).view.emb y) 2).val = 512 * t.val + (y 2).val := by
    show win0_8.index t 2 * 512 + 1 * (y 2).val = _
    rw [e2]; omega
  refine (block_first _ _ _ _ _ _ y).trans ((point_score m c t ⟨2 * (y 1).val, by omega⟩ (y 0) (y 2)
    ((((cfg0.win 8).blk t).view.emb y) 1) 0 (f1.trans (by show _ = 2 * (y 1).val / 2; omega))
    (by show 0 = 2 * (y 1).val % 2; omega) _ ((((cfg0.win 8).blk t).view.emb y) 2).isLt f2).trans ?_)
  exact congrArg (fun k => tokenScore (argX m c) (argMod m c) (argG m c) (argW m c) (argS m c) _ _ k _ _) f0.symm

theorem point_of (r : ℕ) (h : r < 8192) : ∃ t : Fin cfg0.N, t.val = r / 512 := by
  have pts : ∀ q : Fin 16, ∃ t : Fin grid0.N, t.val = q.val := by decide +kernel
  exact pts ⟨r / 512, by omega⟩

theorem cover_norms (j : S8192x2048.Idx) :
    ∃ t : Fin cfg0.N, (cfg0.win 6).flush t = true ∧ j ∈ ((cfg0.win 6).blk t).view.set := by
  have b0 : (j 0).val < 8192 := (j 0).isLt
  have b1 : (j 1).val < 2048 := (j 1).isLt
  obtain ⟨t, ht⟩ := point_of _ b0
  obtain ⟨-, -, -, -, -, -, ⟨e0, e1⟩, -⟩ := idx_all t
  refine ⟨t, flush0_6 t, ?_⟩
  show j ∈ ((View.whole main_v25_0).slice (win0_6.rect t)).set
  rw [View.set_slice_whole, Rect.mem_set_unit]
  intro a
  match a with
  | ⟨0, _⟩ =>
    show win0_6.index t 0 * 512 ≤ (j 0).val ∧ (j 0).val < win0_6.index t 0 * 512 + 512
    rw [e0]; omega
  | ⟨1, _⟩ =>
    show win0_6.index t 1 * 2048 ≤ (j 1).val ∧ (j 1).val < win0_6.index t 1 * 2048 + 2048
    rw [e1]; omega

theorem cover_scores (j : S16x128x8192.Idx) :
    ∃ t : Fin cfg0.N, (cfg0.win 7).flush t = true ∧ j ∈ ((cfg0.win 7).blk t).view.set := by
  have b0 : (j 0).val < 16 := (j 0).isLt
  have b1 : (j 1).val < 128 := (j 1).isLt
  have b2 : (j 2).val < 8192 := (j 2).isLt
  obtain ⟨t, ht⟩ := point_of _ b2
  obtain ⟨-, -, -, -, -, -, -, ⟨e0, e1, e2⟩, -⟩ := idx_all t
  refine ⟨t, flush0_7 t, ?_⟩
  show j ∈ ((View.whole main_v25_1).slice (win0_7.rect t)).set
  rw [View.set_slice_whole, Rect.mem_set_unit]
  intro a
  match a with
  | ⟨0, _⟩ =>
    show win0_7.index t 0 * 16 ≤ (j 0).val ∧ (j 0).val < win0_7.index t 0 * 16 + 16
    rw [e0]; omega
  | ⟨1, _⟩ =>
    show win0_7.index t 1 * 128 ≤ (j 1).val ∧ (j 1).val < win0_7.index t 1 * 128 + 128
    rw [e1]; omega
  | ⟨2, _⟩ =>
    show win0_7.index t 2 * 512 ≤ (j 2).val ∧ (j 2).val < win0_7.index t 2 * 512 + 512
    rw [e2]; omega

theorem cover_first (j : S128x8x8192.Idx) :
    ∃ t : Fin cfg0.N, (cfg0.win 8).flush t = true ∧ j ∈ ((cfg0.win 8).blk t).view.set := by
  have b0 : (j 0).val < 128 := (j 0).isLt
  have b1 : (j 1).val < 8 := (j 1).isLt
  have b2 : (j 2).val < 8192 := (j 2).isLt
  obtain ⟨t, ht⟩ := point_of _ b2
  obtain ⟨-, -, -, -, -, -, -, -, ⟨e0, e1, e2⟩⟩ := idx_all t
  refine ⟨t, flush0_8 t, ?_⟩
  show j ∈ ((View.whole main_v25_2).slice (win0_8.rect t)).set
  rw [View.set_slice_whole, Rect.mem_set_unit]
  intro a
  match a with
  | ⟨0, _⟩ =>
    show win0_8.index t 0 * 128 ≤ (j 0).val ∧ (j 0).val < win0_8.index t 0 * 128 + 128
    rw [e0]; omega
  | ⟨1, _⟩ =>
    show win0_8.index t 1 * 8 ≤ (j 1).val ∧ (j 1).val < win0_8.index t 1 * 8 + 8
    rw [e1]; omega
  | ⟨2, _⟩ =>
    show win0_8.index t 2 * 512 ≤ (j 2).val ∧ (j 2).val < win0_8.index t 2 * 512 + 512
    rw [e2]; omega

/-- The kernel's three output arrays. -/
theorem final_norms : (dats m 0 c).arrAt 6 cfg0.N = norms (argX m c) (argMod m c) (argG m c) :=
  (dats m 0 c).arrAt_eq_of_cover 6 _ (fun t _ => flushed_norms m c t) cover_norms

theorem final_scores :
    (dats m 0 c).arrAt 7 cfg0.N = scores (argX m c) (argMod m c) (argG m c) (argW m c) (argS m c) :=
  (dats m 0 c).arrAt_eq_of_cover 7 _ (fun t _ => flushed_scores m c t) cover_scores

theorem final_first :
    (dats m 0 c).arrAt 8 cfg0.N = firstScores (argX m c) (argMod m c) (argG m c) (argW m c) (argS m c) :=
  (dats m 0 c).arrAt_eq_of_cover 8 _ (fun t _ => flushed_first m c t) cover_first

end Cert.Kernel4Ideal.Query

end
-- ==== Proof.Query.Ref.lean ====
/-
  The reference's run ends with the modulated norms and the scores.
-/
module

public import proofs.«01_k».proof.Proof.Gen.Reference4Ideal.Run
public import proofs.«01_k».proof.Proof.Query.Out

@[expose] public section

set_option maxRecDepth 16384

noncomputable section

namespace Cert.Reference4Ideal.Query

open Idealize.ShloMosaic Idealize.ShloMosaic.TcCoe Idealize.ShloMosaic.Tactic Idealize.SL.Sem
open Cert.Reference4Ideal Cert.Reference4Ideal.Gen Cert.Norm

section
variable (x : FVec Ideal S2x4096x2048 .f32) (md : FVec Ideal S2x2x12288 .f32) (g : FVec Ideal S2x2048 .f32)
  (w : FVec Ideal S2x2048x2048 .f32) (s : FVec Ideal S2x8x2x128x128 .f32) (h : FVec Ideal S8192x2048 .f32)

/-- The modulated norms, by batch and position. -/
def normsTerm : FVec Ideal S2x4096x2048 .f32 :=
  (addf (mulf (mulf (mulf x (broadcastInDim S2x4096x2048 ![0, 1, 2] bcast_S2x4096x1_S2x4096x2048_0_1_2 (Host.rsqrt (addf
    (Host.divf (broadcastInDim S2x4096x1 ![0, 1] bcast_S2x4096_S2x4096x1_0_1 (Host.reduceAdd (mulf x x) (constant S_ .f32
    0x00000000#32) reducesTo_S2x4096x2048_S2x4096_d2 h_S_)) (broadcastInDim S2x4096x1 ![] bcast_S_S2x4096x1 (constant S_
    .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2]
    bcast_S2048_S1x1x2048_2 (shapeCast _ (extractStridedSlice S1x2048 ![0, 0] g slices_S2x2048_S1x2048_0_0)
    shapeCasts_S1x2048_S2048)))) (broadcastInDim S2x4096x2048 ![0, 1, 2] bcast_S2x1x2048_S2x4096x2048_0_1_2 (addf
    (broadcastInDim S2x1x2048 ![] bcast_S_S2x1x2048 (constant S_ .f32 0x3F800000#32)) (broadcastInDim S2x1x2048 ![0, 2]
    bcast_S2x2048_S2x1x2048_0_2 (extractStridedSlice S2x2048 ![0, 8192] (shapeCast _ (extractStridedSlice S1x2x12288 ![0,
    0, 0] md slices_S2x2x12288_S1x2x12288_0_0_0) shapeCasts_S1x2x12288_S2x12288) slices_S2x12288_S2x2048_0_8192)))))
    (broadcastInDim S2x4096x2048 ![0, 1, 2] bcast_S2x1x2048_S2x4096x2048_0_1_2 (broadcastInDim S2x1x2048 ![0, 2]
    bcast_S2x2048_S2x1x2048_0_2 (extractStridedSlice S2x2048 ![0, 6144] (shapeCast _ (extractStridedSlice S1x2x12288 ![0,
    0, 0] md slices_S2x2x12288_S1x2x12288_0_0_0) shapeCasts_S1x2x12288_S2x12288) slices_S2x12288_S2x2048_0_6144))))

theorem normsTerm_apply (b : Fin 2) (t : Fin 4096) (k : Fin 2048) :
    normsTerm x md g (ix3 b t k) = adaln (fun d => x (ix3 b t d)) (fun d => g (ix2 0 d))
      (fun d => md (ix3 0 b ⟨8192 + d.val, by omega⟩)) (fun d => md (ix3 0 b ⟨6144 + d.val, by omega⟩)) k := by
  unfold normsTerm adaln rms
  pointwise

/-- The scores from the norms: head, half, subkey, token. -/
def keyScores : FVec Ideal S8192x8x2x128 .f32 :=
  transpose S8192x8x2x128 [3, 0, 1, 2] (Host.dotGeneral dot_S8x2x128x128_S8192x8x2x128_S8x2x128x8192_3_3_2_0_01_12 none
    (shapeCast _ (extractStridedSlice S1x8x2x128x128 ![0, 0, 0, 0, 0] s slices_S2x8x2x128x128_S1x8x2x128x128_0_0_0_0_0)
    shapeCasts_S1x8x2x128x128_S8x2x128x128) (shapeCast _ (Host.dotGeneral
    dot_S8192x2048_S2048x2048_S8192x2048_1_0_0_1_n_n none h (shapeCast _ (extractStridedSlice S1x2048x2048 ![0, 0, 0] w
    slices_S2x2048x2048_S1x2048x2048_0_0_0) shapeCasts_S1x2048x2048_S2048x2048)) shapeCasts_S8192x2048_S8192x8x2x128))
    transposes_S8x2x128x8192_S8192x8x2x128_3_0_1_2

theorem keyScores_apply (hh : ∀ (R : Fin 8192) (k : Fin 2048),
      h (ix2 R k) = Cert.Kernel4Ideal.Query.normedRow x md g R.val R.isLt k)
    (R : Fin 8192) (a : Fin 8) (b : Fin 2) (k : Fin 128) :
    keyScores w s h (ix4 R a b k) = Cert.Kernel4Ideal.Query.tokenScore x md g w s a b k R.val R.isLt := by
  unfold keyScores Cert.Kernel4Ideal.Query.tokenScore
  pointwise
  simp only [hh]
  refine Finset.sum_congr rfl fun d _ => ?_
  refine congrArg _ (Finset.sum_congr rfl fun l _ => congrArg _ (congrArg w (congrArg (ix3 0 l) (Fin.ext ?_))))
  show a.val * 256 + b.val * 128 + d.val = 256 * a.val + 128 * b.val + d.val
  omega

/-- The norms as rows. -/
def rows : FVec Ideal S8192x2048 .f32 := shapeCast _ (normsTerm x md g) shapeCasts_S2x4096x2048_S8192x2048

theorem rows_apply (R : Fin 8192) (k : Fin 2048) :
    rows x md g (ix2 R k) = Cert.Kernel4Ideal.Query.normedRow x md g R.val R.isLt k := by
  unfold rows
  pointwise
  exact normsTerm_apply x md g (batch R.val R.isLt) (pos R.val) k

theorem norms_eq : (truncf .bf16 (rows x md g) bitsLt_bf16_f32 : FVec Ideal S8192x2048 .bf16)
    = Cert.Kernel4Ideal.Query.norms x md g := by
  funext j
  unfold Cert.Kernel4Ideal.Query.norms
  idx_vars j
  exact rows_apply x md g _ _

theorem scores_eq : (shapeCast _ (transpose S8x2x128x8192 [1, 2, 3, 0] (keyScores w s (rows x md g))
      transposes_S8192x8x2x128_S8x2x128x8192_1_2_3_0) shapeCasts_S8x2x128x8192_S16x128x8192 : FVec Ideal S16x128x8192 .f32)
    = Cert.Kernel4Ideal.Query.scores x md g w s := by
  funext j
  unfold Cert.Kernel4Ideal.Query.scores
  idx_vars j
  pointwise
  exact keyScores_apply x md g w s _ (rows_apply x md g) _ _ _ _

theorem firstScores_eq : (transpose S128x8x8192 [2, 1, 0] (shapeCast _ (extractStridedSlice S8192x8x1x128 ![0, 0, 0, 0]
      (keyScores w s (rows x md g)) slices_S8192x8x2x128_S8192x8x1x128_0_0_0_0) shapeCasts_S8192x8x1x128_S8192x8x128)
      transposes_S8192x8x128_S128x8x8192_2_1_0 : FVec Ideal S128x8x8192 .f32)
    = Cert.Kernel4Ideal.Query.firstScores x md g w s := by
  funext j
  unfold Cert.Kernel4Ideal.Query.firstScores
  idx_vars j
  pointwise
  exact keyScores_apply x md g w s _ (rows_apply x md g) _ _ _ _

end

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = Cert.Kernel4Ideal.Query.norms
          (m ((c.tc : Thread nD τ).loc main_arg0)) (m ((c.tc : Thread nD τ).loc main_arg1)) (m ((c.tc : Thread nD τ).loc
    main_arg2))
      ∧ r.2.mem ((c.tc : Thread nD τ).loc main_v46) = Cert.Kernel4Ideal.Query.scores
          (m ((c.tc : Thread nD τ).loc main_arg0)) (m ((c.tc : Thread nD τ).loc main_arg1)) (m ((c.tc : Thread nD τ).loc
    main_arg2))
          (m ((c.tc : Thread nD τ).loc main_arg3)) (m ((c.tc : Thread nD τ).loc main_arg4))
      ∧ r.2.mem ((c.tc : Thread nD τ).loc main_v49) = Cert.Kernel4Ideal.Query.firstScores
          (m ((c.tc : Thread nD τ).loc main_arg0)) (m ((c.tc : Thread nD τ).loc main_arg1)) (m ((c.tc : Thread nD τ).loc
    main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun _ h c => ⟨(h c).1.trans (norms_eq _ _ _), (h c).2.1.trans (scores_eq _ _ _ _ _),
    (h c).2.2.1.trans (firstScores_eq _ _ _ _ _), (h c).2.2.2⟩) (Value.run (F := Ideal) m ρ)

end Cert.Reference4Ideal.Query

end
-- ==== Proof.Expert.Panel.lean ====
/-
  A panel of the experts' kernel: the gates of 128 experts, summed over the eight heads, times their activations.
-/
module

public import proofs.«01_k».proof.Proof.Gen.Kernel5Ideal.Value
public import Idealize.ShloMosaic.Lib.Pipeline.ValueKit
public import Idealize.ShloMosaic.Lib.Pointwise
public import proofs.«01_k».proof.Proof.Norm

@[expose] public section

set_option maxRecDepth 16384

noncomputable section

namespace Cert.Kernel5Ideal.Expert

open Idealize.ShloMosaic Idealize.ShloMosaic.TcCoe Idealize.ShloMosaic.Tactic
open Idealize.ShloMosaic.Pipeline (Dat)
open Cert.Kernel5Ideal Cert.Kernel5Ideal.Gen Cert.Norm

/-! ## A panel: 128 experts' gates times their activations -/

/-- The tanh form of the Gaussian error linear unit. -/
def gelu (x : EReal) : EReal :=
  Ideal.ofBits .f32 1056964608#32 * x * (1 + Ideal.tanh (Ideal.ofBits .f32 1061962282#32 *
    (x + Ideal.ofBits .f32 1027024659#32 * (x * x * x))))

/-- The gate of an expert: over the heads whose threshold the second score reaches, the product of the two weights. -/
def gate (t e s w : Fin 8 → EReal) : EReal := ∑ h, if t h ≤ s h then w h * e h else 0

section
variable (act : FVec Ideal S512x512 .f32) (t e : Fin 8 → Vec Ideal S1x1x512 .f32) (s : Fin 8 → Vec Ideal S1x1x128x512 .f32)
  (w : Fin 8 → Vec Ideal S1x128x512 .f32)

def panel0 : FVec Ideal S128x512 .bf16 :=
  k0_pay51 act (k0_pay48 (k0_pay45 (k0_pay42 (k0_pay40 (t 0) (e 0) (s 0) (w 0)) (k0_pay41 (t 1)) (e 1) (s 1) (w 1)
      (t 2) (e 2) (s 2) (w 2)) (k0_pay43 (t 3)) (k0_pay44 (e 3)) (s 3) (w 3) (t 4) (e 4) (s 4) (w 4))
    (k0_pay46 (t 5)) (k0_pay47 (e 5)) (s 5) (w 5) (t 6) (e 6) (s 6) (w 6)) (k0_pay49 (t 7)) (k0_pay50 (e 7)) (s 7) (w 7)

def panel1 : FVec Ideal S128x512 .bf16 :=
  k0_pay66 (k0_pay65 act (k0_pay62 (k0_pay58 (k0_pay55 k0_pay52 (k0_pay53 (t 0)) (k0_pay54 (e 0)) (s 0) (w 0)
      (t 1) (e 1) (s 1) (w 1)) (k0_pay56 (t 2)) (k0_pay57 (e 2)) (s 2) (w 2) (t 3) (e 3) (s 3) (w 3))
    (k0_pay59 (e 4)) (k0_pay60 (s 4)) (k0_pay61 (t 4)) (w 4) (t 5) (e 5) (s 5) (w 5))
    (k0_pay63 (e 6)) (k0_pay64 (t 6) (s 6)) (w 6) (t 7) (e 7) (s 7) (w 7))

def panel2 : FVec Ideal S128x512 .bf16 :=
  k0_pay80 act (k0_pay77 (k0_pay73 (k0_pay70 (k0_pay67 (t 0) (e 0) (s 0) (w 0)) (k0_pay68 (e 1)) (k0_pay69 (t 1) (s 1)) (w 1)
      (t 2) (e 2) (s 2) (w 2)) (k0_pay71 (e 3)) (k0_pay72 (t 3) (s 3)) (w 3) (t 4) (e 4) (s 4) (w 4))
    (k0_pay74 (t 5) (s 5)) (k0_pay75 (w 5)) (k0_pay76 (e 5)) (t 6) (e 6) (s 6) (w 6))
    (k0_pay78 (t 7) (s 7)) (k0_pay79 (e 7) (w 7)) (FloatOps.ofBits .f32 0#32)

def panel3 : FVec Ideal S128x512 .bf16 :=
  k0_pay90 act (k0_pay89 (k0_pay88 (k0_pay84 k0_pay81 (k0_pay82 (t 0) (s 0)) (k0_pay83 (e 0) (w 0)) (t 1) (e 1) (s 1) (w 1))
      (k0_pay85 (t 2) (s 2)) (k0_pay86 (e 2) (w 2)) k0_pay87 (t 3) (e 3) (s 3) (w 3) (t 4) (e 4) (s 4) (w 4))
    (t 5) (e 5) (s 5) (w 5) (t 6) (e 6) (s 6) (w 6)) (t 7) (e 7) (s 7) (w 7)

theorem panel0_apply (j : Fin 128) (k : Fin 512) : panel0 act t e s w (ix2 j k)
    = gate (fun h => t h (ix3 0 0 k)) (fun h => e h (ix3 0 0 k)) (fun h => s h (ix4 0 0 j k)) (fun h => w h (ix3 0 j k))
      * gelu (act (ix2 ⟨j.val, by omega⟩ k)) := by
  unfold panel0 gate gelu
  unfold k0_pay51 k0_pay48 k0_pay45 k0_pay42 k0_pay40 k0_pay41 k0_pay43 k0_pay44 k0_pay46 k0_pay47 k0_pay49 k0_pay50
  rw [Fin.sum_univ_eight]
  pointwise

theorem panel1_apply (j : Fin 128) (k : Fin 512) : panel1 act t e s w (ix2 j k)
    = gate (fun h => t h (ix3 0 0 k)) (fun h => e h (ix3 0 0 k)) (fun h => s h (ix4 0 0 j k)) (fun h => w h (ix3 0 j k))
      * gelu (act (ix2 ⟨128 + j.val, by omega⟩ k)) := by
  unfold panel1 gate gelu
  unfold k0_pay66 k0_pay65 k0_pay62 k0_pay58 k0_pay55 k0_pay52 k0_pay53 k0_pay54 k0_pay56 k0_pay57 k0_pay59 k0_pay60 k0_pay61 k0_pay63 k0_pay64
  rw [Fin.sum_univ_eight]
  pointwise

theorem panel2_apply (j : Fin 128) (k : Fin 512) : panel2 act t e s w (ix2 j k)
    = gate (fun h => t h (ix3 0 0 k)) (fun h => e h (ix3 0 0 k)) (fun h => s h (ix4 0 0 j k)) (fun h => w h (ix3 0 j k))
      * gelu (act (ix2 ⟨256 + j.val, by omega⟩ k)) := by
  unfold panel2 gate gelu
  unfold k0_pay80 k0_pay77 k0_pay73 k0_pay70 k0_pay67 k0_pay68 k0_pay69 k0_pay71 k0_pay72 k0_pay74 k0_pay75 k0_pay76 k0_pay78 k0_pay79
  rw [Fin.sum_univ_eight]
  pointwise

theorem panel3_apply (j : Fin 128) (k : Fin 512) : panel3 act t e s w (ix2 j k)
    = gate (fun h => t h (ix3 0 0 k)) (fun h => e h (ix3 0 0 k)) (fun h => s h (ix4 0 0 j k)) (fun h => w h (ix3 0 j k))
      * gelu (act (ix2 ⟨384 + j.val, by omega⟩ k)) := by
  unfold panel3 gate gelu
  unfold k0_pay90 k0_pay89 k0_pay88 k0_pay84 k0_pay81 k0_pay82 k0_pay83 k0_pay85 k0_pay86 k0_pay87
  rw [Fin.sum_univ_eight]
  pointwise

end

/-! ## The scratch the panels are written to -/

section
variable (g : grid0.Coords)

/-- The rows of the first sub-key `4 * (g 1) + r`, one per head. -/
def rows (X : Vec Ideal S8x128x512 .f32) (r : Fin 4) : Fin 8 → Vec Ideal S1x1x512 .f32
  | 0 => View.ld X (Rect.unit (k0_off1 g (BitVec.ofNat 32 r.val)) S1x1x512.size (k0_off1_inb g r))
  | 1 => View.ld X (Rect.unit (k0_off2 g (BitVec.ofNat 32 r.val)) S1x1x512.size (k0_off2_inb g r))
  | 2 => View.ld X (Rect.unit (k0_off3 g (BitVec.ofNat 32 r.val)) S1x1x512.size (k0_off3_inb g r))
  | 3 => View.ld X (Rect.unit (k0_off4 g (BitVec.ofNat 32 r.val)) S1x1x512.size (k0_off4_inb g r))
  | 4 => View.ld X (Rect.unit (k0_off5 g (BitVec.ofNat 32 r.val)) S1x1x512.size (k0_off5_inb g r))
  | 5 => View.ld X (Rect.unit (k0_off6 g (BitVec.ofNat 32 r.val)) S1x1x512.size (k0_off6_inb g r))
  | 6 => View.ld X (Rect.unit (k0_off7 g (BitVec.ofNat 32 r.val)) S1x1x512.size (k0_off7_inb g r))
  | 7 => View.ld X (Rect.unit (k0_off8 g (BitVec.ofNat 32 r.val)) S1x1x512.size (k0_off8_inb g r))

theorem head4_inb (h : Fin 8) : ∀ a, (![h.val, 0, 0, 0] : Fin 4 → ℕ) a + S1x1x128x512.size a ≤ S8x1x128x512.size a := by
  revert h; decide +kernel

theorem head3_inb (h : Fin 8) : ∀ a, (![h.val, 0, 0] : Fin 3 → ℕ) a + S1x128x512.size a ≤ S8x128x512.size a := by
  revert h; decide +kernel

/-- A head's second scores. -/
def head4 (X : Vec Ideal S8x1x128x512 .f32) (h : Fin 8) : Vec Ideal S1x1x128x512 .f32 :=
  View.ld X (Rect.unit ![h.val, 0, 0, 0] S1x1x128x512.size (head4_inb h))

/-- A head's second weights. -/
def head3 (X : Vec Ideal S8x128x512 .f32) (h : Fin 8) : Vec Ideal S1x128x512 .f32 :=
  View.ld X (Rect.unit ![h.val, 0, 0] S1x128x512.size (head3_inb h))

theorem off_all (i : grid0.Coords) (r : Fin 4) :
    k0_off1 i (BitVec.ofNat 32 r.val) = ![0, 4 * (i 1).val + r.val, 0]
    ∧ k0_off2 i (BitVec.ofNat 32 r.val) = ![1, 4 * (i 1).val + r.val, 0]
    ∧ k0_off3 i (BitVec.ofNat 32 r.val) = ![2, 4 * (i 1).val + r.val, 0]
    ∧ k0_off4 i (BitVec.ofNat 32 r.val) = ![3, 4 * (i 1).val + r.val, 0]
    ∧ k0_off5 i (BitVec.ofNat 32 r.val) = ![4, 4 * (i 1).val + r.val, 0]
    ∧ k0_off6 i (BitVec.ofNat 32 r.val) = ![5, 4 * (i 1).val + r.val, 0]
    ∧ k0_off7 i (BitVec.ofNat 32 r.val) = ![6, 4 * (i 1).val + r.val, 0]
    ∧ k0_off8 i (BitVec.ofNat 32 r.val) = ![7, 4 * (i 1).val + r.val, 0] := by
  have h : ∀ (a : Fin 32) (r : Fin 4), (Scalar.indexCast (Scalar.addi (Scalar.muli (BitVec.ofNat 32 a.val) 4#32)
      (BitVec.ofNat 32 r.val)) : BitVec 32).toNat = 4 * a.val + r.val := by decide +kernel
  have e := h (i 1) r
  unfold k0_off1 k0_off2 k0_off3 k0_off4 k0_off5 k0_off6 k0_off7 k0_off8
  dsimp only
  rw [e]
  exact ⟨rfl, rfl, rfl, rfl, rfl, rfl, rfl, rfl⟩

theorem ld_row (X : Vec Ideal S8x128x512 .f32) (off : Fin 3 → ℕ) (inb) (h : Fin 8) (i : Fin 128)
    (e : off = ![h.val, i.val, 0]) (k : Fin 512) :
    View.ld X (Rect.unit (s := S8x128x512) off S1x1x512.size inb) (ix3 0 0 k) = X (ix3 h i k) := by
  subst e
  pointwise

theorem rows_apply (X : Vec Ideal S8x128x512 .f32) (r : Fin 4) (h : Fin 8) (i : Fin 128) (e : i.val = 4 * (g 1).val + r.val)
    (k : Fin 512) : rows g X r h (ix3 0 0 k) = X (ix3 h i k) := by
  obtain ⟨h1, h2, h3, h4, h5, h6, h7, h8⟩ := off_all g r
  rw [← e] at h1 h2 h3 h4 h5 h6 h7 h8
  match h with
  | 0 => exact ld_row X _ _ 0 i h1 k
  | 1 => exact ld_row X _ _ 1 i h2 k
  | 2 => exact ld_row X _ _ 2 i h3 k
  | 3 => exact ld_row X _ _ 3 i h4 k
  | 4 => exact ld_row X _ _ 4 i h5 k
  | 5 => exact ld_row X _ _ 5 i h6 k
  | 6 => exact ld_row X _ _ 6 i h7 k
  | 7 => exact ld_row X _ _ 7 i h8 k

theorem head4_apply (X : Vec Ideal S8x1x128x512 .f32) (h : Fin 8) (j : Fin 128) (k : Fin 512) :
    head4 X h (ix4 0 0 j k) = X (ix4 h 0 j k) := by
  unfold head4
  pointwise

theorem head3_apply (X : Vec Ideal S8x128x512 .f32) (h : Fin 8) (j : Fin 128) (k : Fin 512) :
    head3 X h (ix3 0 j k) = X (ix3 h j k) := by
  unfold head3
  pointwise

end
/-! ## The scratch of the four panels -/

section
variable (g : grid0.Coords) (act : FVec Ideal S512x512 .f32) (th e1 e2 : Vec Ideal S8x128x512 .f32)
  (s2 : Vec Ideal S8x1x128x512 .f32)

/-- The four panels, as they were stored. -/
def pieces : List (View.Piece (Elt Ideal) S512x512 .bf16) :=
  [⟨Rect.unit ![384, 0] ![128, 512] inb_S512x512_S128x512_384_0,
      panel3 act (rows g th 3) (rows g e1 3) (head4 s2) (head3 e2)⟩,
    ⟨Rect.unit ![256, 0] ![128, 512] inb_S512x512_S128x512_256_0,
      panel2 act (rows g th 2) (rows g e1 2) (head4 s2) (head3 e2)⟩,
    ⟨Rect.unit ![128, 0] ![128, 512] inb_S512x512_S128x512_128_0,
      panel1 act (rows g th 1) (rows g e1 1) (head4 s2) (head3 e2)⟩,
    ⟨Rect.unit ![0, 0] ![128, 512] inb_S512x512_S128x512_0_0,
      panel0 act (rows g th 0) (rows g e1 0) (head4 s2) (head3 e2)⟩]

/-- The 512 experts of a grid point, as the product with their values reads them. -/
def panels : Vec Ideal S512x512 .bf16 :=
  (View.whole cc0_scratch3).readCov (pieces g act th e1 e2 s2)
    (Rect.unit (s := S512x512) ![0, 0] ![512, 512] inb_S512x512_S512x512_0_0).toLoadRect

theorem panels_eq : panels g act th e1 e2 s2 = View.canon (pieces g act th e1 e2 s2) := by
  unfold panels
  rw [View.readCov_eq_canon']
  funext y
  refine congrArg _ (funext fun a => ?_)
  match a with
  | ⟨0, _⟩ => exact Fin.ext (show 0 + 1 * (y 0).val = (y 0).val by omega)
  | ⟨1, _⟩ => exact Fin.ext (show 0 + 1 * (y 1).val = (y 1).val by omega)

/-- The first and the second sub-key of a row of the block. -/
def first (g : grid0.Coords) (E : Fin 512) : Fin 128 := ⟨4 * (g 1).val + E.val / 128, by have h : (g 1).val < 32 := (g 1).isLt; omega⟩
def second (E : Fin 512) : Fin 128 := ⟨E.val % 128, Nat.mod_lt _ (by decide)⟩

theorem piece_eq (r : Fin 4) (j : Fin 128) (E E' : Fin 512) (k k' : Fin 512) (e : E.val = 128 * r.val + j.val)
    (e' : E' = E) (ek : k = k') :
    gate (fun h => rows g th r h (ix3 0 0 k)) (fun h => rows g e1 r h (ix3 0 0 k)) (fun h => head4 s2 h (ix4 0 0 j k))
        (fun h => head3 e2 h (ix3 0 j k)) * gelu (act (ix2 E' k))
      = gate (fun h => th (ix3 h (first g E) k')) (fun h => e1 (ix3 h (first g E) k'))
          (fun h => s2 (ix4 h 0 (second E) k')) (fun h => e2 (ix3 h (second E) k')) * gelu (act (ix2 E k')) := by
  subst e' ek
  have hi : (first g E').val = 4 * (g 1).val + r.val := by
    show 4 * (g 1).val + E'.val / 128 = _
    omega
  have hj : j = second E' := Fin.ext (show j.val = E'.val % 128 by omega)
  subst hj
  simp only [rows_apply g _ r _ (first g E') hi, head4_apply, head3_apply]

theorem panels_apply (E k : Fin 512) : panels g act th e1 e2 s2 (ix2 E k)
    = gate (fun h => th (ix3 h (first g E) k)) (fun h => e1 (ix3 h (first g E) k))
        (fun h => s2 (ix4 h 0 (second E) k)) (fun h => e2 (ix3 h (second E) k)) * gelu (act (ix2 E k)) := by
  rw [panels_eq]
  unfold pieces
  canon_tiles z h
  · refine (congrArg _ (eq_ix2 (n0 := 128) (n1 := 512) z)).trans ((panel3_apply _ _ _ _ _ (z 0) (z 1)).trans ?_)
    exact piece_eq g act th e1 e2 s2 3 _ _ _ _ _ h0 (Fin.ext h0.symm) (Fin.ext h1.symm)
  · refine (congrArg _ (eq_ix2 (n0 := 128) (n1 := 512) z)).trans ((panel2_apply _ _ _ _ _ (z 0) (z 1)).trans ?_)
    exact piece_eq g act th e1 e2 s2 2 _ _ _ _ _ h0 (Fin.ext h0.symm) (Fin.ext h1.symm)
  · refine (congrArg _ (eq_ix2 (n0 := 128) (n1 := 512) z)).trans ((panel1_apply _ _ _ _ _ (z 0) (z 1)).trans ?_)
    exact piece_eq g act th e1 e2 s2 1 _ _ _ _ _ h0 (Fin.ext h0.symm) (Fin.ext h1.symm)
  · refine (congrArg _ (eq_ix2 (n0 := 128) (n1 := 512) z)).trans ((panel0_apply _ _ _ _ _ (z 0) (z 1)).trans ?_)
    exact piece_eq g act th e1 e2 s2 0 _ _ _ _ _ (h0.trans (Nat.zero_add _).symm) (Fin.ext h0.symm) (Fin.ext h1.symm)

end
end Cert.Kernel5Ideal.Expert

end
-- ==== Proof.Expert.Run.lean ====
/-
  The experts' kernel at a grid point: what the body leaves in the three scratch arrays of the heads, in the accumulator,
  and in the output block.
-/
module

public import proofs.«01_k».proof.Proof.Gen.Kernel5Ideal.Value
public import Idealize.ShloMosaic.Lib.Pipeline.ValueKit
public import Idealize.ShloMosaic.Lib.Pointwise
public import proofs.«01_k».proof.Proof.Expert.Panel

@[expose] public section

set_option maxRecDepth 16384

noncomputable section

namespace Cert.Kernel5Ideal.Expert

open Idealize.ShloMosaic Idealize.ShloMosaic.TcCoe Idealize.ShloMosaic.Tactic
open Idealize.ShloMosaic.Pipeline (Dat)
open Cert.Kernel5Ideal Cert.Kernel5Ideal.Gen Cert.Norm

/-! ## The body's other payloads at an index -/

theorem act_apply (u : Vec Ideal S512x2048 .bf16) (h : Vec Ideal S512x2048 .bf16) (E k : Fin 512) :
    k0_pay39 u h (ix2 E k) = ∑ d, u (ix2 E d) * h (ix2 k d) := by
  unfold k0_pay39
  pointwise

theorem step_apply (acc : Vec Ideal S2048x512 .f32) (vt : Vec Ideal S2048x512 .bf16) (p : Vec Ideal S512x512 .bf16)
    (d : Fin 2048) (k : Fin 512) :
    k0_pay1 acc (k0_pay91 vt) p (ix2 d k) = acc (ix2 d k) + ∑ E, vt (ix2 d E) * p (ix2 E k) := by
  unfold k0_pay1 k0_pay91
  pointwise

theorem zero_apply (d : Fin 2048) (k : Fin 512) : (k0_pay38 (F := Ideal)) (ix2 d k) = 0 := by
  unfold k0_pay38
  pointwise

theorem last_apply (x : Vec Ideal S512x2048 .f32) (g2 : Vec Ideal S1x1x2048 .f32) (acc : Vec Ideal S2048x512 .f32)
    (gf : Vec Ideal S1x2048 .f32) (k : Fin 512) (d : Fin 2048) :
    k0_pay2 x g2 acc gf (ix2 k d)
      = rms (Ideal.ofBits FTy.f32 1157627904#32) (fun d => x (ix2 k d) + g2 (ix3 0 0 d) * acc (ix2 d k))
          (fun d => gf (ix2 0 d)) d := by
  unfold k0_pay2 rms
  pointwise

/-! ## What the run leaves -/

variable (m : (ℓ : Loc nD τ sig) → Buf (Elt Ideal) ℓ) (c : Dev nD)

/-- The thresholds, the first weights and the second weights of a block of tokens. -/
def thresholds (s1 : Vec Ideal S8x1x128x512 .f32) (tau : Vec Ideal S8x512 .f32) : Vec Ideal S8x128x512 .f32 :=
  fun y => (tau (ix2 (y 0) (y 2)) - s1 (ix4 (y 0) 0 (y 1) (y 2)) : EReal)
def firstWeights (s1 : Vec Ideal S8x1x128x512 .f32) (a : Vec Ideal S8x512 .f32) : Vec Ideal S8x128x512 .f32 :=
  fun y => Ideal.exp (s1 (ix4 (y 0) 0 (y 1) (y 2)) - a (ix2 (y 0) (y 2)) : EReal)
def secondWeights (s2 : Vec Ideal S8x1x128x512 .f32) (b z : Vec Ideal S8x512 .f32) : Vec Ideal S8x128x512 .f32 :=
  fun y => Ideal.div (Ideal.exp (s2 (ix4 (y 0) 0 (y 1) (y 2)) - b (ix2 (y 0) (y 2)) : EReal)) (z (ix2 (y 0) (y 2)))

theorem th_first (t : Fin cfg0.N) (h0 : t.val % 32 = 0) (h1 : ¬t.val % 32 = 31) :
    (outsAt0 m c t.val t.isLt).2.1 = thresholds (iblk m c 1 t) (iblk m c 3 t) := by
  rw [outsAt0_A m c t h0 h1]
  dsimp only
  frame_out
  generalize iblk m c 1 t = s1
  generalize iblk m c 3 t = tau
  funext y
  unfold thresholds
  canon_tiles z h
  all_goals
    open_payloads
    pointwise
    exact congr_arg₂ (· - ·) (by blk_ext) (by blk_ext)

theorem e1_first (t : Fin cfg0.N) (h0 : t.val % 32 = 0) (h1 : ¬t.val % 32 = 31) :
    (outsAt0 m c t.val t.isLt).2.2.1 = firstWeights (iblk m c 1 t) (iblk m c 4 t) := by
  rw [outsAt0_A m c t h0 h1]
  dsimp only
  frame_out
  generalize iblk m c 1 t = s1
  generalize iblk m c 4 t = a
  funext y
  unfold firstWeights
  canon_tiles z h
  all_goals
    open_payloads
    pointwise
    exact congrArg Ideal.exp (congr_arg₂ (· - ·) (by blk_ext) (by blk_ext))

theorem e2_first (t : Fin cfg0.N) (h0 : t.val % 32 = 0) (h1 : ¬t.val % 32 = 31) :
    (outsAt0 m c t.val t.isLt).2.2.2.1 = secondWeights (iblk m c 2 t) (iblk m c 5 t) (iblk m c 6 t) := by
  rw [outsAt0_A m c t h0 h1]
  dsimp only
  frame_out
  generalize iblk m c 2 t = s2
  generalize iblk m c 5 t = b
  generalize iblk m c 6 t = w
  funext y
  unfold secondWeights
  canon_tiles z h
  all_goals
    open_payloads
    pointwise
    exact congr_arg₂ Ideal.div (congrArg Ideal.exp (congr_arg₂ (· - ·) (by blk_ext) (by blk_ext))) (by blk_ext)

/-- The panels of a grid point, over the scratch it leaves. -/
def pointPanels (t : Fin cfg0.N) : Vec Ideal S512x512 .bf16 :=
  panels (grid0.coords t) (k0_pay39 (iblk m c 7 t) (iblk m c 0 t)) (outsAt0 m c t.val t.isLt).2.1
    (outsAt0 m c t.val t.isLt).2.2.1 (outsAt0 m c t.val t.isLt).2.2.2.1 (iblk m c 2 t)

theorem carry (t : Fin cfg0.N) (h0 : ¬t.val % 32 = 0) (hp : t.val - 1 < cfg0.N) :
    (outsAt0 m c t.val t.isLt).2.1 = (outsAt0 m c (t.val - 1) hp).2.1
    ∧ (outsAt0 m c t.val t.isLt).2.2.1 = (outsAt0 m c (t.val - 1) hp).2.2.1
    ∧ (outsAt0 m c t.val t.isLt).2.2.2.1 = (outsAt0 m c (t.val - 1) hp).2.2.2.1 := by
  by_cases h1 : t.val % 32 = 31
  · rw [outsAt0_C m c t h0 h1]
    exact ⟨rfl, rfl, rfl⟩
  · rw [outsAt0_B m c t h0 h1]
    exact ⟨rfl, rfl, rfl⟩

/-- A read of the stored second weights is the read of what they leave. -/
theorem weights_read (L : List (View.Piece (Elt Ideal) S8x128x512 .f32)) (r : Rect S8x128x512) :
    (View.whole cc0_scratch2).readCov L r.toLoadRect = View.ld (View.canon L) r :=
  View.readCov_eq_canon' (View.whole cc0_scratch2) L r.toLoadRect

theorem acc_first_of (t : Fin cfg0.N) (h0 : t.val % 32 = 0) (h1 : ¬t.val % 32 = 31) (th e1 e2 : Vec Ideal S8x128x512 .f32)
    (hth : (outsAt0 m c t.val t.isLt).2.1 = th) (he1 : (outsAt0 m c t.val t.isLt).2.2.1 = e1)
    (he2 : (outsAt0 m c t.val t.isLt).2.2.2.1 = e2) :
    (outsAt0 m c t.val t.isLt).2.2.2.2 = k0_pay1 k0_pay38 (k0_pay91 (iblk m c 8 t))
      (panels (grid0.coords t) (k0_pay39 (iblk m c 7 t) (iblk m c 0 t)) th e1 e2 (iblk m c 2 t)) := by
  rw [outsAt0_A m c t h0 h1] at hth he1 he2 ⊢
  dsimp only at hth he1 he2 ⊢
  frame_out at hth
  frame_out at he1
  frame_out at he2
  frame_out
  rw [hth, he1]
  simp only [weights_read]
  rw [he2]
  rfl

theorem acc_first (t : Fin cfg0.N) (h0 : t.val % 32 = 0) (h1 : ¬t.val % 32 = 31) :
    (outsAt0 m c t.val t.isLt).2.2.2.2 = k0_pay1 k0_pay38 (k0_pay91 (iblk m c 8 t)) (pointPanels m c t) :=
  acc_first_of m c t h0 h1 _ _ _ rfl rfl rfl

theorem acc_later (t : Fin cfg0.N) (h0 : ¬t.val % 32 = 0) (hp : t.val - 1 < cfg0.N) :
    (outsAt0 m c t.val t.isLt).2.2.2.2
      = k0_pay1 (outsAt0 m c (t.val - 1) hp).2.2.2.2 (k0_pay91 (iblk m c 8 t)) (pointPanels m c t) := by
  unfold pointPanels
  obtain ⟨c1, c2, c3⟩ := carry m c t h0 hp
  rw [c1, c2, c3]
  by_cases h1 : t.val % 32 = 31
  · rw [outsAt0_C m c t h0 h1]
    dsimp only
    frame_out
    simp only [(Memref.isWhole_whole cc0_scratch0).read_unread, (Memref.isWhole_whole cc0_scratch1).read_unread,
      (Memref.isWhole_whole cc0_scratch2).read_unread, (Memref.isWhole_whole cc0_scratch4).read_unread]
    rfl
  · rw [outsAt0_B m c t h0 h1]
    dsimp only
    frame_out
    simp only [(Memref.isWhole_whole cc0_scratch0).read_unread, (Memref.isWhole_whole cc0_scratch1).read_unread,
      (Memref.isWhole_whole cc0_scratch2).read_unread, (Memref.isWhole_whole cc0_scratch4).read_unread]
    rfl

theorem out_last (t : Fin cfg0.N) (h0 : ¬t.val % 32 = 0) (h1 : t.val % 32 = 31) :
    (outsAt0 m c t.val t.isLt).1 = k0_pay2 (iblk m c 9 t) (iblk m c 10 t) (outsAt0 m c t.val t.isLt).2.2.2.2 (iblk m c 11 t) := by
  rw [outsAt0_C m c t h0 h1]
  dsimp only
  frame_out

end Cert.Kernel5Ideal.Expert

end
-- ==== Proof.Expert.Blocks.lean ====
/-
  The blocks the experts' kernel reads at a grid point, as entries of the arguments.
-/
module

public import proofs.«01_k».proof.Proof.Gen.Kernel5Ideal.Value
public import Idealize.ShloMosaic.Lib.Pipeline.ValueKit
public import Idealize.ShloMosaic.Lib.Pointwise
public import proofs.«01_k».proof.Proof.Expert.Run

@[expose] public section

set_option maxRecDepth 16384

noncomputable section

namespace Cert.Kernel5Ideal.Expert

open Idealize.ShloMosaic Idealize.ShloMosaic.TcCoe Idealize.ShloMosaic.Tactic
open Idealize.ShloMosaic.Pipeline (Dat)
open Cert.Kernel5Ideal Cert.Kernel5Ideal.Gen Cert.Norm

/-! ## The windows -/

theorem idx_all (t : Fin grid0.N) :
    (win0_0.index t 0 = t.val / 32 ∧ win0_0.index t 1 = 0)
    ∧ (win0_1.index t 0 = 0 ∧ win0_1.index t 1 = 0 ∧ win0_1.index t 2 = 0 ∧ win0_1.index t 3 = t.val / 32)
    ∧ (win0_2.index t 0 = 0 ∧ win0_2.index t 1 = 1 ∧ win0_2.index t 2 = 0 ∧ win0_2.index t 3 = t.val / 32)
    ∧ (win0_3.index t 0 = 0 ∧ win0_3.index t 1 = t.val / 32)
    ∧ (win0_4.index t 0 = 0 ∧ win0_4.index t 1 = t.val / 32)
    ∧ (win0_5.index t 0 = 0 ∧ win0_5.index t 1 = t.val / 32)
    ∧ (win0_6.index t 0 = 0 ∧ win0_6.index t 1 = t.val / 32)
    ∧ (win0_7.index t 0 = t.val % 32 ∧ win0_7.index t 1 = 0)
    ∧ (win0_8.index t 0 = 0 ∧ win0_8.index t 1 = t.val % 32)
    ∧ (win0_9.index t 0 = t.val / 32 ∧ win0_9.index t 1 = 0)
    ∧ (win0_10.index t 0 = t.val / 256 ∧ win0_10.index t 1 = 0 ∧ win0_10.index t 2 = 0)
    ∧ (win0_11.index t 0 = 0 ∧ win0_11.index t 1 = 0)
    ∧ (win0_12.index t 0 = t.val / 32 ∧ win0_12.index t 1 = 0)
    ∧ ((grid0.coords t) 1).val = t.val % 32 := by
  have h : ∀ t : Fin grid0.N,
    (win0_0.index t 0 = t.val / 32 ∧ win0_0.index t 1 = 0)
    ∧ (win0_1.index t 0 = 0 ∧ win0_1.index t 1 = 0 ∧ win0_1.index t 2 = 0 ∧ win0_1.index t 3 = t.val / 32)
    ∧ (win0_2.index t 0 = 0 ∧ win0_2.index t 1 = 1 ∧ win0_2.index t 2 = 0 ∧ win0_2.index t 3 = t.val / 32)
    ∧ (win0_3.index t 0 = 0 ∧ win0_3.index t 1 = t.val / 32)
    ∧ (win0_4.index t 0 = 0 ∧ win0_4.index t 1 = t.val / 32)
    ∧ (win0_5.index t 0 = 0 ∧ win0_5.index t 1 = t.val / 32)
    ∧ (win0_6.index t 0 = 0 ∧ win0_6.index t 1 = t.val / 32)
    ∧ (win0_7.index t 0 = t.val % 32 ∧ win0_7.index t 1 = 0)
    ∧ (win0_8.index t 0 = 0 ∧ win0_8.index t 1 = t.val % 32)
    ∧ (win0_9.index t 0 = t.val / 32 ∧ win0_9.index t 1 = 0)
    ∧ (win0_10.index t 0 = t.val / 256 ∧ win0_10.index t 1 = 0 ∧ win0_10.index t 2 = 0)
    ∧ (win0_11.index t 0 = 0 ∧ win0_11.index t 1 = 0)
    ∧ (win0_12.index t 0 = t.val / 32 ∧ win0_12.index t 1 = 0)
    ∧ ((grid0.coords t) 1).val = t.val % 32 := by
    decide +kernel
  exact h t

variable (m : (ℓ : Loc nD τ sig) → Buf (Elt Ideal) ℓ) (c : Dev nD)

/-- The arguments. -/
abbrev argX : Vec Ideal S2x4096x2048 .f32 := m ((c : Thread nD τ).loc main_arg0)
abbrev argMod : Vec Ideal S2x2x12288 .f32 := m ((c : Thread nD τ).loc main_arg1)
abbrev argH : Vec Ideal S8192x2048 .bf16 := m ((c : Thread nD τ).loc main_arg2)
abbrev argS : Vec Ideal S16x128x8192 .f32 := m ((c : Thread nD τ).loc main_arg3)
abbrev argTau : Vec Ideal S8x8192 .f32 := m ((c : Thread nD τ).loc main_arg4)
abbrev argA : Vec Ideal S8x8192 .f32 := m ((c : Thread nD τ).loc main_arg5)
abbrev argB : Vec Ideal S8x8192 .f32 := m ((c : Thread nD τ).loc main_arg6)
abbrev argZ : Vec Ideal S8x8192 .f32 := m ((c : Thread nD τ).loc main_arg7)
abbrev argU : Vec Ideal S2x16384x2048 .f32 := m ((c : Thread nD τ).loc main_arg8)
abbrev argV : Vec Ideal S2x16384x2048 .f32 := m ((c : Thread nD τ).loc main_arg9)
abbrev argG : Vec Ideal S2048 .f32 := m ((c : Thread nD τ).loc main_arg10)

theorem host_h : V m c main_arg2 = argH m c := by
  unfold V hostOps0; after_results_simp <;> rfl
theorem host_s : V m c main_v27 = shapeCast S8x2x128x8192 (argS m c) shapeCasts_S16x128x8192_S8x2x128x8192 := by
  unfold V hostOps0; after_results_simp <;> rfl
theorem host_tau : V m c main_arg4 = argTau m c := by
  unfold V hostOps0; after_results_simp <;> rfl
theorem host_a : V m c main_arg5 = argA m c := by
  unfold V hostOps0; after_results_simp <;> rfl
theorem host_b : V m c main_arg6 = argB m c := by
  unfold V hostOps0; after_results_simp <;> rfl
theorem host_z : V m c main_arg7 = argZ m c := by
  unfold V hostOps0; after_results_simp <;> rfl
theorem host_u : V m c main_v20 = (truncf .bf16 (shapeCast S16384x2048 (extractStridedSlice S1x16384x2048 ![1, 0, 0]
    (argU m c) slices_S2x16384x2048_S1x16384x2048_1_0_0) shapeCasts_S1x16384x2048_S16384x2048 : FVec Ideal S16384x2048 .f32)
    bitsLt_bf16_f32 : FVec Ideal S16384x2048 .bf16) := by
  unfold V hostOps0; after_results_simp <;> rfl
theorem host_v : V m c main_v24 = (truncf .bf16 (transpose S2048x16384 [1, 0] (shapeCast S16384x2048
    (extractStridedSlice S1x16384x2048 ![1, 0, 0] (argV m c) slices_S2x16384x2048_S1x16384x2048_1_0_0)
    shapeCasts_S1x16384x2048_S16384x2048) transposes_S16384x2048_S2048x16384_1_0 : FVec Ideal S2048x16384 .f32)
    bitsLt_bf16_f32 : FVec Ideal S2048x16384 .bf16) := by
  unfold V hostOps0; after_results_simp <;> rfl
theorem host_x : V m c main_v25 = shapeCast S8192x2048 (argX m c) shapeCasts_S2x4096x2048_S8192x2048 := by
  unfold V hostOps0; after_results_simp <;> rfl
theorem host_gain : V m c main_v17 = shapeCast S2x1x2048 (shapeCast S2x2048 (extractStridedSlice S1x2x2048 ![1, 0, 10240]
    (argMod m c) slices_S2x2x12288_S1x2x2048_1_0_10240) shapeCasts_S1x2x2048_S2x2048) shapeCasts_S2x2048_S2x1x2048 := by
  unfold V hostOps0; after_results_simp <;> rfl
theorem host_g : V m c main_v26 = shapeCast S1x2048 (argG m c) shapeCasts_S2048_S1x2048 := by
  unfold V hostOps0; after_results_simp <;> rfl

variable (t : Fin cfg0.N)

theorem points : t.val < 512 := by
  have h : ∀ t : Fin grid0.N, t.val < 512 := by decide +kernel
  exact h t

/-! ## The input blocks at an index -/

theorem blk_h (k : Fin 512) (d : Fin 2048) (R : Fin 8192) (e : R.val = 512 * (t.val / 32) + k.val) :
    iblk m c 0 t (ix2 k d) = argH m c (ix2 R d) := by
  obtain ⟨⟨e0, e1⟩, -⟩ := idx_all t
  have ht := points t
  show V m c main_arg2 ((((cfg0.win 0).blk t).view.emb (ix2 k d)) : S8192x2048.Idx) = _
  have f : ((((cfg0.win 0).blk t).view.emb (ix2 k d)) : S8192x2048.Idx) = ix2 R d := by
    funext ax
    match ax with
    | ⟨0, _⟩ => exact Fin.ext (show win0_0.index t 0 * 512 + 1 * k.val = R.val by rw [e0]; omega)
    | ⟨1, _⟩ => exact Fin.ext (show win0_0.index t 1 * 2048 + 1 * d.val = d.val by rw [e1]; omega)
  rw [f, host_h]

theorem blk_s1 (a : Fin 8) (i : Fin 128) (k : Fin 512) (R : Fin 8192) (e : R.val = 512 * (t.val / 32) + k.val) :
    iblk m c 1 t (ix4 a 0 i k) = argS m c (ix3 ⟨a.val * 2, by omega⟩ i R) := by
  obtain ⟨-, ⟨e0, e1, e2, e3⟩, -⟩ := idx_all t
  have ht := points t
  show V m c main_v27 ((((cfg0.win 1).blk t).view.emb (ix4 a 0 i k)) : S8x2x128x8192.Idx) = _
  have f : ((((cfg0.win 1).blk t).view.emb (ix4 a 0 i k)) : S8x2x128x8192.Idx) = ix4 a 0 i R := by
    funext ax
    match ax with
    | ⟨0, _⟩ => exact Fin.ext (show win0_1.index t 0 * 8 + 1 * a.val = a.val by rw [e0]; omega)
    | ⟨1, _⟩ => exact Fin.ext (show win0_1.index t 1 * 1 + 1 * 0 = 0 by rw [e1])
    | ⟨2, _⟩ => exact Fin.ext (show win0_1.index t 2 * 128 + 1 * i.val = i.val by rw [e2]; omega)
    | ⟨3, _⟩ => exact Fin.ext (show win0_1.index t 3 * 512 + 1 * k.val = R.val by rw [e3]; omega)
  rw [f, host_s]
  pointwise

theorem blk_s2 (a : Fin 8) (i : Fin 128) (k : Fin 512) (R : Fin 8192) (e : R.val = 512 * (t.val / 32) + k.val) :
    iblk m c 2 t (ix4 a 0 i k) = argS m c (ix3 ⟨a.val * 2 + 1, by omega⟩ i R) := by
  obtain ⟨-, -, ⟨e0, e1, e2, e3⟩, -⟩ := idx_all t
  have ht := points t
  show V m c main_v27 ((((cfg0.win 2).blk t).view.emb (ix4 a 0 i k)) : S8x2x128x8192.Idx) = _
  have f : ((((cfg0.win 2).blk t).view.emb (ix4 a 0 i k)) : S8x2x128x8192.Idx) = ix4 a 1 i R := by
    funext ax
    match ax with
    | ⟨0, _⟩ => exact Fin.ext (show win0_2.index t 0 * 8 + 1 * a.val = a.val by rw [e0]; omega)
    | ⟨1, _⟩ => exact Fin.ext (show win0_2.index t 1 * 1 + 1 * 0 = 1 by rw [e1])
    | ⟨2, _⟩ => exact Fin.ext (show win0_2.index t 2 * 128 + 1 * i.val = i.val by rw [e2]; omega)
    | ⟨3, _⟩ => exact Fin.ext (show win0_2.index t 3 * 512 + 1 * k.val = R.val by rw [e3]; omega)
  rw [f, host_s]
  pointwise

theorem blk_tau (a : Fin 8) (k : Fin 512) (R : Fin 8192) (e : R.val = 512 * (t.val / 32) + k.val) :
    iblk m c 3 t (ix2 a k) = argTau m c (ix2 a R) := by
  obtain ⟨-, -, -, ⟨e0, e1⟩, -⟩ := idx_all t
  have ht := points t
  show V m c main_arg4 ((((cfg0.win 3).blk t).view.emb (ix2 a k)) : S8x8192.Idx) = _
  have f : ((((cfg0.win 3).blk t).view.emb (ix2 a k)) : S8x8192.Idx) = ix2 a R := by
    funext ax
    match ax with
    | ⟨0, _⟩ => exact Fin.ext (show win0_3.index t 0 * 8 + 1 * a.val = a.val by rw [e0]; omega)
    | ⟨1, _⟩ => exact Fin.ext (show win0_3.index t 1 * 512 + 1 * k.val = R.val by rw [e1]; omega)
  rw [f, host_tau]

theorem blk_a (a : Fin 8) (k : Fin 512) (R : Fin 8192) (e : R.val = 512 * (t.val / 32) + k.val) :
    iblk m c 4 t (ix2 a k) = argA m c (ix2 a R) := by
  obtain ⟨-, -, -, -, ⟨e0, e1⟩, -⟩ := idx_all t
  have ht := points t
  show V m c main_arg5 ((((cfg0.win 4).blk t).view.emb (ix2 a k)) : S8x8192.Idx) = _
  have f : ((((cfg0.win 4).blk t).view.emb (ix2 a k)) : S8x8192.Idx) = ix2 a R := by
    funext ax
    match ax with
    | ⟨0, _⟩ => exact Fin.ext (show win0_4.index t 0 * 8 + 1 * a.val = a.val by rw [e0]; omega)
    | ⟨1, _⟩ => exact Fin.ext (show win0_4.index t 1 * 512 + 1 * k.val = R.val by rw [e1]; omega)
  rw [f, host_a]

theorem blk_b (a : Fin 8) (k : Fin 512) (R : Fin 8192) (e : R.val = 512 * (t.val / 32) + k.val) :
    iblk m c 5 t (ix2 a k) = argB m c (ix2 a R) := by
  obtain ⟨-, -, -, -, -, ⟨e0, e1⟩, -⟩ := idx_all t
  have ht := points t
  show V m c main_arg6 ((((cfg0.win 5).blk t).view.emb (ix2 a k)) : S8x8192.Idx) = _
  have f : ((((cfg0.win 5).blk t).view.emb (ix2 a k)) : S8x8192.Idx) = ix2 a R := by
    funext ax
    match ax with
    | ⟨0, _⟩ => exact Fin.ext (show win0_5.index t 0 * 8 + 1 * a.val = a.val by rw [e0]; omega)
    | ⟨1, _⟩ => exact Fin.ext (show win0_5.index t 1 * 512 + 1 * k.val = R.val by rw [e1]; omega)
  rw [f, host_b]

theorem blk_z (a : Fin 8) (k : Fin 512) (R : Fin 8192) (e : R.val = 512 * (t.val / 32) + k.val) :
    iblk m c 6 t (ix2 a k) = argZ m c (ix2 a R) := by
  obtain ⟨-, -, -, -, -, -, ⟨e0, e1⟩, -⟩ := idx_all t
  have ht := points t
  show V m c main_arg7 ((((cfg0.win 6).blk t).view.emb (ix2 a k)) : S8x8192.Idx) = _
  have f : ((((cfg0.win 6).blk t).view.emb (ix2 a k)) : S8x8192.Idx) = ix2 a R := by
    funext ax
    match ax with
    | ⟨0, _⟩ => exact Fin.ext (show win0_6.index t 0 * 8 + 1 * a.val = a.val by rw [e0]; omega)
    | ⟨1, _⟩ => exact Fin.ext (show win0_6.index t 1 * 512 + 1 * k.val = R.val by rw [e1]; omega)
  rw [f, host_z]

theorem blk_u (E : Fin 512) (d : Fin 2048) (n : Fin 16384) (e : n.val = 512 * (t.val % 32) + E.val) :
    iblk m c 7 t (ix2 E d) = argU m c (ix3 1 n d) := by
  obtain ⟨-, -, -, -, -, -, -, ⟨e0, e1⟩, -⟩ := idx_all t
  have ht := points t
  show V m c main_v20 ((((cfg0.win 7).blk t).view.emb (ix2 E d)) : S16384x2048.Idx) = _
  have f : ((((cfg0.win 7).blk t).view.emb (ix2 E d)) : S16384x2048.Idx) = ix2 n d := by
    funext ax
    match ax with
    | ⟨0, _⟩ => exact Fin.ext (show win0_7.index t 0 * 512 + 1 * E.val = n.val by rw [e0]; omega)
    | ⟨1, _⟩ => exact Fin.ext (show win0_7.index t 1 * 2048 + 1 * d.val = d.val by rw [e1]; omega)
  rw [f, host_u]
  pointwise

theorem blk_v (E : Fin 512) (d : Fin 2048) (n : Fin 16384) (e : n.val = 512 * (t.val % 32) + E.val) :
    iblk m c 8 t (ix2 d E) = argV m c (ix3 1 n d) := by
  obtain ⟨-, -, -, -, -, -, -, -, ⟨e0, e1⟩, -⟩ := idx_all t
  have ht := points t
  show V m c main_v24 ((((cfg0.win 8).blk t).view.emb (ix2 d E)) : S2048x16384.Idx) = _
  have f : ((((cfg0.win 8).blk t).view.emb (ix2 d E)) : S2048x16384.Idx) = ix2 d n := by
    funext ax
    match ax with
    | ⟨0, _⟩ => exact Fin.ext (show win0_8.index t 0 * 2048 + 1 * d.val = d.val by rw [e0]; omega)
    | ⟨1, _⟩ => exact Fin.ext (show win0_8.index t 1 * 512 + 1 * E.val = n.val by rw [e1]; omega)
  rw [f, host_v]
  pointwise

theorem blk_x (k : Fin 512) (d : Fin 2048) (R : Fin 8192) (e : R.val = 512 * (t.val / 32) + k.val) :
    iblk m c 9 t (ix2 k d) = argX m c (ix3 (batch R.val R.isLt) (pos R.val) d) := by
  obtain ⟨-, -, -, -, -, -, -, -, -, ⟨e0, e1⟩, -⟩ := idx_all t
  have ht := points t
  show V m c main_v25 ((((cfg0.win 9).blk t).view.emb (ix2 k d)) : S8192x2048.Idx) = _
  have f : ((((cfg0.win 9).blk t).view.emb (ix2 k d)) : S8192x2048.Idx) = ix2 R d := by
    funext ax
    match ax with
    | ⟨0, _⟩ => exact Fin.ext (show win0_9.index t 0 * 512 + 1 * k.val = R.val by rw [e0]; omega)
    | ⟨1, _⟩ => exact Fin.ext (show win0_9.index t 1 * 2048 + 1 * d.val = d.val by rw [e1]; omega)
  rw [f, host_x]
  pointwise
  rfl

theorem blk_gain (d : Fin 2048) (b : Fin 2) (e : b.val = t.val / 256) :
    iblk m c 10 t (ix3 0 0 d) = argMod m c (ix3 1 b ⟨10240 + d.val, by omega⟩) := by
  obtain ⟨-, -, -, -, -, -, -, -, -, -, ⟨e0, e1, e2⟩, -⟩ := idx_all t
  have ht := points t
  show V m c main_v17 ((((cfg0.win 10).blk t).view.emb (ix3 0 0 d)) : S2x1x2048.Idx) = _
  have f : ((((cfg0.win 10).blk t).view.emb (ix3 0 0 d)) : S2x1x2048.Idx) = ix3 b 0 d := by
    funext ax
    match ax with
    | ⟨0, _⟩ => exact Fin.ext (show win0_10.index t 0 * 1 + 1 * 0 = b.val by rw [e0]; omega)
    | ⟨1, _⟩ => exact Fin.ext (show win0_10.index t 1 * 1 + 1 * 0 = 0 by rw [e1])
    | ⟨2, _⟩ => exact Fin.ext (show win0_10.index t 2 * 2048 + 1 * d.val = d.val by rw [e2]; omega)
  rw [f, host_gain]
  pointwise

theorem blk_g (d : Fin 2048) :
    iblk m c 11 t (ix2 0 d) = argG m c (ix1 d) := by
  obtain ⟨-, -, -, -, -, -, -, -, -, -, -, ⟨e0, e1⟩, -⟩ := idx_all t
  have ht := points t
  show V m c main_v26 ((((cfg0.win 11).blk t).view.emb (ix2 0 d)) : S1x2048.Idx) = _
  have f : ((((cfg0.win 11).blk t).view.emb (ix2 0 d)) : S1x2048.Idx) = ix2 0 d := by
    funext ax
    match ax with
    | ⟨0, _⟩ => exact Fin.ext (show win0_11.index t 0 * 1 + 1 * 0 = 0 by rw [e0])
    | ⟨1, _⟩ => exact Fin.ext (show win0_11.index t 1 * 2048 + 1 * d.val = d.val by rw [e1]; omega)
  rw [f, host_g]
  pointwise

end Cert.Kernel5Ideal.Expert

end
-- ==== Proof.Expert.Out.lean ====
/-
  The array the experts' kernel leaves: the last norm of the residual with the gated experts' sum.
-/
module

public import proofs.«01_k».proof.Proof.Gen.Kernel5Ideal.Value
public import Idealize.ShloMosaic.Lib.Pipeline.ValueKit
public import Idealize.ShloMosaic.Lib.Pointwise
public import proofs.«01_k».proof.Proof.Expert.Run
public import proofs.«01_k».proof.Proof.Expert.Blocks

@[expose] public section

set_option maxRecDepth 16384

noncomputable section

namespace Cert.Kernel5Ideal.Expert

open Idealize.ShloMosaic Idealize.ShloMosaic.TcCoe Idealize.ShloMosaic.Tactic
open Idealize.ShloMosaic.Pipeline (Dat)
open Cert.Kernel5Ideal Cert.Kernel5Ideal.Gen Cert.Norm

/-! ## The value -/

section
variable (x : Vec Ideal S2x4096x2048 .f32) (md : Vec Ideal S2x2x12288 .f32) (h : Vec Ideal S8192x2048 .bf16)
  (s : Vec Ideal S16x128x8192 .f32) (tau a b z : Vec Ideal S8x8192 .f32) (u v : Vec Ideal S2x16384x2048 .f32)
  (g : Vec Ideal S2048 .f32)

/-- A token's gate of the expert with sub-keys `i` and `j`, from the threshold and the two weights of each head. -/
def tokenGate (i j : Fin 128) (R : Fin 8192) : EReal :=
  gate (fun o => tau (ix2 o R) - s (ix3 ⟨o.val * 2, by omega⟩ i R))
    (fun o => Ideal.exp (s (ix3 ⟨o.val * 2, by omega⟩ i R) - a (ix2 o R)))
    (fun o => s (ix3 ⟨o.val * 2 + 1, by omega⟩ j R))
    (fun o => Ideal.div (Ideal.exp (s (ix3 ⟨o.val * 2 + 1, by omega⟩ j R) - b (ix2 o R))) (z (ix2 o R)))

def sub1 (n : Fin 16384) : Fin 128 := ⟨n.val / 128, by omega⟩
def sub2 (n : Fin 16384) : Fin 128 := ⟨n.val % 128, Nat.mod_lt _ (by decide)⟩

/-- The experts' output of a token. -/
def expertSum (R : Fin 8192) (d : Fin 2048) : EReal :=
  ∑ n : Fin 16384, v (ix3 1 n d) * (tokenGate s tau a b z (sub1 n) (sub2 n) R * gelu (∑ l, u (ix3 1 n l) * h (ix2 R l)))

/-- The last norm of the residual. -/
def value (j : S8192x2048.Idx) : EReal :=
  rms (Ideal.ofBits FTy.f32 1157627904#32)
    (fun d => x (ix3 (batch (j 0).val (j 0).isLt) (pos (j 0).val) d)
      + md (ix3 1 (batch (j 0).val (j 0).isLt) ⟨10240 + d.val, by omega⟩) * expertSum h s tau a b z u v (j 0) d)
    (fun d => g (ix1 d)) (j 1)

end

/-! ## The scratch -/

variable (m : (ℓ : Loc nD τ sig) → Buf (Elt Ideal) ℓ) (c : Dev nD)

theorem stored (n : ℕ) : ∀ (hn : n < cfg0.N) (o : Fin 8) (i : Fin 128) (k : Fin 512) (R : Fin 8192),
    R.val = 512 * (n / 32) + k.val →
    (outsAt0 m c n hn).2.1 (ix3 o i k) = (argTau m c (ix2 o R) - argS m c (ix3 ⟨o.val * 2, by omega⟩ i R) : EReal)
    ∧ (outsAt0 m c n hn).2.2.1 (ix3 o i k)
      = Ideal.exp (argS m c (ix3 ⟨o.val * 2, by omega⟩ i R) - argA m c (ix2 o R) : EReal)
    ∧ (outsAt0 m c n hn).2.2.2.1 (ix3 o i k)
      = Ideal.div (Ideal.exp (argS m c (ix3 ⟨o.val * 2 + 1, by omega⟩ i R) - argB m c (ix2 o R) : EReal)) (argZ m c (ix2 o R)) := by
  induction n with
  | zero => exact fun hn o i k R e => first_stored ⟨0, hn⟩ rfl o i k R e
  | succ n ih =>
    intro hn o i k R e
    by_cases h0 : (n + 1) % 32 = 0
    · exact first_stored ⟨n + 1, hn⟩ h0 o i k R e
    · obtain ⟨c1, c2, c3⟩ := carry m c ⟨n + 1, hn⟩ h0 (by show n + 1 - 1 < _; omega)
      obtain ⟨i1, i2, i3⟩ := ih (by omega) o i k R (by omega)
      exact ⟨(congrFun c1 _).trans i1, (congrFun c2 _).trans i2, (congrFun c3 _).trans i3⟩
where
  first_stored (t : Fin cfg0.N) (h0 : t.val % 32 = 0) (o : Fin 8) (i : Fin 128) (k : Fin 512) (R : Fin 8192)
      (e : R.val = 512 * (t.val / 32) + k.val) :
      (outsAt0 m c t.val t.isLt).2.1 (ix3 o i k) = (argTau m c (ix2 o R) - argS m c (ix3 ⟨o.val * 2, by omega⟩ i R) : EReal)
      ∧ (outsAt0 m c t.val t.isLt).2.2.1 (ix3 o i k)
        = Ideal.exp (argS m c (ix3 ⟨o.val * 2, by omega⟩ i R) - argA m c (ix2 o R) : EReal)
      ∧ (outsAt0 m c t.val t.isLt).2.2.2.1 (ix3 o i k)
        = Ideal.div (Ideal.exp (argS m c (ix3 ⟨o.val * 2 + 1, by omega⟩ i R) - argB m c (ix2 o R) : EReal))
            (argZ m c (ix2 o R)) := by
    have h1 : ¬t.val % 32 = 31 := by omega
    refine ⟨(congrFun (th_first m c t h0 h1) _).trans ?_, (congrFun (e1_first m c t h0 h1) _).trans ?_,
      (congrFun (e2_first m c t h0 h1) _).trans ?_⟩
    · exact congr_arg₂ (fun p q : EReal => p - q) (blk_tau m c t o k R e) (blk_s1 m c t o i k R e)
    · exact congr_arg₂ (fun p q : EReal => Ideal.exp (p - q)) (blk_s1 m c t o i k R e) (blk_a m c t o k R e)
    · exact congr_arg₂ Ideal.div (congr_arg₂ (fun p q : EReal => Ideal.exp (p - q)) (blk_s2 m c t o i k R e)
        (blk_b m c t o k R e)) (blk_z m c t o k R e)

variable (t : Fin cfg0.N)

theorem pointPanels_apply (E k : Fin 512) (R : Fin 8192) (n : Fin 16384) (e : R.val = 512 * (t.val / 32) + k.val)
    (en : n.val = 512 * (t.val % 32) + E.val) :
    pointPanels m c t (ix2 E k)
      = (tokenGate (argS m c) (argTau m c) (argA m c) (argB m c) (argZ m c) (sub1 n) (sub2 n) R
          * gelu (∑ l, argU m c (ix3 1 n l) * argH m c (ix2 R l)) : EReal) := by
  have hg : ((grid0.coords t) 1).val = t.val % 32 := by
    obtain ⟨-, -, -, -, -, -, -, -, -, -, -, -, -, hg⟩ := idx_all t
    exact hg
  have f1 : first (grid0.coords t) E = sub1 n := Fin.ext (by
    show 4 * ((grid0.coords t) 1).val + E.val / 128 = n.val / 128
    rw [hg]; omega)
  have f2 : second E = sub2 n := Fin.ext (by
    show E.val % 128 = n.val % 128
    omega)
  unfold pointPanels
  rw [panels_apply, f1, f2, act_apply]
  refine congr_arg₂ (fun p q : EReal => p * q) ?_ (congrArg gelu (Finset.sum_congr rfl fun l _ =>
    congr_arg₂ (fun p q : EReal => p * q) (blk_u m c t E l n en) (blk_h m c t k l R e)))
  unfold tokenGate
  congr 1
  · funext o; exact (stored m c t.val t.isLt o _ k R e).1
  · funext o; exact (stored m c t.val t.isLt o _ k R e).2.1
  · funext o; exact blk_s2 m c t o _ k R e
  · funext o; exact (stored m c t.val t.isLt o _ k R e).2.2

/-! ## The accumulator -/

/-- The product of a block of values with the panels. -/
def part (vt : Vec Ideal S2048x512 .bf16) (p : Vec Ideal S512x512 .bf16) (d : Fin 2048) (k : Fin 512) : EReal :=
  ∑ E : Fin 512, vt (ix2 d E) * p (ix2 E k)

/-- What a grid point adds. -/
def term (t : Fin cfg0.N) (y : S2048x512.Idx) : EReal := part (iblk m c 8 t) (pointPanels m c t) (y 0) (y 1)

theorem acc_step0 (t : Fin cfg0.N) (h0 : t.val % 32 = 0) (y : S2048x512.Idx) :
    (outsAt0 m c t.val t.isLt).2.2.2.2 y = (0 + term m c t y : EReal) := by
  refine (congrFun (acc_first m c t h0 (by omega)) y).trans ((congrArg _ (eq_ix2 (n0 := 2048) (n1 := 512) y)).trans
    ((step_apply _ _ _ (y 0) (y 1)).trans ?_))
  exact congr_arg₂ (fun p q : EReal => p + q) (zero_apply (y 0) (y 1)) rfl

theorem acc_step (t : Fin cfg0.N) (h0 : ¬t.val % 32 = 0) (hp : t.val - 1 < cfg0.N) (y : S2048x512.Idx) :
    (outsAt0 m c t.val t.isLt).2.2.2.2 y = ((outsAt0 m c (t.val - 1) hp).2.2.2.2 y + term m c t y : EReal) := by
  refine (congrFun (acc_later m c t h0 hp) y).trans ((congrArg _ (eq_ix2 (n0 := 2048) (n1 := 512) y)).trans
    ((step_apply _ _ _ (y 0) (y 1)).trans ?_))
  exact congr_arg₂ (fun p q : EReal => p + q) (congrArg _ (eq_ix2 (n0 := 2048) (n1 := 512) y).symm) rfl

theorem acc_last (ht : t.val % 32 = 31) (d : Fin 2048) (k : Fin 512) (R : Fin 8192)
    (e : R.val = 512 * (t.val / 32) + k.val) :
    (outsAt0 m c t.val t.isLt).2.2.2.2 (ix2 d k)
      = expertSum (argH m c) (argS m c) (argTau m c) (argA m c) (argB m c) (argZ m c) (argU m c) (argV m c) R d := by
  have hs := Pipeline.eq_sum_fin_of_reset_step_apply_of_flush (N := cfg0.N) (M := EReal) (ι := S2048x512.Idx)
    (fun n h => (outsAt0 m c n h).2.2.2.2) 32 (fun _ => 0)
    (term m c) (fun t h y => acc_step0 m c t h y) (fun t h y => acc_step m c t h _ y) t ht (ix2 d k)
  refine hs.trans ?_
  rw [zero_add]
  unfold expertSum
  refine Fin.sum_mul_add_congr (fun s E hl => ?_)
  have hp : (32 * (t.val / 32) + s.val) / 32 = t.val / 32 := by omega
  have hq : (32 * (t.val / 32) + s.val) % 32 = s.val := by omega
  refine congr_arg₂ (fun p q : EReal => p * q) ?_ ?_
  · exact blk_v m c _ E d _ (by show s.val * 512 + E.val = 512 * ((32 * (t.val / 32) + s.val) % 32) + E.val; omega)
  · exact pointPanels_apply m c _ E k R _ (by show R.val = 512 * ((32 * (t.val / 32) + s.val) / 32) + k.val; omega)
      (by show s.val * 512 + E.val = 512 * ((32 * (t.val / 32) + s.val) % 32) + E.val; omega)

/-! ## The output -/

/-- The value at the arguments. -/
abbrev argValue : S8192x2048.Idx → EReal :=
  value (argX m c) (argMod m c) (argH m c) (argS m c) (argTau m c) (argA m c) (argB m c) (argZ m c) (argU m c) (argV m c)
    (argG m c)

theorem flushed_eq (hf : (cfg0.win 12).flush t = true) :
    (dats m 0 c).flushed 12 t = ((cfg0.win 12).blk t).view.read (Elt Ideal) (argValue m c) := by
  have hm : t.val % 32 = 31 := (flush0_12 t).mp hf
  have ht := points t
  obtain ⟨-, -, -, -, -, -, -, -, -, -, -, -, ⟨e0, e1⟩, -⟩ := idx_all t
  rw [Value.flushed12]
  funext y
  show (outsAt0 m c t.val t.isLt).1 y = argValue m c (((cfg0.win 12).blk t).view.emb y)
  have y0 : (y 0).val < 512 := (y 0).isLt
  have f0 : ((((cfg0.win 12).blk t).view.emb y) 0).val = 512 * (t.val / 32) + (y 0).val := by
    show win0_12.index t 0 * 512 + 1 * (y 0).val = _
    rw [e0]; omega
  have f1 : (((cfg0.win 12).blk t).view.emb y) 1 = y 1 := Fin.ext (by
    show win0_12.index t 1 * 2048 + 1 * (y 1).val = _
    rw [e1]; omega)
  generalize (((cfg0.win 12).blk t).view.emb y) = j at f0 f1
  refine (congrFun (out_last m c t (by omega) hm) y).trans ((congrArg _ (eq_ix2 (n0 := 512) (n1 := 2048) y)).trans
    ((last_apply _ _ _ _ (y 0) (y 1)).trans ?_))
  show _ = value _ _ _ _ _ _ _ _ _ _ _ _
  unfold value
  refine congr (congr_arg₂ (rms _) ?_ ?_) f1.symm
  · funext d
    refine congr_arg₂ (fun p q : EReal => p + q) (blk_x m c t (y 0) d (j 0) f0)
      (congr_arg₂ (fun p q : EReal => p * q) (blk_gain m c t d _ ?_) (acc_last m c t hm d (y 0) (j 0) f0))
    show (j 0).val / 4096 = _
    omega
  · funext d
    exact blk_g m c t d

theorem cover (j : S8192x2048.Idx) :
    ∃ t : Fin cfg0.N, (cfg0.win 12).flush t = true ∧ j ∈ ((cfg0.win 12).blk t).view.set := by
  have b0 : (j 0).val < 8192 := (j 0).isLt
  have b1 : (j 1).val < 2048 := (j 1).isLt
  have pts : ∀ q : Fin 16, ∃ t : Fin grid0.N, t.val = 32 * q.val + 31 := by
    decide +kernel
  obtain ⟨t, ht⟩ := pts ⟨(j 0).val / 512, by omega⟩
  dsimp only at ht
  obtain ⟨-, -, -, -, -, -, -, -, -, -, -, -, ⟨e0, e1⟩, -⟩ := idx_all t
  refine ⟨t, (flush0_12 t).mpr (by omega), ?_⟩
  show j ∈ ((View.whole main_v28).slice (win0_12.rect t)).set
  rw [View.set_slice_whole, Rect.mem_set_unit]
  intro ax
  match ax with
  | ⟨0, _⟩ =>
    show win0_12.index t 0 * 512 ≤ (j 0).val ∧ (j 0).val < win0_12.index t 0 * 512 + 512
    rw [e0]; omega
  | ⟨1, _⟩ =>
    show win0_12.index t 1 * 2048 ≤ (j 1).val ∧ (j 1).val < win0_12.index t 1 * 2048 + 2048
    rw [e1]; omega

/-- The kernel's output array is the last norm of the residual. -/
theorem final_array : (dats m 0 c).arrAt 12 cfg0.N = argValue m c :=
  (dats m 0 c).arrAt_eq_of_cover 12 _ (fun t hf => flushed_eq m c t hf) cover

end Cert.Kernel5Ideal.Expert

end
-- ==== Proof.Expert.Pre.lean ====
/-
  The precondition, read: every score and every first and second largest score of a token is finite.
-/
module

public import proofs.«01_k».proof.Proof.Gen.Pre_scores_finite
public import proofs.«01_k».proof.Proof.Mix.Pre

@[expose] public section

set_option maxRecDepth 16384

noncomputable section

namespace Cert.Pre_scores_finite.Expert

open Idealize.ShloMosaic Idealize.ShloMosaic.Tactic
open Cert.Pre_scores_finite
open Cert.Pre_top_lse_finite.Mix (ofBits_top ofBits_bot of_words)
open Facts

/-- The test of every score. -/
def scoreTest (s : FVec Ideal S16x128x8192 .f32) : IVec S16x128x8192 1 :=
  andi (cmpf .ogt s (broadcastInDim S16x128x8192 ![] bcast_S_S16x128x8192 (constant S_ .f32 0xFF800000#32)))
    (cmpf .olt s (broadcastInDim S16x128x8192 ![] bcast_S_S16x128x8192 (constant S_ .f32 0x7F800000#32)))

/-- The test of every largest score. -/
def largestTest (a : FVec Ideal S8x8192 .f32) : IVec S8x8192 1 :=
  andi (cmpf .ogt a (broadcastInDim S8x8192 ![] bcast_S_S8x8192 (constant S_ .f32 0xFF800000#32)))
    (cmpf .olt a (broadcastInDim S8x8192 ![] bcast_S_S8x8192 (constant S_ .f32 0x7F800000#32)))

theorem and_one {p q : BitVec 1} (h : p &&& q = 1#1) : p = 1#1 ∧ q = 1#1 := by
  revert p q
  decide

theorem scores_of (s : FVec Ideal S16x128x8192 .f32) (i : S_.Idx)
    (h : Host.reduce IntOp.andi (scoreTest s) (constantI S_ 1 1#1) reducesTo_S16x128x8192_S_d0_1_2 h_S_ i = 1#1)
    (o : Fin 16) (k : Fin 128) (R : Fin 8192) : ⊥ < s (ix3 o k R) ∧ s (ix3 o k R) < ⊤ := by
  haveI : Subsingleton S_.Idx := ⟨fun a b => funext fun i => i.elim0⟩
  have key := Host.reduce_andi_all _ _ _ _ i h (ix3 (n0 := 16) (n1 := 128) (n2 := 8192) o k R)
  revert key
  unfold scoreTest
  pointwise
  rw [ofBits_top, ofBits_bot]
  exact of_words

theorem largest_of (a : FVec Ideal S8x8192 .f32) (i : S_.Idx)
    (h : Host.reduce IntOp.andi (largestTest a) (constantI S_ 1 1#1) reducesTo_S8x8192_S_d0_1 h_S_ i = 1#1)
    (o : Fin 8) (R : Fin 8192) : ⊥ < a (ix2 o R) ∧ a (ix2 o R) < ⊤ := by
  haveI : Subsingleton S_.Idx := ⟨fun a b => funext fun i => i.elim0⟩
  have key := Host.reduce_andi_all _ _ _ _ i h (ix2 (n0 := 8) (n1 := 8192) o R)
  revert key
  unfold largestTest
  pointwise
  rw [ofBits_top, ofBits_bot]
  exact of_words

section
variable {x : FVec Ideal S2x4096x2048 .f32} {md : FVec Ideal S2x2x12288 .f32} {h : FVec Ideal S8192x2048 .bf16}
  {s : FVec Ideal S16x128x8192 .f32} {tau a b z : FVec Ideal S8x8192 .f32} {u v : FVec Ideal S2x16384x2048 .f32}
  {g : FVec Ideal S2048 .f32}

theorem fn_eq : fn (F := Ideal) x md h s tau a b z u v g
    = andi (andi (Host.reduce IntOp.andi (scoreTest s) (constantI S_ 1 1#1) reducesTo_S16x128x8192_S_d0_1_2 h_S_)
        (Host.reduce IntOp.andi (largestTest a) (constantI S_ 1 1#1) reducesTo_S8x8192_S_d0_1 h_S_))
      (Host.reduce IntOp.andi (largestTest b) (constantI S_ 1 1#1) reducesTo_S8x8192_S_d0_1 h_S_) := by
  unfold fn fn_part1 scoreTest largestTest
  rfl

/-- What the precondition says of the scores `s` and the largest scores `a` and `b`. -/
def Finite (s : FVec Ideal S16x128x8192 .f32) (a b : FVec Ideal S8x8192 .f32) : Prop :=
  (∀ (o : Fin 16) (k : Fin 128) (R : Fin 8192), ⊥ < s (ix3 o k R) ∧ s (ix3 o k R) < ⊤)
    ∧ (∀ (o : Fin 8) (R : Fin 8192), ⊥ < a (ix2 o R) ∧ a (ix2 o R) < ⊤)
    ∧ ∀ (o : Fin 8) (R : Fin 8192), ⊥ < b (ix2 o R) ∧ b (ix2 o R) < ⊤

theorem finite (hp : fn (F := Ideal) x md h s tau a b z u v g = fun _ => 1#1) : Finite s a b := by
  rw [fn_eq] at hp
  have i : S_.Idx := fun i => i.elim0
  obtain ⟨hq, hb⟩ := and_one (congrFun hp i)
  obtain ⟨hs, ha⟩ := and_one hq
  exact ⟨scores_of s i hs, largest_of a i ha, largest_of b i hb⟩

end

end Cert.Pre_scores_finite.Expert

end
-- ==== Proof.Expert.Gate.lean ====
/-
  One head's share of an expert's gate: the two weights multiplied are the weight of the summed scores, where the scores
  and the two largest scores are finite. Also the activation, with its factors in the other order.
-/
module

public import proofs.«01_k».proof.Proof.Expert.Panel

@[expose] public section

noncomputable section

namespace Cert.Kernel5Ideal.Expert

open Idealize.ShloMosaic

theorem lift_real {x : EReal} (h : ⊥ < x ∧ x < ⊤) : ∃ r : ℝ, x = (r : EReal) :=
  ⟨x.toReal, (EReal.coe_toReal h.2.ne h.1.ne').symm⟩

/-- The threshold less the first score is reached by the second exactly when the sum reaches the threshold. -/
theorem sub_le_iff (t : EReal) (p q : ℝ) : t - (p : EReal) ≤ (q : EReal) ↔ t ≤ (p : EReal) + (q : EReal) := by
  induction t with
  | bot => simp
  | top =>
    rw [← EReal.coe_add, EReal.top_sub_coe]
    exact iff_of_false (EReal.coe_lt_top _).not_ge (EReal.coe_lt_top _).not_ge
  | coe r =>
    rw [← EReal.coe_add, ← EReal.coe_sub, EReal.coe_le_coe_iff, EReal.coe_le_coe_iff]
    constructor <;> intro h <;> linarith

/-- The two weights multiplied. -/
theorem weight_mul (z : EReal) (p q a b : ℝ) :
    Ideal.div (Ideal.exp ((q : EReal) - b)) z * Ideal.exp ((p : EReal) - a)
      = Ideal.div (Ideal.exp ((p : EReal) + q - (a + b))) z := by
  have e : (p : EReal) + q - (a + b) = ((q - b + (p - a) : ℝ) : EReal) := by
    rw [← EReal.coe_add, ← EReal.coe_add, ← EReal.coe_sub]
    exact congrArg _ (by ring)
  rw [e, ← EReal.coe_sub, ← EReal.coe_sub, Ideal.exp_coe, Ideal.exp_coe, Ideal.exp_coe, Real.exp_add, EReal.coe_mul]
  have hq : (0 : EReal) < (Real.exp (q - b) : EReal) := EReal.coe_pos.mpr (Real.exp_pos _)
  have hp : (0 : EReal) < (Real.exp (p - a) : EReal) := EReal.coe_pos.mpr (Real.exp_pos _)
  have hqp : (0 : EReal) < (Real.exp (q - b) : EReal) * (Real.exp (p - a) : EReal) := by
    rw [← EReal.coe_mul]
    exact EReal.coe_pos.mpr (mul_pos (Real.exp_pos _) (Real.exp_pos _))
  unfold Ideal.div
  by_cases hz : z = 0
  · rw [if_pos hz, if_pos hz, if_pos hq, if_pos hqp]
    exact EReal.top_mul_coe_of_pos (Real.exp_pos _)
  · rw [if_neg hz, if_neg hz, mul_assoc, mul_assoc, mul_comm z⁻¹]

/-- One head's share. -/
theorem head_eq {s1 s2 a b : EReal} (t z : EReal) (h1 : ⊥ < s1 ∧ s1 < ⊤) (h2 : ⊥ < s2 ∧ s2 < ⊤) (ha : ⊥ < a ∧ a < ⊤)
    (hb : ⊥ < b ∧ b < ⊤) :
    (if t ≤ s1 + s2 then Ideal.div (Ideal.exp (s1 + s2 - (a + b))) z else 0)
      = if t - s1 ≤ s2 then Ideal.div (Ideal.exp (s2 - b)) z * Ideal.exp (s1 - a) else 0 := by
  obtain ⟨p, rfl⟩ := lift_real h1
  obtain ⟨q, rfl⟩ := lift_real h2
  obtain ⟨a, rfl⟩ := lift_real ha
  obtain ⟨b, rfl⟩ := lift_real hb
  rw [weight_mul]
  simp only [sub_le_iff]

/-- The activation, with the half multiplied in last. -/
theorem gelu_eq (x : EReal) :
    x * (Ideal.ofBits .f32 1056964608#32 * (1 + Ideal.tanh (Ideal.ofBits .f32 1061962282#32 *
      (x + Ideal.ofBits .f32 1027024659#32 * (x * x * x))))) = gelu x := by
  unfold gelu
  rw [← mul_assoc, mul_comm x]

end Cert.Kernel5Ideal.Expert

end
-- ==== Proof.Expert.Ref.lean ====
/-
  The reference's run ends with the last norm of the residual, where the scores are finite.
-/
module

public import proofs.«01_k».proof.Proof.Gen.Reference5Ideal.Run
public import proofs.«01_k».proof.Proof.Expert.Out
public import proofs.«01_k».proof.Proof.Expert.Gate
public import proofs.«01_k».proof.Proof.Expert.Pre

@[expose] public section

set_option maxRecDepth 16384

noncomputable section

namespace Cert.Reference5Ideal.Expert

open Idealize.ShloMosaic Idealize.ShloMosaic.TcCoe Idealize.ShloMosaic.Tactic Idealize.SL.Sem
open Cert.Reference5Ideal Cert.Reference5Ideal.Gen Cert.Norm
open Cert.Kernel5Ideal.Expert (gelu gelu_eq head_eq sub1 sub2 tokenGate expertSum)
open Cert.Pre_scores_finite.Expert (Finite)

/-! ## The gates -/

section
variable (s : FVec Ideal S16x128x8192 .f32)

/-- The scores of the first sub-key: token, head, sub-key. -/
def half0 : FVec Ideal S8192x8x128 .f32 :=
  shapeCast _ (extractStridedSlice S8192x8x1x128 ![0, 0, 0, 0] (transpose S8192x8x2x128 [3, 0, 1, 2] (shapeCast
    _ s shapeCasts_S16x128x8192_S8x2x128x8192) transposes_S8x2x128x8192_S8192x8x2x128_3_0_1_2)
    slices_S8192x8x2x128_S8192x8x1x128_0_0_0_0) shapeCasts_S8192x8x1x128_S8192x8x128

/-- The scores of the second sub-key. -/
def half1 : FVec Ideal S8192x8x128 .f32 :=
  shapeCast _ (extractStridedSlice S8192x8x1x128 ![0, 0, 1, 0] (transpose S8192x8x2x128 [3, 0, 1, 2] (shapeCast
    _ s shapeCasts_S16x128x8192_S8x2x128x8192) transposes_S8x2x128x8192_S8192x8x2x128_3_0_1_2)
    slices_S8192x8x2x128_S8192x8x1x128_0_0_1_0) shapeCasts_S8192x8x1x128_S8192x8x128

theorem half0_apply (R : Fin 8192) (o : Fin 8) (i : Fin 128) :
    half0 s (ix3 R o i) = s (ix3 ⟨o.val * 2, by omega⟩ i R) := by
  unfold half0
  pointwise

theorem half1_apply (R : Fin 8192) (o : Fin 8) (j : Fin 128) :
    half1 s (ix3 R o j) = s (ix3 ⟨o.val * 2 + 1, by omega⟩ j R) := by
  unfold half1
  pointwise

/-- The score of every pair of sub-keys. -/
def pair : FVec Ideal S8192x8x128x128 .f32 :=
  addf (broadcastInDim S8192x8x128x128 ![0, 1, 2, 3] bcast_S8192x8x128x1_S8192x8x128x128_0_1_2_3 (broadcastInDim
    S8192x8x128x1 ![0, 1, 2] bcast_S8192x8x128_S8192x8x128x1_0_1_2 (half0 s))) (broadcastInDim S8192x8x128x128
    ![0, 1, 2, 3] bcast_S8192x8x1x128_S8192x8x128x128_0_1_2_3 (broadcastInDim S8192x8x1x128 ![0, 1, 3]
    bcast_S8192x8x128_S8192x8x1x128_0_1_3 (half1 s)))

theorem pair_apply (R : Fin 8192) (o : Fin 8) (i j : Fin 128) :
    pair s (ix4 R o i j) = s (ix3 ⟨o.val * 2, by omega⟩ i R) + s (ix3 ⟨o.val * 2 + 1, by omega⟩ j R) := by
  rw [← half0_apply s R o i, ← half1_apply s R o j]
  unfold pair
  pointwise

end

section
variable (s : FVec Ideal S16x128x8192 .f32) (tau a b z : FVec Ideal S8x8192 .f32)

/-- The gates: token, expert. -/
def gates : FVec Ideal S8192x16384 .f32 :=
  shapeCast _ (Host.reduceAdd (select (cmpf .oge (pair s) (broadcastInDim S8192x8x128x128 ![0, 1, 2, 3]
    bcast_S8192x8x1x1_S8192x8x128x128_0_1_2_3 (broadcastInDim S8192x8x1x1 ![0, 1] bcast_S8192x8_S8192x8x1x1_0_1
    (transpose S8192x8 [1, 0] tau transposes_S8x8192_S8192x8_1_0)))) (Host.divf (Host.exp (subf (pair s)
    (broadcastInDim S8192x8x128x128 ![0, 1, 2, 3] bcast_S8192x8x1x1_S8192x8x128x128_0_1_2_3 (broadcastInDim
    S8192x8x1x1 ![0, 1] bcast_S8192x8_S8192x8x1x1_0_1 (transpose S8192x8 [1, 0] (addf a b)
    transposes_S8x8192_S8192x8_1_0))))) (broadcastInDim S8192x8x128x128 ![0, 1, 2, 3]
    bcast_S8192x8x1x1_S8192x8x128x128_0_1_2_3 (broadcastInDim S8192x8x1x1 ![0, 1] bcast_S8192x8_S8192x8x1x1_0_1
    (transpose S8192x8 [1, 0] z transposes_S8x8192_S8192x8_1_0)))) (broadcastInDim S8192x8x128x128 ![]
    bcast_S_S8192x8x128x128 (constant S_ .f32 0x00000000#32))) (constant S_ .f32 0x00000000#32)
    reducesTo_S8192x8x128x128_S8192x128x128_d1 h_S_) shapeCasts_S8192x128x128_S8192x16384

theorem gates_sum (R : Fin 8192) (n : Fin 16384) :
    gates s tau a b z (ix2 R n) = ∑ o : Fin 8, if tau (ix2 o R) ≤ pair s (ix4 R o (sub1 n) (sub2 n))
      then Ideal.div (Ideal.exp (pair s (ix4 R o (sub1 n) (sub2 n)) - (a (ix2 o R) + b (ix2 o R)))) (z (ix2 o R)) else 0 := by
  unfold gates sub1 sub2
  pointwise

theorem gates_apply (hf : Finite s a b) (R : Fin 8192) (n : Fin 16384) :
    gates s tau a b z (ix2 R n) = tokenGate s tau a b z (sub1 n) (sub2 n) R := by
  rw [gates_sum]
  unfold tokenGate Cert.Kernel5Ideal.Expert.gate
  refine Finset.sum_congr rfl fun o _ => ?_
  rw [pair_apply]
  exact head_eq _ _ (hf.1 _ _ _) (hf.1 _ _ _) (hf.2.1 _ _) (hf.2.2 _ _)

end

/-! ## The experts -/

section
variable (h : FVec Ideal S8192x2048 .bf16) (u : FVec Ideal S2x16384x2048 .f32) (p : FVec Ideal S8192x16384 .f32)

/-- The experts' projections: token, expert. -/
def hidden : FVec Ideal S8192x16384 .f32 :=
  Host.dotGeneral dot_S8192x2048_S2048x16384_S8192x16384_1_0_0_1_n_n none (extf .f32 h bitsLt_bf16_f32)
    (transpose S2048x16384 [1, 0] (shapeCast _ (extractStridedSlice S1x16384x2048 ![1, 0, 0] u
    slices_S2x16384x2048_S1x16384x2048_1_0_0) shapeCasts_S1x16384x2048_S16384x2048)
    transposes_S16384x2048_S2048x16384_1_0)

theorem hidden_apply (R : Fin 8192) (n : Fin 16384) :
    hidden h u (ix2 R n) = ∑ l : Fin 2048, u (ix3 1 n l) * h (ix2 R l) := by
  unfold hidden
  pointwise
  exact Finset.sum_congr rfl fun l _ => mul_comm _ _

/-- The activations. -/
def acts : FVec Ideal S8192x16384 .f32 :=
  mulf p (mulf (broadcastInDim S8192x16384 ![] bcast_S_S8192x16384 (constant S_ .f32 0x3F000000#32)) (addf
    (broadcastInDim S8192x16384 ![] bcast_S_S8192x16384 (constant S_ .f32 0x3F800000#32)) (Host.tanh (mulf
    (broadcastInDim S8192x16384 ![] bcast_S_S8192x16384 (constant S_ .f32 0x3F4C422A#32)) (addf p (mulf
    (broadcastInDim S8192x16384 ![] bcast_S_S8192x16384 (constant S_ .f32 0x3D372713#32)) (mulf (mulf p p)
    p)))))))

theorem acts_apply (R : Fin 8192) (n : Fin 16384) : acts p (ix2 R n) = gelu (p (ix2 R n)) := by
  rw [← gelu_eq]
  unfold acts
  pointwise

end

section
variable (h : FVec Ideal S8192x2048 .bf16) (s : FVec Ideal S16x128x8192 .f32) (tau a b z : FVec Ideal S8x8192 .f32)
  (u v : FVec Ideal S2x16384x2048 .f32)

/-- The experts' outputs: token, channel. -/
def experts : FVec Ideal S8192x2048 .f32 :=
  Host.dotGeneral dot_S8192x16384_S16384x2048_S8192x2048_1_0_0_1_n_n none (mulf (gates s tau a b z) (acts
    (hidden h u))) (shapeCast _ (extractStridedSlice S1x16384x2048 ![1, 0, 0] v
    slices_S2x16384x2048_S1x16384x2048_1_0_0) shapeCasts_S1x16384x2048_S16384x2048)

theorem experts_sum (R : Fin 8192) (d : Fin 2048) :
    experts h s tau a b z u v (ix2 R d)
      = ∑ n : Fin 16384, gates s tau a b z (ix2 R n) * acts (hidden h u) (ix2 R n) * v (ix3 1 n d) := by
  unfold experts
  pointwise

theorem experts_apply (hf : Finite s a b) (R : Fin 8192) (d : Fin 2048) :
    experts h s tau a b z u v (ix2 R d) = expertSum h s tau a b z u v R d := by
  rw [experts_sum]
  refine Finset.sum_congr rfl fun n _ => ?_
  rw [gates_apply _ _ _ _ _ hf, acts_apply, hidden_apply]
  exact mul_comm _ _

end

/-! ## The residual and the norm -/

section
variable (x : FVec Ideal S2x4096x2048 .f32) (md : FVec Ideal S2x2x12288 .f32) (y : FVec Ideal S8192x2048 .f32)
  (r : FVec Ideal S2x4096x2048 .f32) (g : FVec Ideal S2048 .f32)

/-- The residual with the gated experts added. -/
def residual : FVec Ideal S2x4096x2048 .f32 :=
  addf x (mulf (broadcastInDim S2x4096x2048 ![0, 1, 2] bcast_S2x1x2048_S2x4096x2048_0_1_2 (broadcastInDim
    S2x1x2048 ![0, 2] bcast_S2x2048_S2x1x2048_0_2 (shapeCast _ (extractStridedSlice S1x2x2048 ![1, 0, 10240] md
    slices_S2x2x12288_S1x2x2048_1_0_10240) shapeCasts_S1x2x2048_S2x2048))) (shapeCast _ y
    shapeCasts_S8192x2048_S2x4096x2048))

theorem residual_apply (i : Fin 2) (t : Fin 4096) (d : Fin 2048) :
    residual x md y (ix3 i t d)
      = x (ix3 i t d) + md (ix3 1 i ⟨10240 + d.val, by omega⟩) * y (ix2 ⟨i.val * 4096 + t.val, by omega⟩ d) := by
  unfold residual
  pointwise

/-- The last norm. -/
def normed : FVec Ideal S8192x2048 .f32 :=
  shapeCast _ (mulf (mulf r (broadcastInDim S2x4096x2048 ![0, 1, 2] bcast_S2x4096x1_S2x4096x2048_0_1_2
    (Host.rsqrt (addf (Host.divf (broadcastInDim S2x4096x1 ![0, 1] bcast_S2x4096_S2x4096x1_0_1 (Host.reduceAdd
    (mulf r r) (constant S_ .f32 0x00000000#32) reducesTo_S2x4096x2048_S2x4096_d2 h_S_)) (broadcastInDim
    S2x4096x1 ![] bcast_S_S2x4096x1 (constant S_ .f32 0x45000000#32))) (broadcastInDim S2x4096x1 ![]
    bcast_S_S2x4096x1 (constant S_ .f32 0x358637BD#32)))))) (broadcastInDim S2x4096x2048 ![0, 1, 2]
    bcast_S1x1x2048_S2x4096x2048_0_1_2 (broadcastInDim S1x1x2048 ![2] bcast_S2048_S1x1x2048_2 g)))
    shapeCasts_S2x4096x2048_S8192x2048

theorem normed_apply (R : Fin 8192) (d : Fin 2048) :
    normed r g (ix2 R d) = rms (Ideal.ofBits FTy.f32 1157627904#32)
      (fun k => r (ix3 (batch R.val R.isLt) (pos R.val) k)) (fun k => g (ix1 k)) d := by
  unfold normed rms
  pointwise
  rfl

end

section
variable (x : FVec Ideal S2x4096x2048 .f32) (md : FVec Ideal S2x2x12288 .f32) (h : FVec Ideal S8192x2048 .bf16)
  (s : FVec Ideal S16x128x8192 .f32) (tau a b z : FVec Ideal S8x8192 .f32) (u v : FVec Ideal S2x16384x2048 .f32)
  (g : FVec Ideal S2048 .f32)

theorem row_eq (R : Fin 8192) : (⟨R.val / 4096 * 4096 + R.val % 4096, by omega⟩ : Fin 8192) = R :=
  Fin.ext (by show R.val / 4096 * 4096 + R.val % 4096 = R.val; omega)

theorem result_apply (hf : Finite s a b) (R : Fin 8192) (d : Fin 2048) :
    normed (residual x md (experts h s tau a b z u v)) g (ix2 R d) = rms (Ideal.ofBits FTy.f32 1157627904#32)
      (fun k => x (ix3 (batch R.val R.isLt) (pos R.val) k)
        + md (ix3 1 (batch R.val R.isLt) ⟨10240 + k.val, by omega⟩) * expertSum h s tau a b z u v R k)
      (fun k => g (ix1 k)) d := by
  rw [normed_apply]
  refine congrArg (fun f => rms _ f _ _) (funext fun k => ?_)
  refine (residual_apply _ _ _ _ _ _).trans (congrArg _ (congrArg _ ?_))
  exact (congrArg (fun n => experts h s tau a b z u v (ix2 n k)) (row_eq R)).trans
    (experts_apply h s tau a b z u v hf R k)

theorem result_eq (hf : Finite s a b) :
    normed (residual x md (experts h s tau a b z u v)) g = Cert.Kernel5Ideal.Expert.value x md h s tau a b z u v g := by
  funext j
  unfold Cert.Kernel5Ideal.Expert.value
  idx_vars j
  exact result_apply x md h s tau a b z u v g hf _ _

end

/-- The result array of a run from memory `m`. -/
theorem res_eq (m : (ℓ : Loc nD τ sig) → Buf (Elt Ideal) ℓ) (c : Dev nD) :
    Value.res_main_v70 m c
      = normed (residual (m ((c.tc : Thread nD τ).loc main_arg0)) (m ((c.tc : Thread nD τ).loc main_arg1))
          (experts (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)))) (m ((c.tc : Thread nD τ).loc main_arg10)) := by
  unfold Value.res_main_v70 normed residual experts acts hidden gates pair half0 half1
  rfl

end Cert.Reference5Ideal.Expert

end
-- ==== Proof.Dilated.Tile.lean ====
module

public import proofs.«01_k».proof.Proof.Gen.Kernel6Ideal.Value
public import Idealize.ShloMosaic.Lib.Pipeline.ValueKit
public import Idealize.ShloMosaic.Lib.Pointwise

@[expose] public section

set_option maxRecDepth 16384

noncomputable section

namespace Cert.Kernel6Ideal.Dilated

open Idealize.ShloMosaic Idealize.ShloMosaic.TcCoe Idealize.ShloMosaic.Tactic
open Idealize.ShloMosaic.Pipeline (Dat)
open Cert.Kernel6Ideal Cert.Kernel6Ideal.Gen

/-- The logits of one head on one tile of queries, and −∞ outside the mask. -/
def logits (mask : IVec S128x256 1) (q : FVec Ideal S1x128x128 .bf16) (k : FVec Ideal S256x128 .bf16)
    (tz : FVec Ideal S1x128x256 .f32) : FVec Ideal S128x256 .f32 :=
  select mask
    (addf
      (mulf
        (matmul dot_S128x128_S256x128_S128x256_1_1_0_0_n_n none (shapeCast S128x128 q shapeCasts_S1x128x128_S128x128) k
          (constant S128x256 .f32 0x00000000#32))
        (broadcast S128x256 (Scalar.ofBits .f32 0x3DB504F3#32)))
      (shapeCast S128x256 tz shapeCasts_S1x128x256_S128x256))
    (broadcast S128x256 (Named.named κ "neg_inf" 0xF149F2CA#32))

/-- The largest logit of each row. -/
def tops (x : FVec Ideal S128x256 .f32) : FVec Ideal S128x1 .f32 :=
  shapeCast S128x1 (multiReduction .maximumf [1] S128 x 0xFF800000#32 reduces_S128x256_S128 (.inl rfl) rfl)
    shapeCasts_S128_S128x1

/-- The exponentials, before they are divided by their sum. -/
def exps (x : FVec Ideal S128x256 .f32) : FVec Ideal S128x256 .f32 :=
  exp (subf x (broadcastTo S128x256 (tops x) broadcasts_S128x1_S128x256))

/-- The sum of each row's exponentials. -/
def sums (x : FVec Ideal S128x256 .f32) : FVec Ideal S128x1 .f32 :=
  shapeCast S128x1 (multiReduction .add [1] S128 (exps x) 0x00000000#32 reduces_S128x256_S128 (.inl rfl) rfl)
    shapeCasts_S128_S128x1

/-- The attention's result for one head on one tile of queries. -/
def headOut (x : FVec Ideal S128x256 .f32) (v : FVec Ideal S256x128 .bf16) : FVec Ideal S1x128x128 .bf16 :=
  shapeCast S1x128x128
    (truncf .bf16
      (matmul dot_S128x256_S256x128_S128x128_1_0_0_1_n_n none
        (truncf .bf16 (divf (exps x) (broadcastTo S128x256 (sums x) broadcasts_S128x1_S128x256)) bitsLt_bf16_f32) v
        (constant S128x128 .f32 0x00000000#32)) bitsLt_bf16_f32)
    shapeCasts_S128x128_S1x128x128

/-- The logarithm of the row sums of one head, put in the head's lane over what the other lanes hold. -/
def lane (h : BitVec 32) (x : FVec Ideal S128x256 .f32) (rest : FVec Ideal S128x128 .f32) : FVec Ideal S128x128 .f32 :=
  select (cmpi .eq (iota .tc S128x128 32 [1] iota_S128x128_d1_w32) (broadcast S128x128 h))
    (broadcastTo S128x128 (shapeCast S128x1 (addf (tops x) (log (sums x))) shapeCasts_S128x1_S128x1) broadcasts_S128x1_S128x128)
    rest

theorem logits_apply (mask : IVec S128x256 1) (q : FVec Ideal S1x128x128 .bf16) (k : FVec Ideal S256x128 .bf16)
    (tz : FVec Ideal S1x128x256 .f32) (i : Fin 128) (j : Fin 256) :
    logits mask q k tz (ix2 i j)
      = if mask (ix2 i j) = 1#1
        then (∑ d, q (ix3 0 i d) * k (ix2 j d)) * Ideal.ofBits FTy.f32 0x3DB504F3#32 + tz (ix3 0 i j) else ⊥ := by
  unfold logits
  pointwise
  have hb : Named.named (F := Ideal) (φ := .f32) κ "neg_inf" 4048155338#32 = (⊥ : EReal) := rfl
  rw [hb]
  rfl

theorem tops_apply (x : FVec Ideal S128x256 .f32) (i : Fin 128) :
    tops x (ix2 i 0) = Finset.univ.sup fun j => x (ix2 i j) := by
  unfold tops
  pointwise
  show Finset.fold max (Ideal.ofBits FTy.f32 4286578688#32) _ _ = Finset.fold max ⊥ _ _
  congr 1

theorem exps_apply (x : FVec Ideal S128x256 .f32) (i : Fin 128) (j : Fin 256) :
    exps x (ix2 i j) = Ideal.exp (x (ix2 i j) - tops x (ix2 i 0)) := by
  unfold exps
  pointwise

theorem sums_apply (x : FVec Ideal S128x256 .f32) (i : Fin 128) :
    sums x (ix2 i 0) = ∑ j, exps x (ix2 i j) := by
  unfold sums
  pointwise

theorem headOut_apply (x : FVec Ideal S128x256 .f32) (v : FVec Ideal S256x128 .bf16) (i d : Fin 128) :
    headOut x v (ix3 0 i d) = ∑ j, Ideal.div (exps x (ix2 i j)) (sums x (ix2 i 0)) * v (ix2 j d) := by
  unfold headOut
  pointwise

theorem cmpi_eq_one (a b : BitVec 32) (x y : EReal) :
    Scalar.select (IntOp.cmpi CmpIPredicate.eq a b) x y = if a = b then x else y := by
  by_cases h : a = b
  · simp [Scalar.select, IntOp.cmpi, h]
  · have hf : (a == b) = false := beq_eq_false_iff_ne.mpr h
    simp [Scalar.select, IntOp.cmpi, h, hf]

theorem lane_apply (h : BitVec 32) (x : FVec Ideal S128x256 .f32) (rest : FVec Ideal S128x128 .f32) (i l : Fin 128) :
    lane h x rest (ix2 i l)
      = if BitVec.ofNat 32 l.val = h then (tops x (ix2 i 0) + Ideal.log (sums x (ix2 i 0)) : EReal) else rest (ix2 i l) := by
  unfold lane
  pointwise
  exact cmpi_eq_one _ _ _ _

/-! ## The same in plain terms -/

/-- The average of `v` with the softmax of `x` as weights. -/
def soft {ι : Type} [Fintype ι] (x v : ι → EReal) : EReal :=
  ∑ j, Ideal.div (Ideal.exp (x j - Finset.univ.sup x)) (∑ l, Ideal.exp (x l - Finset.univ.sup x)) * v j

/-- The logarithm of the sum of the exponentials of `x`. -/
def lse {ι : Type} [Fintype ι] (x : ι → EReal) : EReal :=
  Finset.univ.sup x + Ideal.log (∑ l, Ideal.exp (x l - Finset.univ.sup x))

theorem headOut_soft (x : FVec Ideal S128x256 .f32) (v : FVec Ideal S256x128 .bf16) (i d : Fin 128) :
    headOut x v (ix3 0 i d) = soft (fun j => x (ix2 i j)) (fun j => v (ix2 j d)) := by
  rw [headOut_apply, sums_apply]
  simp only [exps_apply, tops_apply]
  rfl

theorem lane_lse (h : BitVec 32) (x : FVec Ideal S128x256 .f32) (rest : FVec Ideal S128x128 .f32) (i l : Fin 128) :
    lane h x rest (ix2 i l)
      = if BitVec.ofNat 32 l.val = h then lse (fun j => x (ix2 i j)) else rest (ix2 i l) := by
  rw [lane_apply, sums_apply]
  simp only [exps_apply, tops_apply]
  rfl

/-- The logarithms of the six heads, one to a lane, and zeros in the other lanes. -/
def lanes (x0 x1 x2 x3 x4 x5 : FVec Ideal S128x256 .f32) : FVec Ideal S1x128x128 .f32 :=
  shapeCast S1x128x128
    (lane 5#32 x5 (lane 4#32 x4 (lane 3#32 x3 (lane 2#32 x2 (lane 1#32 x1 (lane 0#32 x0
      (broadcast S128x128 (Scalar.ofBits .f32 0x00000000#32))))))))
    shapeCasts_S128x128_S1x128x128

theorem lanes_apply (x0 x1 x2 x3 x4 x5 : FVec Ideal S128x256 .f32) (i l : Fin 128) :
    lanes x0 x1 x2 x3 x4 x5 (ix3 0 i l)
      = if h : l.val < 6 then lse (fun j => (![x0, x1, x2, x3, x4, x5] ⟨l.val, h⟩) (ix2 i j)) else 0 := by
  have e : ∀ n : ℕ, n < 6 → (BitVec.ofNat 32 l.val = BitVec.ofNat 32 n ↔ l.val = n) := by
    intro n hn
    have hl := l.isLt
    rw [← BitVec.toNat_inj, BitVec.toNat_ofNat, BitVec.toNat_ofNat]
    omega
  unfold lanes
  pointwise
  rw [lane_lse, lane_lse, lane_lse, lane_lse, lane_lse, lane_lse]
  rw [if_congr (e 0 (by omega)) rfl rfl, if_congr (e 1 (by omega)) rfl rfl, if_congr (e 2 (by omega)) rfl rfl,
    if_congr (e 3 (by omega)) rfl rfl, if_congr (e 4 (by omega)) rfl rfl, if_congr (e 5 (by omega)) rfl rfl]
  obtain ⟨l, hl⟩ := l
  by_cases h : l < 6
  · rw [dif_pos h]
    interval_cases l <;> rfl
  · rw [dif_neg h, if_neg (show ¬l = 5 by omega), if_neg (show ¬l = 4 by omega), if_neg (show ¬l = 3 by omega),
      if_neg (show ¬l = 2 by omega), if_neg (show ¬l = 1 by omega), if_neg (show ¬l = 0 by omega)]
    pointwise

/-! ## The masks -/

/-- Keys from 128 before the query to the query itself. -/
def band : IVec S128x256 1 :=
  andi
    (cmpi .sge (subi (addi (iota .tc S128x256 32 [0] iota_S128x256_d0_w32) (broadcast S128x256 128#32))
      (iota .tc S128x256 32 [1] iota_S128x256_d1_w32)) (broadcast S128x256 0#32))
    (cmpi .sle (subi (addi (iota .tc S128x256 32 [0] iota_S128x256_d0_w32) (broadcast S128x256 128#32))
      (iota .tc S128x256 32 [1] iota_S128x256_d1_w32)) (broadcast S128x256 128#32))

/-- The same at the first tile of a block, where block 0 has no keys before it. -/
def bandFirst (n : BitVec 32) : IVec S128x256 1 :=
  andi band
    (ori (cmpi .sge (iota .tc S128x256 32 [1] iota_S128x256_d1_w32) (broadcast S128x256 128#32))
      (broadcast S128x256 (Scalar.cmpi .sgt n 0#32)))

theorem and_iff (p q : BitVec 1) : IntOp.andi p q = 1#1 ↔ p = 1#1 ∧ q = 1#1 := by
  revert p q
  decide

theorem or_iff (p q : BitVec 1) : IntOp.ori p q = 1#1 ↔ p = 1#1 ∨ q = 1#1 := by
  revert p q
  decide

theorem bit_iff (b : Bool) : BitVec.ofBool b = 1#1 ↔ b = true := by
  revert b
  decide

theorem sge_iff (a b : BitVec 32) : IntOp.cmpi CmpIPredicate.sge a b = 1#1 ↔ b.toInt ≤ a.toInt := by
  show BitVec.ofBool (decide (b.toInt ≤ a.toInt)) = 1#1 ↔ _
  rw [bit_iff, decide_eq_true_eq]

theorem sle_iff (a b : BitVec 32) : IntOp.cmpi CmpIPredicate.sle a b = 1#1 ↔ a.toInt ≤ b.toInt := by
  show BitVec.ofBool (decide (a.toInt ≤ b.toInt)) = 1#1 ↔ _
  rw [bit_iff, decide_eq_true_eq]

theorem sgt_iff (a b : BitVec 32) : IntOp.cmpi CmpIPredicate.sgt a b = 1#1 ↔ b.toInt < a.toInt := by
  show BitVec.ofBool (decide (b.toInt < a.toInt)) = 1#1 ↔ _
  rw [bit_iff, decide_eq_true_eq]

theorem ofNat_toInt (n : ℕ) (h : n < 1024) : (BitVec.ofNat 32 n).toInt = n := by
  rw [BitVec.toInt_eq_toNat_cond, BitVec.toNat_ofNat]
  split <;> omega

theorem gap_toInt (i j : ℕ) (hi : i < 128) (hj : j < 256) :
    (BitVec.ofNat 32 i + 128#32 - BitVec.ofNat 32 j).toInt = i + 128 - j := by
  rw [BitVec.toInt_sub, BitVec.toInt_add, ofNat_toInt i (by omega), ofNat_toInt j (by omega),
    show (128#32).toInt = 128 from rfl, Int.bmod_def, Int.bmod_def]
  split <;> split <;> omega

theorem band_iff (i : Fin 128) (j : Fin 256) : band (ix2 i j) = 1#1 ↔ i.val ≤ j.val ∧ j.val ≤ i.val + 128 := by
  unfold band
  pointwise
  have g := gap_toInt i.val j.val i.isLt j.isLt
  rw [and_iff, sge_iff, sle_iff, show IntOp.subi (IntOp.addi (BitVec.ofNat 32 i.val) 128#32) (BitVec.ofNat 32 j.val)
    = BitVec.ofNat 32 i.val + 128#32 - BitVec.ofNat 32 j.val from rfl, g,
    show (0#32).toInt = 0 from rfl, show (128#32).toInt = 128 from rfl]
  omega

theorem bandFirst_iff (n : ℕ) (hn : n < 1024) (i : Fin 128) (j : Fin 256) :
    bandFirst (BitVec.ofNat 32 n) (ix2 i j) = 1#1 ↔ (i.val ≤ j.val ∧ j.val ≤ i.val + 128) ∧ (128 ≤ j.val ∨ 0 < n) := by
  rw [← band_iff]
  unfold bandFirst
  pointwise
  have g := ofNat_toInt j.val (by omega)
  have gn := ofNat_toInt n hn
  rw [and_iff, or_iff, sge_iff]
  refine and_congr_right fun _ => or_congr ?_ ?_
  · rw [g, show (128#32).toInt = 128 from rfl]
    omega
  · refine (sgt_iff _ _).trans ?_
    rw [gn, show (0#32).toInt = 0 from rfl]
    omega

end Cert.Kernel6Ideal.Dilated

end
-- ==== Proof.Dilated.Run.lean ====
module

public import proofs.«01_k».proof.Proof.Dilated.Tile
public import Idealize.ShloMosaic.Lib.Pipeline.ValueKit
public import Idealize.ShloMosaic.Lib.Pointwise

@[expose] public section

set_option maxRecDepth 16384

noncomputable section

namespace Cert.Kernel6Ideal.Dilated

open Idealize.ShloMosaic Idealize.ShloMosaic.TcCoe Idealize.ShloMosaic.Tactic
open Idealize.ShloMosaic.Pipeline (Dat)
open Cert.Kernel6Ideal Cert.Kernel6Ideal.Gen

/-- The rows of the tile before the block (`a`), then the rows of the block (`b`). -/
def stack (b : Vec Ideal S1x512x768 .bf16) (a : Vec Ideal S1x128x768 .bf16) : Vec Ideal S640x768 .bf16 :=
  fun y => if h : (y 0).val < 128 then a (ix3 0 ⟨(y 0).val, h⟩ (y 1))
    else b (ix3 0 ⟨(y 0).val - 128, by have h2 : (y 0).val < 640 := (y 0).isLt; omega⟩ (y 1))

/-- The two stores that fill a scratch array. -/
abbrev fills (b : Vec Ideal S1x512x768 .bf16) (a : Vec Ideal S1x128x768 .bf16) :
    List (View.Piece (Elt Ideal) S640x768 .bf16) :=
  [⟨Rect.unit ![128, 0] S512x768.size inb_S640x768_S512x768_128_0, k0_pay3 b⟩,
   ⟨Rect.unit ![0, 0] S128x768.size inb_S640x768_S128x768_0_0, k0_pay2 a⟩]

theorem fills_cover (b : Vec Ideal S1x512x768 .bf16) (a : Vec Ideal S1x128x768 .bf16) (y : S640x768.Idx) :
    ∃ p ∈ fills b a, y ∈ p.1.set := by
  have h0 : (y 0).val < 640 := (y 0).isLt
  have h1 : (y 1).val < 768 := (y 1).isLt
  by_cases h : (y 0).val < 128
  · refine ⟨⟨Rect.unit ![0, 0] S128x768.size inb_S640x768_S128x768_0_0, k0_pay2 a⟩,
      List.mem_cons_of_mem _ List.mem_cons_self, (Rect.mem_set_unit (inb := inb_S640x768_S128x768_0_0)).mpr fun x => ?_⟩
    fin_cases x
    · exact ⟨Nat.zero_le _, h⟩
    · exact ⟨Nat.zero_le _, by show (y 1).val < 0 + 768; omega⟩
  · refine ⟨⟨Rect.unit ![128, 0] S512x768.size inb_S640x768_S512x768_128_0, k0_pay3 b⟩,
      List.mem_cons_self, (Rect.mem_set_unit (inb := inb_S640x768_S512x768_128_0)).mpr fun x => ?_⟩
    fin_cases x
    · exact ⟨by show 128 ≤ (y 0).val; omega, by show (y 0).val < 128 + 512; omega⟩
    · exact ⟨Nat.zero_le _, by show (y 1).val < 0 + 768; omega⟩

theorem stack_eq (b : Vec Ideal S1x512x768 .bf16) (a : Vec Ideal S1x128x768 .bf16) :
    View.canon (fills b a) = stack b a := by
  funext y
  unfold stack
  canon_tiles z h using fills_cover b a y
  · open_payloads
    pointwise
    rw [dif_neg (by omega)]
    exact congrArg b (congr_arg₂ (fun p q => ix3 (n0 := 1) (n1 := 512) (n2 := 768) 0 p q)
      (Fin.ext (by show (z 0).val = (y 0).val - 128; omega)) (Fin.ext (by omega)))
  · open_payloads
    pointwise
    rw [dif_pos (by omega)]
    exact congrArg a (congr_arg₂ (fun p q => ix3 (n0 := 1) (n1 := 128) (n2 := 768) 0 p q)
      (Fin.ext (by show (z 0).val = (y 0).val; omega)) (Fin.ext (by omega)))

theorem stored0 (L : List (View.Piece (Elt Ideal) S640x768 .bf16)) (r : Rect S640x768) :
    (View.whole cc0_scratch0).readCov L r.toLoadRect = View.ld (View.canon L) r :=
  View.readCov_eq_canon' (View.whole cc0_scratch0) L r.toLoadRect

theorem stored1 (L : List (View.Piece (Elt Ideal) S640x768 .bf16)) (r : Rect S640x768) :
    (View.whole cc0_scratch1).readCov L r.toLoadRect = View.ld (View.canon L) r :=
  View.readCov_eq_canon' (View.whole cc0_scratch1) L r.toLoadRect

/-- Query `r` of a block sees key `j` of the 256 of its tile: from 128 before it to itself, none before the first block. -/
def sees (n : ℕ) (r : ℕ) (j : ℕ) : Prop := (r % 128 ≤ j ∧ j ≤ r % 128 + 128) ∧ (128 ≤ r ∨ 128 ≤ j ∨ 0 < n)

instance (n r j : ℕ) : Decidable (sees n r j) := by unfold sees; infer_instance

section
variable (n : ℕ) (q : Vec Ideal S1x512x768 .bf16) (kk vv : Vec Ideal S640x768 .bf16) (tz : Vec Ideal S6x128x256 .f32)

/-- The logits of query `r` of a block and head `h` for the 256 keys of its tile. -/
def rowLogits (r : Fin 512) (h : Fin 6) (j : Fin 256) : EReal :=
  if sees n r.val j.val then
    (∑ d : Fin 128, q (ix3 0 r ⟨128 * h.val + d.val, by omega⟩)
        * kk (ix2 ⟨128 * (r.val / 128) + j.val, by omega⟩ ⟨128 * h.val + d.val, by omega⟩))
      * Ideal.ofBits FTy.f32 0x3DB504F3#32 + tz (ix3 h ⟨r.val % 128, by omega⟩ j)
  else ⊥

/-- A block of the attention's result. -/
def blockOut : Vec Ideal S1x512x768 .bf16 := fun y =>
  have h1 : (y 1).val < 512 := (y 1).isLt
  have h2 : (y 2).val < 768 := (y 2).isLt
  soft (rowLogits n q kk tz (y 1) ⟨(y 2).val / 128, by omega⟩)
    (fun j : Fin 256 => vv (ix2 ⟨128 * ((y 1).val / 128) + j.val, by omega⟩ (y 2)))

/-- A block of the logarithms. -/
def blockLse : Vec Ideal S1x512x128 .f32 := fun y =>
  if h : (y 2).val < 6 then lse (rowLogits n q kk tz (y 1) ⟨(y 2).val, h⟩) else 0

/-- The logits of one head on one tile, read from the block's arrays. -/
theorem logits_row (mask : IVec S128x256 1) (o1 o2 oh : ℕ)
    (pq : ∀ a, (![0, o1, o2] : Fin 3 → ℕ) a + S1x128x128.size a ≤ S1x512x768.size a)
    (pk : ∀ a, (![o1, o2] : Fin 2 → ℕ) a + S256x128.size a ≤ S640x768.size a)
    (pt : ∀ a, (![oh, 0, 0] : Fin 3 → ℕ) a + S1x128x256.size a ≤ S6x128x256.size a)
    (h0 : o1 % 128 = 0) (h2 : o2 = 128 * oh) (r : Fin 512) (h : Fin 6) (i : Fin 128) (j : Fin 256)
    (hr : r.val = o1 + i.val) (hh : h.val = oh) (hm : mask (ix2 i j) = 1#1 ↔ sees n r.val j.val) :
    logits mask (View.ld q (Rect.unit (s := S1x512x768) ![0, o1, o2] S1x128x128.size pq))
        (View.ld kk (Rect.unit (s := S640x768) ![o1, o2] S256x128.size pk))
        (View.ld tz (Rect.unit (s := S6x128x256) ![oh, 0, 0] S1x128x256.size pt)) (ix2 i j)
      = rowLogits n q kk tz r h j := by
  rw [logits_apply]
  unfold rowLogits
  by_cases hs : sees n r.val j.val
  · rw [if_pos (hm.mpr hs), if_pos hs]
    refine congr_arg₂ (fun a b : EReal => a * Ideal.ofBits FTy.f32 0x3DB504F3#32 + b)
      (Finset.sum_congr rfl fun d _ => congr_arg₂ (fun a b : EReal => a * b) ?_ ?_) ?_
    · refine View.ld_unit_apply_of q _ _ pq _ _ fun a => ?_
      fin_cases a
      · rfl
      · exact hr
      · show 128 * h.val + d.val = o2 + d.val
        omega
    · refine View.ld_unit_apply_of kk _ _ pk _ _ fun a => ?_
      fin_cases a
      · show 128 * (r.val / 128) + j.val = o1 + j.val
        omega
      · show 128 * h.val + d.val = o2 + d.val
        omega
    · refine View.ld_unit_apply_of tz _ _ pt _ _ fun a => ?_
      fin_cases a
      · show h.val = oh + 0
        omega
      · show r.val % 128 = 0 + i.val
        omega
      · show j.val = 0 + j.val
        omega
  · rw [if_neg (fun e => hs (hm.mp e)), if_neg hs]

/-- The result of one head on one tile is the block's part there. -/
theorem tile_out (mask : IVec S128x256 1) (o1 o2 oh : ℕ)
    (pq : ∀ a, (![0, o1, o2] : Fin 3 → ℕ) a + S1x128x128.size a ≤ S1x512x768.size a)
    (pk : ∀ a, (![o1, o2] : Fin 2 → ℕ) a + S256x128.size a ≤ S640x768.size a)
    (pt : ∀ a, (![oh, 0, 0] : Fin 3 → ℕ) a + S1x128x256.size a ≤ S6x128x256.size a)
    (y : S1x512x768.Idx) (z : S1x128x128.Idx)
    (h0 : o1 % 128 = 0) (h2 : o2 = 128 * oh) (hr : (y 1).val = o1 + (z 1).val) (hd : (y 2).val = o2 + (z 2).val)
    (hm : ∀ j, mask (ix2 (n0 := 128) (n1 := 256) (z 1) j) = 1#1 ↔ sees n (y 1).val j.val) :
    headOut (logits mask (View.ld q (Rect.unit (s := S1x512x768) ![0, o1, o2] S1x128x128.size pq))
        (View.ld kk (Rect.unit (s := S640x768) ![o1, o2] S256x128.size pk))
        (View.ld tz (Rect.unit (s := S6x128x256) ![oh, 0, 0] S1x128x256.size pt)))
        (View.ld vv (Rect.unit (s := S640x768) ![o1, o2] S256x128.size pk)) z
      = blockOut n q kk vv tz y := by
  have hz : z = ix3 (n0 := 1) (n1 := 128) (n2 := 128) 0 (z 1) (z 2) := by
    funext a
    fin_cases a
    · exact Subsingleton.elim (α := Fin 1) _ _
    · rfl
    · rfl
  have z2 : (z 2).val < 128 := (z 2).isLt
  have y1 : (y 1).val < 512 := (y 1).isLt
  have y2 : (y 2).val < 768 := (y 2).isLt
  refine (congrArg _ hz).trans ((headOut_soft _ _ (z 1) (z 2)).trans ?_)
  unfold blockOut
  refine congr_arg₂ soft (funext fun j => ?_) (funext fun j => ?_)
  · exact logits_row n q kk tz mask o1 o2 oh pq pk pt h0 h2 (y 1) ⟨(y 2).val / 128, by omega⟩ (z 1) j hr
      (by show (y 2).val / 128 = oh; omega) (hm j)
  · refine View.ld_unit_apply_of vv _ _ pk _ _ fun a => ?_
    fin_cases a
    · show 128 * ((y 1).val / 128) + j.val = o1 + j.val
      have : (z 1).val < 128 := (z 1).isLt
      omega
    · exact hd

/-- The logarithms of the six heads on one tile are the block's part there. -/
theorem tile_lse (mask : IVec S128x256 1) (o1 : ℕ)
    (q0 : ∀ a, (![0, o1, 0] : Fin 3 → ℕ) a + S1x128x128.size a ≤ S1x512x768.size a)
    (q1 : ∀ a, (![0, o1, 128] : Fin 3 → ℕ) a + S1x128x128.size a ≤ S1x512x768.size a)
    (q2 : ∀ a, (![0, o1, 256] : Fin 3 → ℕ) a + S1x128x128.size a ≤ S1x512x768.size a)
    (q3 : ∀ a, (![0, o1, 384] : Fin 3 → ℕ) a + S1x128x128.size a ≤ S1x512x768.size a)
    (q4 : ∀ a, (![0, o1, 512] : Fin 3 → ℕ) a + S1x128x128.size a ≤ S1x512x768.size a)
    (q5 : ∀ a, (![0, o1, 640] : Fin 3 → ℕ) a + S1x128x128.size a ≤ S1x512x768.size a)
    (k0 : ∀ a, (![o1, 0] : Fin 2 → ℕ) a + S256x128.size a ≤ S640x768.size a)
    (k1 : ∀ a, (![o1, 128] : Fin 2 → ℕ) a + S256x128.size a ≤ S640x768.size a)
    (k2 : ∀ a, (![o1, 256] : Fin 2 → ℕ) a + S256x128.size a ≤ S640x768.size a)
    (k3 : ∀ a, (![o1, 384] : Fin 2 → ℕ) a + S256x128.size a ≤ S640x768.size a)
    (k4 : ∀ a, (![o1, 512] : Fin 2 → ℕ) a + S256x128.size a ≤ S640x768.size a)
    (k5 : ∀ a, (![o1, 640] : Fin 2 → ℕ) a + S256x128.size a ≤ S640x768.size a)
    (t0 : ∀ a, (![0, 0, 0] : Fin 3 → ℕ) a + S1x128x256.size a ≤ S6x128x256.size a)
    (t1 : ∀ a, (![1, 0, 0] : Fin 3 → ℕ) a + S1x128x256.size a ≤ S6x128x256.size a)
    (t2 : ∀ a, (![2, 0, 0] : Fin 3 → ℕ) a + S1x128x256.size a ≤ S6x128x256.size a)
    (t3 : ∀ a, (![3, 0, 0] : Fin 3 → ℕ) a + S1x128x256.size a ≤ S6x128x256.size a)
    (t4 : ∀ a, (![4, 0, 0] : Fin 3 → ℕ) a + S1x128x256.size a ≤ S6x128x256.size a)
    (t5 : ∀ a, (![5, 0, 0] : Fin 3 → ℕ) a + S1x128x256.size a ≤ S6x128x256.size a)
    (y : S1x512x128.Idx) (z : S1x128x128.Idx)
    (h0 : o1 % 128 = 0) (hr : (y 1).val = o1 + (z 1).val) (hd : (y 2).val = (z 2).val)
    (hm : ∀ j, mask (ix2 (n0 := 128) (n1 := 256) (z 1) j) = 1#1 ↔ sees n (y 1).val j.val) :
    lanes
        (logits mask (View.ld q (Rect.unit (s := S1x512x768) ![0, o1, 0] S1x128x128.size q0))
          (View.ld kk (Rect.unit (s := S640x768) ![o1, 0] S256x128.size k0))
          (View.ld tz (Rect.unit (s := S6x128x256) ![0, 0, 0] S1x128x256.size t0)))
        (logits mask (View.ld q (Rect.unit (s := S1x512x768) ![0, o1, 128] S1x128x128.size q1))
          (View.ld kk (Rect.unit (s := S640x768) ![o1, 128] S256x128.size k1))
          (View.ld tz (Rect.unit (s := S6x128x256) ![1, 0, 0] S1x128x256.size t1)))
        (logits mask (View.ld q (Rect.unit (s := S1x512x768) ![0, o1, 256] S1x128x128.size q2))
          (View.ld kk (Rect.unit (s := S640x768) ![o1, 256] S256x128.size k2))
          (View.ld tz (Rect.unit (s := S6x128x256) ![2, 0, 0] S1x128x256.size t2)))
        (logits mask (View.ld q (Rect.unit (s := S1x512x768) ![0, o1, 384] S1x128x128.size q3))
          (View.ld kk (Rect.unit (s := S640x768) ![o1, 384] S256x128.size k3))
          (View.ld tz (Rect.unit (s := S6x128x256) ![3, 0, 0] S1x128x256.size t3)))
        (logits mask (View.ld q (Rect.unit (s := S1x512x768) ![0, o1, 512] S1x128x128.size q4))
          (View.ld kk (Rect.unit (s := S640x768) ![o1, 512] S256x128.size k4))
          (View.ld tz (Rect.unit (s := S6x128x256) ![4, 0, 0] S1x128x256.size t4)))
        (logits mask (View.ld q (Rect.unit (s := S1x512x768) ![0, o1, 640] S1x128x128.size q5))
          (View.ld kk (Rect.unit (s := S640x768) ![o1, 640] S256x128.size k5))
          (View.ld tz (Rect.unit (s := S6x128x256) ![5, 0, 0] S1x128x256.size t5))) z
      = blockLse n q kk tz y := by
  have hz : z = ix3 (n0 := 1) (n1 := 128) (n2 := 128) 0 (z 1) (z 2) := by
    funext a
    fin_cases a
    · exact Subsingleton.elim (α := Fin 1) _ _
    · rfl
    · rfl
  refine (congrArg _ hz).trans ((lanes_apply _ _ _ _ _ _ (z 1) (z 2)).trans ?_)
  unfold blockLse
  by_cases hl : (z 2).val < 6
  · rw [dif_pos hl, dif_pos (hd ▸ hl)]
    refine congrArg lse (funext fun j => ?_)
    have e : (⟨(y 2).val, hd ▸ hl⟩ : Fin 6) = ⟨(z 2).val, hl⟩ := Fin.ext hd
    rw [e]
    generalize (⟨(z 2).val, hl⟩ : Fin 6) = h
    fin_cases h
    · exact logits_row n q kk tz mask o1 0 0 q0 k0 t0 h0 rfl (y 1) 0 (z 1) j hr rfl (hm j)
    · exact logits_row n q kk tz mask o1 128 1 q1 k1 t1 h0 rfl (y 1) 1 (z 1) j hr rfl (hm j)
    · exact logits_row n q kk tz mask o1 256 2 q2 k2 t2 h0 rfl (y 1) 2 (z 1) j hr rfl (hm j)
    · exact logits_row n q kk tz mask o1 384 3 q3 k3 t3 h0 rfl (y 1) 3 (z 1) j hr rfl (hm j)
    · exact logits_row n q kk tz mask o1 512 4 q4 k4 t4 h0 rfl (y 1) 4 (z 1) j hr rfl (hm j)
    · exact logits_row n q kk tz mask o1 640 5 q5 k5 t5 h0 rfl (y 1) 5 (z 1) j hr rfl (hm j)
  · rw [dif_neg hl, dif_neg (hd ▸ hl)]

theorem sees_band (r : ℕ) (i : Fin 128) (j : Fin 256) (hr : r % 128 = i.val) (h : 128 ≤ r) :
    band (ix2 i j) = 1#1 ↔ sees n r j.val := by
  rw [band_iff]
  unfold sees
  rw [hr]
  exact ⟨fun e => ⟨e, .inl h⟩, fun e => e.1⟩

theorem sees_first (hn : n < 1024) (r : ℕ) (i : Fin 128) (j : Fin 256) (hr : r = i.val) :
    bandFirst (BitVec.ofNat 32 n) (ix2 i j) = 1#1 ↔ sees n r j.val := by
  rw [bandFirst_iff n hn]
  unfold sees
  have := i.isLt
  rw [hr, Nat.mod_eq_of_lt this]
  refine and_congr_right fun _ => ⟨.inr, fun e => e.resolve_left (by omega)⟩

end

end Cert.Kernel6Ideal.Dilated

end
-- ==== Proof.Dilated.Block.lean ====
module

public import proofs.«01_k».proof.Proof.Dilated.Run
public import Idealize.ShloMosaic.Lib.Pipeline.ValueKit
public import Idealize.ShloMosaic.Lib.Pointwise

@[expose] public section

set_option maxRecDepth 16384

noncomputable section

namespace Cert.Kernel6Ideal.Dilated

open Idealize.ShloMosaic Idealize.ShloMosaic.TcCoe Idealize.ShloMosaic.Tactic
open Idealize.ShloMosaic.Pipeline (Dat)
open Cert.Kernel6Ideal Cert.Kernel6Ideal.Gen

variable (m : (ℓ : Loc nD τ sig) → Buf (Elt Ideal) ℓ) (c : Dev nD)

theorem coord_lt (t : Fin cfg0.N) : (grid0.coords t 2).val < 1024 :=
  lt_of_lt_of_le (grid0.coords t 2).isLt (by decide)

set_option maxHeartbeats 4000000 in
theorem block_out (t : Fin cfg0.N) :
    (outsAt0 m c t).1 = blockOut (grid0.coords t 2).val (iblk m c 0 t) (stack (iblk m c 1 t) (iblk m c 2 t))
      (stack (iblk m c 3 t) (iblk m c 4 t)) (iblk m c 5 t) := by
  have ek := stack_eq (iblk m c 1 t) (iblk m c 2 t)
  have ev := stack_eq (iblk m c 3 t) (iblk m c 4 t)
  unfold fills k0_pay3 k0_pay2 at ek ev
  dsimp only at ek ev
  unfold outsAt0
  dsimp only
  frame_out
  simp only [stored0, stored1]
  simp only [ek, ev]
  generalize stack (iblk m c 1 t) (iblk m c 2 t) = kk
  generalize stack (iblk m c 3 t) (iblk m c 4 t) = vv
  generalize iblk m c 0 t = q
  generalize iblk m c 5 t = tz
  funext y
  canon_tiles z h
  all_goals
    open_payloads
    first
    | have h128 : 128 ≤ (y 1).val := by omega
      exact tile_out _ _ _ _ _ band _ _ _ _ _ _ y z (by rfl) (by rfl) (by omega) (by omega)
        fun j => sees_band _ _ _ _ (by omega) h128
    | exact tile_out _ _ _ _ _ (bandFirst (BitVec.ofNat 32 (grid0.coords t 2).val)) _ _ _ _ _ _ y z (by rfl) (by rfl) (by omega) (by omega)
        fun j => sees_first _ (coord_lt t) _ _ _ (by omega)

set_option maxHeartbeats 4000000 in
theorem block_lse (t : Fin cfg0.N) :
    (outsAt0 m c t).2 = blockLse (grid0.coords t 2).val (iblk m c 0 t) (stack (iblk m c 1 t) (iblk m c 2 t))
      (iblk m c 5 t) := by
  have ek := stack_eq (iblk m c 1 t) (iblk m c 2 t)
  have ev := stack_eq (iblk m c 3 t) (iblk m c 4 t)
  unfold fills k0_pay3 k0_pay2 at ek ev
  dsimp only at ek ev
  unfold outsAt0
  dsimp only
  frame_out
  simp only [stored0, stored1]
  simp only [ek, ev]
  generalize stack (iblk m c 1 t) (iblk m c 2 t) = kk
  generalize iblk m c 0 t = q
  generalize iblk m c 5 t = tz
  funext y
  canon_tiles z h
  all_goals
    open_payloads
    first
    | have h128 : 128 ≤ (y 1).val := by omega
      exact tile_lse _ _ _ _ band _ _ _ _ _ _ _ _ _ _ _ _ _ _ _ _ _ _ _ y z (by rfl) (by omega) (by omega)
        fun j => sees_band _ _ _ _ (by omega) h128
    | exact tile_lse _ _ _ _ (bandFirst (BitVec.ofNat 32 (grid0.coords t 2).val)) _ _ _ _ _ _ _ _ _ _ _ _ _ _ _ _ _ _ _ y z (by rfl) (by omega) (by omega)
        fun j => sees_first _ (coord_lt t) _ _ _ (by omega)

end Cert.Kernel6Ideal.Dilated

end
-- ==== Proof.Dilated.Value.lean ====
/-
  Dilated attention token by token: a query sees the 129 tokens at the distances `4 n` before it. A softmax does not
  change when keys of logit `-∞` are added.
-/
module

public import proofs.«01_k».proof.Proof.Dilated.Run

@[expose] public section

set_option maxRecDepth 16384

noncomputable section

namespace Cert.Kernel6Ideal.Dilated

open Idealize.ShloMosaic Idealize.ShloMosaic.TcCoe Idealize.ShloMosaic.Tactic
open Cert.Kernel6Ideal Cert.Kernel6Ideal.Gen

/-! ## The value -/

/-- The bucket of the distance `4 n`, a row of the bias table. -/
def bucket (n : Fin 129) : Fin 32 := ⟨min (lit0 ⟨127 + n.val, by omega⟩).toInt.toNat (32 - 1), by omega⟩

section
variable (z : FVec Ideal S2x4096x5376 .bf16) (w : FVec Ideal S32x6 .f32)

/-- The logit of the query at token `t` for the token `4 n` before it: `-∞` when that lies before the sequence. -/
def logit (b : Fin 2) (t : Fin 4096) (h : Fin 6) (n : Fin 129) : EReal :=
  if 4 * n.val ≤ t.val then
    (∑ d : Fin 128, z (ix3 b t ⟨1536 + (128 * h.val + d.val), by omega⟩)
        * z (ix3 b ⟨t.val - 4 * n.val, by omega⟩ ⟨2304 + (128 * h.val + d.val), by omega⟩))
      * Ideal.ofBits FTy.f32 0x3DB504F3#32 + w (ix2 (bucket n) h)
  else ⊥

/-- Component `k` of the attention's result at token `t`; its head is `k / 128`. -/
def attn (b : Fin 2) (t : Fin 4096) (k : Fin 768) : EReal :=
  soft (logit z w b t ⟨k.val / 128, by omega⟩)
    (fun n => z (ix3 b ⟨t.val - 4 * n.val, by omega⟩ ⟨3072 + k.val, by omega⟩))

/-- The attention's result, four tokens to a row. -/
def outValue : Vec Ideal S2x1024x3072 .bf16 := fun y =>
  have h1 : (y 1).val < 1024 := (y 1).isLt
  have h2 : (y 2).val < 3072 := (y 2).isLt
  attn z w (y 0) ⟨4 * (y 1).val + (y 2).val / 768, by omega⟩ ⟨(y 2).val % 768, by omega⟩

/-- The logarithms, four tokens to a row, six heads of the 128 lanes of a token. -/
def lseValue : Vec Ideal S2x1024x512 .f32 := fun y =>
  have h1 : (y 1).val < 1024 := (y 1).isLt
  have h2 : (y 2).val < 512 := (y 2).isLt
  if h : (y 2).val % 128 < 6 then
    lse (logit z w (y 0) ⟨4 * (y 1).val + (y 2).val / 128, by omega⟩ ⟨(y 2).val % 128, h⟩) else 0

/-! ## Finite inputs give finite logits -/

/-- An extended real that is a real number. -/
def Real' (x : EReal) : Prop := ⊥ < x ∧ x < ⊤

theorem Real'.mul {x y : EReal} (hx : Real' x) (hy : Real' y) : Real' (x * y) := by
  obtain ⟨a, rfl⟩ : ∃ a : ℝ, (a : EReal) = x := ⟨x.toReal, EReal.coe_toReal hx.2.ne hx.1.ne'⟩
  obtain ⟨b, rfl⟩ : ∃ b : ℝ, (b : EReal) = y := ⟨y.toReal, EReal.coe_toReal hy.2.ne hy.1.ne'⟩
  rw [← EReal.coe_mul]
  exact ⟨EReal.bot_lt_coe _, EReal.coe_lt_top _⟩

theorem Real'.add {x y : EReal} (hx : Real' x) (hy : Real' y) : Real' (x + y) := by
  obtain ⟨a, rfl⟩ : ∃ a : ℝ, (a : EReal) = x := ⟨x.toReal, EReal.coe_toReal hx.2.ne hx.1.ne'⟩
  obtain ⟨b, rfl⟩ : ∃ b : ℝ, (b : EReal) = y := ⟨y.toReal, EReal.coe_toReal hy.2.ne hy.1.ne'⟩
  rw [← EReal.coe_add]
  exact ⟨EReal.bot_lt_coe _, EReal.coe_lt_top _⟩

theorem Real'.sum {ι : Type} (s : Finset ι) (f : ι → EReal) (h : ∀ i ∈ s, Real' (f i)) : Real' (∑ i ∈ s, f i) :=
  Finset.sum_induction f Real' (fun _ _ => Real'.add) ⟨EReal.bot_lt_coe 0, EReal.coe_lt_top 0⟩ h

theorem scale_real : Real' (Ideal.ofBits FTy.f32 0x3DB504F3#32) := by
  obtain ⟨r, hr⟩ : ∃ r : ℝ, Ideal.ofBits FTy.f32 0x3DB504F3#32 = (r : EReal) := by
    simp [Ideal.ofBits, Ideal.ieee, -EReal.coe_mul]
  rw [hr]
  exact ⟨EReal.bot_lt_coe _, EReal.coe_lt_top _⟩

/-- What the precondition says. -/
def Finite : Prop :=
  (∀ (b : Fin 2) (t : Fin 4096) (k : Fin 5376), Real' (z (ix3 b t k))) ∧ ∀ (p : Fin 32) (h : Fin 6), Real' (w (ix2 p h))

theorem logit_real (hf : Finite z w) (b : Fin 2) (t : Fin 4096) (h : Fin 6) (n : Fin 129) (hn : 4 * n.val ≤ t.val) :
    Real' (logit z w b t h n) := by
  unfold logit
  rw [if_pos hn]
  exact (((Real'.sum _ _ fun d _ => (hf.1 _ _ _).mul (hf.1 _ _ _)).mul scale_real).add (hf.2 _ _))

theorem logit_top (hf : Finite z w) (b : Fin 2) (t : Fin 4096) (h : Fin 6) (n : Fin 129) : logit z w b t h n ≠ ⊤ := by
  by_cases hn : 4 * n.val ≤ t.val
  · exact (logit_real z w hf b t h n hn).2.ne
  · unfold logit
    rw [if_neg hn]
    exact bot_ne_top

theorem logit_self (hf : Finite z w) (b : Fin 2) (t : Fin 4096) (h : Fin 6) : logit z w b t h 0 ≠ ⊥ :=
  (logit_real z w hf b t h 0 (Nat.zero_le _)).1.ne'

end

/-! ## Keys of logit `-∞` -/

theorem exp_nonneg (x : EReal) : 0 ≤ Ideal.exp x := by
  induction x using EReal.rec with
  | bot => exact le_refl _
  | coe r => rw [Ideal.exp_coe]; exact EReal.coe_nonneg.mpr (Real.exp_pos r).le
  | top => exact le_top

theorem exp_bot_sub (s : EReal) : Ideal.exp (⊥ - s) = 0 := by
  rw [sub_eq_add_neg, EReal.bot_add]
  rfl

section
variable {x v : Fin 256 → EReal} {x' v' : Fin 129 → EReal} (e : Fin 129 → Fin 256)

theorem sup_reindex (hx : ∀ n, x (e n) = x' n) (h0 : ∀ j, (∀ n, e n ≠ j) → x j = ⊥) :
    Finset.univ.sup x = Finset.univ.sup x' := by
  refine le_antisymm (Finset.sup_le fun j _ => ?_) (Finset.sup_le fun n _ => ?_)
  · by_cases hj : ∃ n, e n = j
    · obtain ⟨n, rfl⟩ := hj
      rw [hx]
      exact Finset.le_sup (Finset.mem_univ n)
    · rw [h0 j fun n hn => hj ⟨n, hn⟩]
      exact bot_le
  · rw [← hx]
    exact Finset.le_sup (f := x) (Finset.mem_univ (e n))

/-- The sum of the exponentials. -/
def total {ι : Type} [Fintype ι] (x : ι → EReal) : EReal := ∑ l, Ideal.exp (x l - Finset.univ.sup x)

theorem total_reindex (he : Function.Injective e) (hx : ∀ n, x (e n) = x' n) (h0 : ∀ j, (∀ n, e n ≠ j) → x j = ⊥) :
    total x = total x' := by
  unfold total
  rw [sup_reindex e hx h0]
  refine (Fintype.sum_of_injective e he _ _ (fun j hj => ?_) (fun n => ?_)).symm
  · rw [h0 j fun n hn => hj ⟨n, hn⟩]
    exact exp_bot_sub _
  · rw [hx]

theorem total_pos (hb : ∃ n, x' n ≠ ⊥) (ht : ∀ n, x' n ≠ ⊤) : total x' ≠ 0 := by
  obtain ⟨n, -, hn⟩ := Finset.exists_mem_eq_sup Finset.univ ⟨0, Finset.mem_univ _⟩ x'
  have hs : x' n ≠ ⊥ := by
    obtain ⟨k, hk⟩ := hb
    intro h
    rw [← hn] at h
    exact hk (le_bot_iff.mp (h ▸ Finset.le_sup (f := x') (Finset.mem_univ k)))
  have h1 : Ideal.exp (x' n - Finset.univ.sup x') = 1 := by
    rw [hn]
    obtain ⟨a, ha⟩ : ∃ a : ℝ, (a : EReal) = x' n := ⟨(x' n).toReal, EReal.coe_toReal (ht n) hs⟩
    rw [← ha, ← EReal.coe_sub, sub_self, Ideal.exp_coe, Real.exp_zero]
    rfl
  have h2 : Ideal.exp (x' n - Finset.univ.sup x') ≤ total x' :=
    Finset.single_le_sum (f := fun l => Ideal.exp (x' l - Finset.univ.sup x')) (fun l _ => exp_nonneg _) (Finset.mem_univ n)
  rw [h1] at h2
  exact (lt_of_lt_of_le zero_lt_one h2).ne'

theorem div_zero_num {s : EReal} (hs : s ≠ 0) : Ideal.div 0 s = 0 := by
  unfold Ideal.div
  rw [if_neg hs, zero_mul]

theorem lse_reindex (he : Function.Injective e) (hx : ∀ n, x (e n) = x' n) (h0 : ∀ j, (∀ n, e n ≠ j) → x j = ⊥) :
    lse x = lse x' := by
  have ht := total_reindex e he hx h0
  unfold total at ht
  unfold lse
  rw [ht, sup_reindex e hx h0]

theorem soft_reindex (he : Function.Injective e) (hx : ∀ n, x (e n) = x' n) (h0 : ∀ j, (∀ n, e n ≠ j) → x j = ⊥)
    (hv : ∀ n, x' n ≠ ⊥ → v (e n) = v' n) (hb : ∃ n, x' n ≠ ⊥) (ht : ∀ n, x' n ≠ ⊤) : soft x v = soft x' v' := by
  have hp := total_pos hb ht
  have hs := total_reindex e he hx h0
  unfold total at hp hs
  unfold soft
  rw [hs, sup_reindex e hx h0]
  refine (Fintype.sum_of_injective e he _ _ (fun j hj => ?_) (fun n => ?_)).symm
  · rw [h0 j fun n hn => hj ⟨n, hn⟩, exp_bot_sub, div_zero_num hp, zero_mul]
  · rw [hx]
    by_cases hn : x' n = ⊥
    · rw [hn, exp_bot_sub, div_zero_num hp, zero_mul, zero_mul]
    · rw [hv n hn]

end

end Cert.Kernel6Ideal.Dilated

end
-- ==== Proof.Dilated.Gather.lean ====
/-
  Reading a table by integer rows: one row of a matrix, and one token of an array of heads.
-/
module

public import Idealize.ShloMosaic.Lib.Pointwise
public import Idealize.ShloMosaic.Lib.ValueIdxCore

@[expose] public section

noncomputable section

namespace Cert.Dilated

open Idealize.ShloMosaic Idealize.ShloMosaic.TcCoe Idealize.ShloMosaic.Tactic

section
variable {s si t : Shape} (d : GatherDims s si t) (j : t.Idx) (idx : IVec si 32) (a : Fin s.rank)

theorem start_of (ha : a ∈ d.startIndexMap) : d.start j idx a
    = min (idx (d.siIdx j ⟨d.startIndexMap.idxOf a, List.idxOf_lt_length_iff.2 ha⟩)).toInt.toNat (s.size a - d.sliceSizes a) := by
  unfold GatherDims.start
  rw [dif_pos ha]

theorem start_none (ha : a ∉ d.startIndexMap) : d.start j idx a = 0 := by
  unfold GatherDims.start
  rw [dif_neg ha]

theorem off_of (ha : a ∈ d.sKept) : d.offCoord j a
    = (j (d.offsetDims[d.sKept.idxOf a]'(by rw [d.offset_length]; exact List.idxOf_lt_length_iff.2 ha))).val := by
  unfold GatherDims.offCoord
  rw [dif_pos ha]

end

section
variable {N R C : ℕ} (wf : GatherDims.WF ⟨2, ![R, C]⟩ ⟨2, ![N, 1]⟩ ⟨2, ![N, C]⟩ [1] [0] [] [0] [] 1 ![1, C])

/-- Rows of a matrix by an integer each. -/
abbrev rowDims : GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rows (hR : 0 < R) (x : (⟨2, ![R, C]⟩ : Shape).Idx → EReal) (idx : IVec ⟨2, ![N, 1]⟩ 32) (p : Fin N)
    (h : Fin C) :
    Host.gather (rowDims wf) x idx (ix2 p h) = x (ix2 ⟨min (idx (ix2 p 0)).toInt.toNat (R - 1), by omega⟩ h) := by
  unfold Host.gather
  refine congrArg x ?_
  funext a
  refine Fin.ext ?_
  show (rowDims wf).start _ _ a + (rowDims wf).batchCoord _ a + (rowDims wf).offCoord _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl)),
      start_of _ _ _ _ (show (0 : Fin 2) ∈ [(0 : Fin 2)] by decide)]
    have hs : ∀ c, (rowDims wf).siIdx (ix2 p h) c = ix2 p 0 := by
      intro c
      funext b
      match b with
      | ⟨0, _⟩ => exact Fin.ext rfl
      | ⟨1, _⟩ => exact Fin.ext (by have : c.val < 1 := c.isLt; show c.val = 0; omega)
    rw [hs]
    rfl
  | ⟨1, _⟩ =>
    rw [start_none _ _ _ _ (show (1 : Fin 2) ∉ [(0 : Fin 2)] by decide),
      off_of _ _ _ ((GatherDims.mem_sKept _ _).mpr ⟨show (1 : Fin 2) ∉ [(0 : Fin 2)] by decide, List.not_mem_nil⟩)]
    exact (Nat.zero_add _).trans rfl

end

section
variable {B T N H D : ℕ} (wf : GatherDims.WF ⟨4, ![B, T, H, D]⟩ ⟨3, ![T, N, 1]⟩ ⟨5, ![B, T, N, H, D]⟩ [0, 3, 4] [1] [] [1]
  [] 2 ![B, 1, H, D])

/-- Tokens of an array of heads, `N` for each token, by an integer each. -/
abbrev tokenDims : GatherDims ⟨4, ![B, T, H, D]⟩ ⟨3, ![T, N, 1]⟩ ⟨5, ![B, T, N, H, D]⟩ where
  offsetDims := [0, 3, 4]
  collapsedSliceDims := [1]
  operandBatchingDims := []
  startIndicesBatchingDims := []
  startIndexMap := [1]
  indexVectorDim := 2
  sliceSizes := ![B, 1, H, D]
  wf := wf

theorem gather_tokens (hT : 0 < T) (x : (⟨4, ![B, T, H, D]⟩ : Shape).Idx → EReal) (idx : IVec ⟨3, ![T, N, 1]⟩ 32) (b : Fin B)
    (t : Fin T) (n : Fin N) (h : Fin H) (k : Fin D) :
    Host.gather (tokenDims wf) x idx (ix5 b t n h k)
      = x (ix4 b ⟨min (idx (ix3 t n 0)).toInt.toNat (T - 1), by omega⟩ h k) := by
  unfold Host.gather
  refine congrArg x ?_
  funext a
  refine Fin.ext ?_
  show (tokenDims wf).start _ _ a + (tokenDims wf).batchCoord _ a + (tokenDims wf).offCoord _ a = _
  rw [GatherDims.batchCoord_eq_zero _ _ _ List.not_mem_nil]
  match a with
  | ⟨0, _⟩ =>
    rw [start_none _ _ _ _ (show (0 : Fin 4) ∉ [(1 : Fin 4)] by decide),
      off_of _ _ _ ((GatherDims.mem_sKept _ _).mpr ⟨show (0 : Fin 4) ∉ [(1 : Fin 4)] by decide, List.not_mem_nil⟩)]
    exact (Nat.zero_add _).trans rfl
  | ⟨1, _⟩ =>
    rw [GatherDims.offCoord_eq_zero _ _ _ (fun h => ((GatherDims.mem_sKept _ _).mp h).1 (List.mem_singleton.mpr rfl)),
      start_of _ _ _ _ (show (1 : Fin 4) ∈ [(1 : Fin 4)] by decide)]
    have hs : ∀ c, (tokenDims wf).siIdx (ix5 b t n h k) c = ix3 t n 0 := by
      intro c
      funext b
      match b with
      | ⟨0, _⟩ => exact Fin.ext rfl
      | ⟨1, _⟩ => exact Fin.ext rfl
      | ⟨2, _⟩ => exact Fin.ext (by have : c.val < 1 := c.isLt; show c.val = 0; omega)
    rw [hs]
    rfl
  | ⟨2, _⟩ =>
    rw [start_none _ _ _ _ (show (2 : Fin 4) ∉ [(1 : Fin 4)] by decide),
      off_of _ _ _ ((GatherDims.mem_sKept _ _).mpr ⟨show (2 : Fin 4) ∉ [(1 : Fin 4)] by decide, List.not_mem_nil⟩)]
    exact (Nat.zero_add _).trans rfl
  | ⟨3, _⟩ =>
    rw [start_none _ _ _ _ (show (3 : Fin 4) ∉ [(1 : Fin 4)] by decide),
      off_of _ _ _ ((GatherDims.mem_sKept _ _).mpr ⟨show (3 : Fin 4) ∉ [(1 : Fin 4)] by decide, List.not_mem_nil⟩)]
    exact (Nat.zero_add _).trans rfl

end

end Cert.Dilated

end
-- ==== Proof.Dilated.Blocks.lean ====
/-
  The blocks the attention kernel reads at a grid point, as entries of the arguments. The grid runs over the batch, the
  residue of the token modulo four and the two blocks of 512 rows.
-/
module

public import proofs.«01_k».proof.Proof.Gen.Kernel6Ideal.Value
public import Idealize.ShloMosaic.Lib.Pipeline.ValueKit
public import Idealize.ShloMosaic.Lib.Pointwise
public import proofs.«01_k».proof.Proof.Dilated.Value
public import proofs.«01_k».proof.Proof.Dilated.Gather

@[expose] public section

set_option maxRecDepth 16384

noncomputable section

namespace Cert.Kernel6Ideal.Dilated

open Idealize.ShloMosaic Idealize.ShloMosaic.TcCoe Idealize.ShloMosaic.Tactic
open Idealize.ShloMosaic.Pipeline (Dat)
open Cert.Kernel6Ideal Cert.Kernel6Ideal.Gen

/-! ## The windows -/

theorem idx_all (t : Fin grid0.N) :
    (win0_0.index t 0 = t.val / 8 ∧ win0_0.index t 1 = t.val % 2 ∧ win0_0.index t 2 = 3 * (t.val / 2 % 4))
    ∧ (win0_1.index t 0 = t.val / 8 ∧ win0_1.index t 1 = t.val % 2 ∧ win0_1.index t 2 = 3 * (t.val / 2 % 4) + 1)
    ∧ (win0_2.index t 0 = t.val / 8 ∧ win0_2.index t 1 = 3 * (t.val % 2) ∧ win0_2.index t 2 = 3 * (t.val / 2 % 4) + 1)
    ∧ (win0_3.index t 0 = t.val / 8 ∧ win0_3.index t 1 = t.val % 2 ∧ win0_3.index t 2 = 3 * (t.val / 2 % 4) + 2)
    ∧ (win0_4.index t 0 = t.val / 8 ∧ win0_4.index t 1 = 3 * (t.val % 2) ∧ win0_4.index t 2 = 3 * (t.val / 2 % 4) + 2)
    ∧ (win0_5.index t 0 = 0 ∧ win0_5.index t 1 = 0 ∧ win0_5.index t 2 = 0)
    ∧ (win0_6.index t 0 = t.val / 8 ∧ win0_6.index t 1 = t.val % 2 ∧ win0_6.index t 2 = t.val / 2 % 4)
    ∧ (win0_7.index t 0 = t.val / 8 ∧ win0_7.index t 1 = t.val % 2 ∧ win0_7.index t 2 = t.val / 2 % 4)
    ∧ ((grid0.coords t) 2).val = t.val % 2 ∧ t.val < 16 := by
  have h : ∀ t : Fin grid0.N,
    (win0_0.index t 0 = t.val / 8 ∧ win0_0.index t 1 = t.val % 2 ∧ win0_0.index t 2 = 3 * (t.val / 2 % 4))
    ∧ (win0_1.index t 0 = t.val / 8 ∧ win0_1.index t 1 = t.val % 2 ∧ win0_1.index t 2 = 3 * (t.val / 2 % 4) + 1)
    ∧ (win0_2.index t 0 = t.val / 8 ∧ win0_2.index t 1 = 3 * (t.val % 2) ∧ win0_2.index t 2 = 3 * (t.val / 2 % 4) + 1)
    ∧ (win0_3.index t 0 = t.val / 8 ∧ win0_3.index t 1 = t.val % 2 ∧ win0_3.index t 2 = 3 * (t.val / 2 % 4) + 2)
    ∧ (win0_4.index t 0 = t.val / 8 ∧ win0_4.index t 1 = 3 * (t.val % 2) ∧ win0_4.index t 2 = 3 * (t.val / 2 % 4) + 2)
    ∧ (win0_5.index t 0 = 0 ∧ win0_5.index t 1 = 0 ∧ win0_5.index t 2 = 0)
    ∧ (win0_6.index t 0 = t.val / 8 ∧ win0_6.index t 1 = t.val % 2 ∧ win0_6.index t 2 = t.val / 2 % 4)
    ∧ (win0_7.index t 0 = t.val / 8 ∧ win0_7.index t 1 = t.val % 2 ∧ win0_7.index t 2 = t.val / 2 % 4)
    ∧ ((grid0.coords t) 2).val = t.val % 2 ∧ t.val < 16 := by
    decide +kernel
  exact h t

variable (m : (ℓ : Loc nD τ sig) → Buf (Elt Ideal) ℓ) (c : Dev nD)

/-- The arguments. -/
abbrev argZ : Vec Ideal S2x4096x5376 .bf16 := m ((c : Thread nD τ).loc main_arg0)
abbrev argW : Vec Ideal S32x6 .f32 := m ((c : Thread nD τ).loc main_arg1)

/-- The queries, keys and values, four tokens to a row. -/
def source (z : FVec Ideal S2x4096x5376 .bf16) : FVec Ideal S2x1024x9216 .bf16 :=
  shapeCast S2x1024x9216 (extractStridedSlice S2x4096x2304 ![0, 0, 1536] z slices_S2x4096x5376_S2x4096x2304_0_0_1536)
    shapeCasts_S2x4096x2304_S2x1024x9216

theorem source_apply (z : FVec Ideal S2x4096x5376 .bf16) (b : Fin 2) (M : Fin 1024) (C : Fin 9216) :
    source z (ix3 b M C) = z (ix3 b ⟨M.val * 4 + C.val / 2304, by omega⟩ ⟨1536 + C.val % 2304, by omega⟩) := by
  unfold source
  pointwise

theorem source_at (z : FVec Ideal S2x4096x5376 .bf16) (b : Fin 2) (M : Fin 1024) (C : Fin 9216) (T : Fin 4096) (K : Fin 5376)
    (hT : T.val = 4 * M.val + C.val / 2304) (hK : K.val = 1536 + C.val % 2304) :
    source z (ix3 b M C) = z (ix3 b T K) := by
  rw [source_apply]
  have e1 : (⟨M.val * 4 + C.val / 2304, by omega⟩ : Fin 4096) = T := Fin.ext (by show M.val * 4 + C.val / 2304 = T.val; omega)
  have e2 : (⟨1536 + C.val % 2304, by omega⟩ : Fin 5376) = K := Fin.ext hK.symm
  rw [e1, e2]

/-- The bias of each offset, from the table. -/
def biases (w : FVec Ideal S32x6 .f32) : FVec Ideal S383x6 .f32 :=
  Host.gather gather_S32x6_S383x1_S383x6_1_0_n_n_0_1_16 w (broadcastInDim S383x1 ![0] bcast_S383_S383x1_0
    (select (constantI S383 1 0#1) (addi (fun i => lit0 (S383.rowMajor i)) (broadcastInDim S383 ![] bcast_S_S383
      (constantI S_ 32 32#32))) (fun i => lit0 (S383.rowMajor i))))

/-- The bias of each query of a tile and each of its keys. -/
def toeplitz (g : FVec Ideal S383x6 .f32) : FVec Ideal S6x128x256 .f32 :=
  Host.reverse [2] (extractStridedSlice S6x128x256 ![0, 0, 0] (shapeCast S6x128x384 (extractStridedSlice S6x49152 ![0, 0]
    (shapeCast S6x49407 (broadcastInDim S1x6x129x383 ![0, 1, 2, 3] bcast_S1x6x1x383_S1x6x129x383_0_1_2_3
      (shapeCast S1x6x1x383 (transpose S6x383 [1, 0] g transposes_S383x6_S6x383_1_0) shapeCasts_S6x383_S1x6x1x383))
      shapeCasts_S1x6x129x383_S6x49407) slices_S6x49407_S6x49152_0_0) shapeCasts_S6x49152_S6x128x384)
    slices_S6x128x384_S6x128x256_0_0_0)

theorem biases_apply (w : FVec Ideal S32x6 .f32) (p : Fin 383) (h : Fin 6) :
    biases w (ix2 p h) = w (ix2 ⟨min (lit0 p).toInt.toNat (32 - 1), by omega⟩ h) := by
  unfold biases
  refine (Cert.Dilated.gather_rows (N := 383) (R := 32) (C := 6) _ (by decide) w _ p h).trans ?_
  have e : (broadcastInDim S383x1 ![0] bcast_S383_S383x1_0
    (select (constantI S383 1 0#1) (addi (fun i => lit0 (S383.rowMajor i)) (broadcastInDim S383 ![] bcast_S_S383
      (constantI S_ 32 32#32))) (fun i => lit0 (S383.rowMajor i))) : IVec S383x1 32) (ix2 p 0) = lit0 p := by
    pointwise
    exact congrArg lit0 (Fin.ext (Shape.rowMajor_val_one _))
  exact congrArg w (congrArg (fun q => ix2 q h) (Fin.ext (congrArg (fun b : BitVec 32 => min b.toInt.toNat 31) e)))

theorem toeplitz_apply (g : FVec Ideal S383x6 .f32) (h : Fin 6) (i : Fin 128) (j : Fin 256) :
    toeplitz g (ix3 h i j) = g (ix2 ⟨i.val + 255 - j.val, by omega⟩ h) := by
  unfold toeplitz
  pointwise
  show g (ix2 ⟨(i.val * 384 + j.rev.val) % 383, by omega⟩ h) = _
  refine congrArg g (congrArg (fun q => ix2 q h) (Fin.ext ?_))
  show (i.val * 384 + j.rev.val) % 383 = i.val + 255 - j.val
  rw [Fin.val_rev]
  omega

theorem host_src : V m c main_v1 = source (argZ m c) := by
  unfold V hostOps0; after_results_simp <;> rfl
theorem host_tz : V m c main_v14 = toeplitz (biases (argW m c)) := by
  unfold V hostOps0; after_results_simp <;> rfl

variable (t : Fin cfg0.N)

/-! ## The input blocks at an index -/

theorem blk_q (r : Fin 512) (k : Fin 768) (b : Fin 2) (T : Fin 4096) (eb : b.val = t.val / 8)
    (eT : T.val = 4 * (512 * (t.val % 2) + r.val) + t.val / 2 % 4) :
    iblk m c 0 t (ix3 0 r k) = argZ m c (ix3 b T ⟨1536 + k.val, by omega⟩) := by
  obtain ⟨⟨e0, e1, e2⟩, -⟩ := idx_all t
  show V m c main_v1 ((((cfg0.win 0).blk t).view.emb (ix3 0 r k)) : S2x1024x9216.Idx) = _
  have f : ((((cfg0.win 0).blk t).view.emb (ix3 0 r k)) : S2x1024x9216.Idx)
      = ix3 b ⟨512 * (t.val % 2) + r.val, by omega⟩ ⟨(3 * (t.val / 2 % 4) + 0) * 768 + k.val, by omega⟩ := by
    funext ax
    match ax with
    | ⟨0, _⟩ => exact Fin.ext (show win0_0.index t 0 * 1 + 1 * 0 = b.val by rw [e0]; omega)
    | ⟨1, _⟩ => exact Fin.ext (show win0_0.index t 1 * 512 + 1 * r.val = 512 * (t.val % 2) + r.val by rw [e1]; omega)
    | ⟨2, _⟩ => exact Fin.ext (show win0_0.index t 2 * 768 + 1 * k.val = (3 * (t.val / 2 % 4) + 0) * 768 + k.val by
        rw [e2]; omega)
  rw [f, host_src]
  exact source_at _ _ _ _ _ _ (by dsimp only; omega) (by dsimp only; omega)

theorem blk_k (r : Fin 512) (k : Fin 768) (b : Fin 2) (T : Fin 4096) (eb : b.val = t.val / 8)
    (eT : T.val = 4 * (512 * (t.val % 2) + r.val) + t.val / 2 % 4) :
    iblk m c 1 t (ix3 0 r k) = argZ m c (ix3 b T ⟨2304 + k.val, by omega⟩) := by
  obtain ⟨-, ⟨e0, e1, e2⟩, -⟩ := idx_all t
  show V m c main_v1 ((((cfg0.win 1).blk t).view.emb (ix3 0 r k)) : S2x1024x9216.Idx) = _
  have f : ((((cfg0.win 1).blk t).view.emb (ix3 0 r k)) : S2x1024x9216.Idx)
      = ix3 b ⟨512 * (t.val % 2) + r.val, by omega⟩ ⟨(3 * (t.val / 2 % 4) + 1) * 768 + k.val, by omega⟩ := by
    funext ax
    match ax with
    | ⟨0, _⟩ => exact Fin.ext (show win0_1.index t 0 * 1 + 1 * 0 = b.val by rw [e0]; omega)
    | ⟨1, _⟩ => exact Fin.ext (show win0_1.index t 1 * 512 + 1 * r.val = 512 * (t.val % 2) + r.val by rw [e1]; omega)
    | ⟨2, _⟩ => exact Fin.ext (show win0_1.index t 2 * 768 + 1 * k.val = (3 * (t.val / 2 % 4) + 1) * 768 + k.val by
        rw [e2]; omega)
  rw [f, host_src]
  exact source_at _ _ _ _ _ _ (by dsimp only; omega) (by dsimp only; omega)

theorem blk_k_before (r : Fin 128) (k : Fin 768) (b : Fin 2) (T : Fin 4096) (eb : b.val = t.val / 8)
    (eT : T.val = 4 * (384 * (t.val % 2) + r.val) + t.val / 2 % 4) :
    iblk m c 2 t (ix3 0 r k) = argZ m c (ix3 b T ⟨2304 + k.val, by omega⟩) := by
  obtain ⟨-, -, ⟨e0, e1, e2⟩, -⟩ := idx_all t
  show V m c main_v1 ((((cfg0.win 2).blk t).view.emb (ix3 0 r k)) : S2x1024x9216.Idx) = _
  have f : ((((cfg0.win 2).blk t).view.emb (ix3 0 r k)) : S2x1024x9216.Idx)
      = ix3 b ⟨384 * (t.val % 2) + r.val, by omega⟩ ⟨(3 * (t.val / 2 % 4) + 1) * 768 + k.val, by omega⟩ := by
    funext ax
    match ax with
    | ⟨0, _⟩ => exact Fin.ext (show win0_2.index t 0 * 1 + 1 * 0 = b.val by rw [e0]; omega)
    | ⟨1, _⟩ => exact Fin.ext (show win0_2.index t 1 * 128 + 1 * r.val = 384 * (t.val % 2) + r.val by rw [e1]; omega)
    | ⟨2, _⟩ => exact Fin.ext (show win0_2.index t 2 * 768 + 1 * k.val = (3 * (t.val / 2 % 4) + 1) * 768 + k.val by
        rw [e2]; omega)
  rw [f, host_src]
  exact source_at _ _ _ _ _ _ (by dsimp only; omega) (by dsimp only; omega)

theorem blk_v (r : Fin 512) (k : Fin 768) (b : Fin 2) (T : Fin 4096) (eb : b.val = t.val / 8)
    (eT : T.val = 4 * (512 * (t.val % 2) + r.val) + t.val / 2 % 4) :
    iblk m c 3 t (ix3 0 r k) = argZ m c (ix3 b T ⟨3072 + k.val, by omega⟩) := by
  obtain ⟨-, -, -, ⟨e0, e1, e2⟩, -⟩ := idx_all t
  show V m c main_v1 ((((cfg0.win 3).blk t).view.emb (ix3 0 r k)) : S2x1024x9216.Idx) = _
  have f : ((((cfg0.win 3).blk t).view.emb (ix3 0 r k)) : S2x1024x9216.Idx)
      = ix3 b ⟨512 * (t.val % 2) + r.val, by omega⟩ ⟨(3 * (t.val / 2 % 4) + 2) * 768 + k.val, by omega⟩ := by
    funext ax
    match ax with
    | ⟨0, _⟩ => exact Fin.ext (show win0_3.index t 0 * 1 + 1 * 0 = b.val by rw [e0]; omega)
    | ⟨1, _⟩ => exact Fin.ext (show win0_3.index t 1 * 512 + 1 * r.val = 512 * (t.val % 2) + r.val by rw [e1]; omega)
    | ⟨2, _⟩ => exact Fin.ext (show win0_3.index t 2 * 768 + 1 * k.val = (3 * (t.val / 2 % 4) + 2) * 768 + k.val by
        rw [e2]; omega)
  rw [f, host_src]
  exact source_at _ _ _ _ _ _ (by dsimp only; omega) (by dsimp only; omega)

theorem blk_v_before (r : Fin 128) (k : Fin 768) (b : Fin 2) (T : Fin 4096) (eb : b.val = t.val / 8)
    (eT : T.val = 4 * (384 * (t.val % 2) + r.val) + t.val / 2 % 4) :
    iblk m c 4 t (ix3 0 r k) = argZ m c (ix3 b T ⟨3072 + k.val, by omega⟩) := by
  obtain ⟨-, -, -, -, ⟨e0, e1, e2⟩, -⟩ := idx_all t
  show V m c main_v1 ((((cfg0.win 4).blk t).view.emb (ix3 0 r k)) : S2x1024x9216.Idx) = _
  have f : ((((cfg0.win 4).blk t).view.emb (ix3 0 r k)) : S2x1024x9216.Idx)
      = ix3 b ⟨384 * (t.val % 2) + r.val, by omega⟩ ⟨(3 * (t.val / 2 % 4) + 2) * 768 + k.val, by omega⟩ := by
    funext ax
    match ax with
    | ⟨0, _⟩ => exact Fin.ext (show win0_4.index t 0 * 1 + 1 * 0 = b.val by rw [e0]; omega)
    | ⟨1, _⟩ => exact Fin.ext (show win0_4.index t 1 * 128 + 1 * r.val = 384 * (t.val % 2) + r.val by rw [e1]; omega)
    | ⟨2, _⟩ => exact Fin.ext (show win0_4.index t 2 * 768 + 1 * k.val = (3 * (t.val / 2 % 4) + 2) * 768 + k.val by
        rw [e2]; omega)
  rw [f, host_src]
  exact source_at _ _ _ _ _ _ (by dsimp only; omega) (by dsimp only; omega)

theorem blk_tz (h : Fin 6) (i : Fin 128) (j : Fin 256) :
    iblk m c 5 t (ix3 h i j) = toeplitz (biases (argW m c)) (ix3 h i j) := by
  obtain ⟨-, -, -, -, -, ⟨e0, e1, e2⟩, -⟩ := idx_all t
  show V m c main_v14 ((((cfg0.win 5).blk t).view.emb (ix3 h i j)) : S6x128x256.Idx) = _
  have f : ((((cfg0.win 5).blk t).view.emb (ix3 h i j)) : S6x128x256.Idx) = ix3 h i j := by
    funext ax
    match ax with
    | ⟨0, _⟩ => exact Fin.ext (show win0_5.index t 0 * 6 + 1 * h.val = h.val by rw [e0]; omega)
    | ⟨1, _⟩ => exact Fin.ext (show win0_5.index t 1 * 128 + 1 * i.val = i.val by rw [e1]; omega)
    | ⟨2, _⟩ => exact Fin.ext (show win0_5.index t 2 * 256 + 1 * j.val = j.val by rw [e2]; omega)
  rw [f, host_tz]

/-! ## The keys and values of a grid point, a row for each token of its residue -/

theorem keys_apply (R : Fin 640) (k : Fin 768) (b : Fin 2) (T : Fin 4096) (eb : b.val = t.val / 8)
    (hR : 128 ≤ R.val ∨ 0 < t.val % 2) (eT : T.val = 4 * (512 * (t.val % 2) + R.val - 128) + t.val / 2 % 4) :
    stack (iblk m c 1 t) (iblk m c 2 t) (ix2 R k) = argZ m c (ix3 b T ⟨2304 + k.val, by omega⟩) := by
  show (if h : R.val < 128 then iblk m c 2 t (ix3 0 ⟨R.val, h⟩ k) else iblk m c 1 t (ix3 0 ⟨R.val - 128, by omega⟩ k)) = _
  by_cases h : R.val < 128
  · rw [dif_pos h]
    exact blk_k_before m c t _ k b T eb (by dsimp only; omega)
  · rw [dif_neg h]
    exact blk_k m c t _ k b T eb (by dsimp only; omega)

theorem values_apply (R : Fin 640) (k : Fin 768) (b : Fin 2) (T : Fin 4096) (eb : b.val = t.val / 8)
    (hR : 128 ≤ R.val ∨ 0 < t.val % 2) (eT : T.val = 4 * (512 * (t.val % 2) + R.val - 128) + t.val / 2 % 4) :
    stack (iblk m c 3 t) (iblk m c 4 t) (ix2 R k) = argZ m c (ix3 b T ⟨3072 + k.val, by omega⟩) := by
  show (if h : R.val < 128 then iblk m c 4 t (ix3 0 ⟨R.val, h⟩ k) else iblk m c 3 t (ix3 0 ⟨R.val - 128, by omega⟩ k)) = _
  by_cases h : R.val < 128
  · rw [dif_pos h]
    exact blk_v_before m c t _ k b T eb (by dsimp only; omega)
  · rw [dif_neg h]
    exact blk_v m c t _ k b T eb (by dsimp only; omega)

end Cert.Kernel6Ideal.Dilated

end
-- ==== Proof.Dilated.Out.lean ====
/-
  The kernel's result arrays are the dilated attention and the logarithms of its sums.
-/
module

public import proofs.«01_k».proof.Proof.Dilated.Block
public import proofs.«01_k».proof.Proof.Dilated.Blocks

@[expose] public section

set_option maxRecDepth 16384

noncomputable section

namespace Cert.Kernel6Ideal.Dilated

open Idealize.ShloMosaic Idealize.ShloMosaic.TcCoe Idealize.ShloMosaic.Tactic
open Idealize.ShloMosaic.Pipeline (Dat)
open Cert.Kernel6Ideal Cert.Kernel6Ideal.Gen

variable (m : (ℓ : Loc nD τ sig) → Buf (Elt Ideal) ℓ) (c : Dev nD) (t : Fin cfg0.N)

/-! ## A row of logits -/

/-- The lane of the key `n` rows before query `r`. -/
def laneOf (r : Fin 512) (n : Fin 129) : Fin 256 := ⟨r.val % 128 + 128 - n.val, by omega⟩

theorem laneOf_injective (r : Fin 512) : Function.Injective (laneOf r) := by
  intro a b h
  have h' : r.val % 128 + 128 - a.val = r.val % 128 + 128 - b.val := congrArg Fin.val h
  exact Fin.ext (by omega)

/-- The logits of a query of the block at grid point `t`. -/
abbrev pointLogits (r : Fin 512) (h : Fin 6) : Fin 256 → EReal :=
  rowLogits (grid0.coords t 2).val (iblk m c 0 t) (stack (iblk m c 1 t) (iblk m c 2 t)) (iblk m c 5 t) r h

theorem coord_eq : (grid0.coords t 2).val = t.val % 2 := by
  obtain ⟨-, -, -, -, -, -, -, -, e, -⟩ := idx_all t
  exact e

theorem sees_lane (r : Fin 512) (n : Fin 129) (T : ℕ) (eT : T = 4 * (512 * (t.val % 2) + r.val) + t.val / 2 % 4) :
    sees (grid0.coords t 2).val r.val (laneOf r n).val ↔ 4 * n.val ≤ T := by
  rw [coord_eq]
  unfold sees laneOf
  dsimp only
  omega

variable (r : Fin 512) (h : Fin 6) (b : Fin 2) (T : Fin 4096) (eb : b.val = t.val / 8)
  (eT : T.val = 4 * (512 * (t.val % 2) + r.val) + t.val / 2 % 4)

include eb eT

theorem point_logit (n : Fin 129) :
    pointLogits m c t r h (laneOf r n) = logit (argZ m c) (argW m c) b T h n := by
  unfold pointLogits rowLogits logit
  have hs := sees_lane t r n T.val eT
  by_cases hn : 4 * n.val ≤ T.val
  · rw [if_pos (hs.mpr hn), if_pos hn]
    refine congr_arg₂ (fun p q : EReal => p + q) (congrArg (fun p : EReal => p * _) (Finset.sum_congr rfl fun d _ =>
      congr_arg₂ (fun p q : EReal => p * q) ?_ ?_)) ?_
    · exact blk_q m c t r ⟨128 * h.val + d.val, by omega⟩ b T eb eT
    · refine keys_apply m c t _ ⟨128 * h.val + d.val, by omega⟩ b ⟨T.val - 4 * n.val, by omega⟩ eb ?_ ?_
      · unfold laneOf; dsimp only; omega
      · unfold laneOf; dsimp only; omega
    · rw [blk_tz, toeplitz_apply, biases_apply]
      refine congrArg (fun p => argW m c (ix2 p h)) ?_
      unfold bucket
      refine congrArg (fun p : Fin 383 => (⟨min (lit0 p).toInt.toNat (32 - 1), by omega⟩ : Fin 32)) (Fin.ext ?_)
      show r.val % 128 + 255 - (r.val % 128 + 128 - n.val) = 127 + n.val
      omega
  · rw [if_neg (fun h => hn (hs.mp h)), if_neg hn]

theorem point_masked (j : Fin 256) (hj : ∀ n, laneOf r n ≠ j) : pointLogits m c t r h j = ⊥ := by
  unfold pointLogits rowLogits
  refine if_neg fun hs => ?_
  unfold sees at hs
  refine hj ⟨r.val % 128 + 128 - j.val, by omega⟩ (Fin.ext ?_)
  show r.val % 128 + 128 - (r.val % 128 + 128 - j.val) = j.val
  omega

theorem point_lse : lse (pointLogits m c t r h) = lse (logit (argZ m c) (argW m c) b T h) :=
  lse_reindex (laneOf r) (laneOf_injective r) (fun n => point_logit m c t r h b T eb eT n)
    (fun j hj => point_masked m c t r h b T eb eT j hj)

theorem point_attn (hf : Finite (argZ m c) (argW m c)) (k : Fin 768) :
    soft (pointLogits m c t r ⟨k.val / 128, by omega⟩)
        (fun j : Fin 256 => stack (iblk m c 3 t) (iblk m c 4 t) (ix2 ⟨128 * (r.val / 128) + j.val, by omega⟩ k))
      = attn (argZ m c) (argW m c) b T k := by
  unfold attn
  refine soft_reindex (laneOf r) (laneOf_injective r) (fun n => point_logit m c t r _ b T eb eT n)
    (fun j hj => point_masked m c t r _ b T eb eT j hj) (fun n hn => ?_) ⟨0, logit_self _ _ hf b T _⟩
    (fun n => logit_top _ _ hf b T _ n)
  have hn' : 4 * n.val ≤ T.val := by
    by_contra h
    exact hn (if_neg h)
  refine values_apply m c t _ k b ⟨T.val - 4 * n.val, by omega⟩ eb ?_ ?_
  · unfold laneOf; dsimp only; omega
  · unfold laneOf; dsimp only; omega

omit eb eT

/-! ## The result arrays -/

theorem flushed_out (hf : Finite (argZ m c) (argW m c)) (hw : (cfg0.win 6).flush t = true) :
    (dats m 0 c).flushed 6 t = ((cfg0.win 6).blk t).view.read (Elt Ideal) (outValue (argZ m c) (argW m c)) := by
  obtain ⟨-, -, -, -, -, -, ⟨e0, e1, e2⟩, -, -, ht⟩ := idx_all t
  rw [Value.flushed6]
  funext y
  show (outsAt0 m c t).1 y = outValue (argZ m c) (argW m c) (((cfg0.win 6).blk t).view.emb y)
  have y0 : (y 0).val < 1 := (y 0).isLt
  have y1 : (y 1).val < 512 := (y 1).isLt
  have y2 : (y 2).val < 768 := (y 2).isLt
  have f0 : ((((cfg0.win 6).blk t).view.emb y) 0).val = t.val / 8 := by
    show win0_6.index t 0 * 1 + 1 * (y 0).val = _
    rw [e0]; omega
  have f1 : ((((cfg0.win 6).blk t).view.emb y) 1).val = 512 * (t.val % 2) + (y 1).val := by
    show win0_6.index t 1 * 512 + 1 * (y 1).val = _
    rw [e1]; omega
  have f2 : ((((cfg0.win 6).blk t).view.emb y) 2).val = 768 * (t.val / 2 % 4) + (y 2).val := by
    show win0_6.index t 2 * 768 + 1 * (y 2).val = _
    rw [e2]; omega
  generalize (((cfg0.win 6).blk t).view.emb y) = j at f0 f1 f2
  rw [block_out]
  have j1 : (j 1).val < 1024 := (j 1).isLt
  have j2 : (j 2).val < 3072 := (j 2).isLt
  unfold outValue
  have ek : (⟨(j 2).val % 768, by omega⟩ : Fin 768) = ⟨(y 2).val, y2⟩ := Fin.ext (by
    show (j 2).val % 768 = (y 2).val
    omega)
  refine (point_attn m c t (y 1) (j 0) ⟨4 * (j 1).val + (j 2).val / 768, by omega⟩ f0 (by
    show 4 * (j 1).val + (j 2).val / 768 = _
    omega) hf ⟨(y 2).val, y2⟩).trans ?_
  exact congrArg (attn _ _ _ _) ek.symm

theorem flushed_lse (hw : (cfg0.win 7).flush t = true) :
    (dats m 0 c).flushed 7 t = ((cfg0.win 7).blk t).view.read (Elt Ideal) (lseValue (argZ m c) (argW m c)) := by
  obtain ⟨-, -, -, -, -, -, -, ⟨e0, e1, e2⟩, -, ht⟩ := idx_all t
  rw [Value.flushed7]
  funext y
  show (outsAt0 m c t).2 y = lseValue (argZ m c) (argW m c) (((cfg0.win 7).blk t).view.emb y)
  have y0 : (y 0).val < 1 := (y 0).isLt
  have y1 : (y 1).val < 512 := (y 1).isLt
  have y2 : (y 2).val < 128 := (y 2).isLt
  have f0 : ((((cfg0.win 7).blk t).view.emb y) 0).val = t.val / 8 := by
    show win0_7.index t 0 * 1 + 1 * (y 0).val = _
    rw [e0]; omega
  have f1 : ((((cfg0.win 7).blk t).view.emb y) 1).val = 512 * (t.val % 2) + (y 1).val := by
    show win0_7.index t 1 * 512 + 1 * (y 1).val = _
    rw [e1]; omega
  have f2 : ((((cfg0.win 7).blk t).view.emb y) 2).val = 128 * (t.val / 2 % 4) + (y 2).val := by
    show win0_7.index t 2 * 128 + 1 * (y 2).val = _
    rw [e2]; omega
  generalize (((cfg0.win 7).blk t).view.emb y) = j at f0 f1 f2
  rw [block_lse]
  have j1 : (j 1).val < 1024 := (j 1).isLt
  have j2 : (j 2).val < 512 := (j 2).isLt
  unfold blockLse lseValue
  have ek : (j 2).val % 128 = (y 2).val := by omega
  by_cases h : (y 2).val < 6
  · rw [dif_pos h, dif_pos (show (j 2).val % 128 < 6 by omega)]
    refine (point_lse m c t (y 1) ⟨(y 2).val, h⟩ (j 0) ⟨4 * (j 1).val + (j 2).val / 128, by omega⟩ f0 (by
      show 4 * (j 1).val + (j 2).val / 128 = _
      omega)).trans ?_
    exact congrArg (fun p => lse (logit _ _ _ _ p)) (Fin.ext ek.symm)
  · rw [dif_neg h, dif_neg (show ¬(j 2).val % 128 < 6 by omega)]

theorem point_of (b r q : ℕ) (hb : b < 2) (hr : r < 4) (hq : q < 2) :
    ∃ t : Fin cfg0.N, t.val / 8 = b ∧ t.val / 2 % 4 = r ∧ t.val % 2 = q := by
  have h : ∀ (b : Fin 2) (r : Fin 4) (q : Fin 2), ∃ t : Fin grid0.N,
      t.val / 8 = b.val ∧ t.val / 2 % 4 = r.val ∧ t.val % 2 = q.val := by
    decide +kernel
  exact h ⟨b, hb⟩ ⟨r, hr⟩ ⟨q, hq⟩

theorem cover_out (j : S2x1024x3072.Idx) :
    ∃ t : Fin cfg0.N, (cfg0.win 6).flush t = true ∧ j ∈ ((cfg0.win 6).blk t).view.set := by
  have b0 : (j 0).val < 2 := (j 0).isLt
  have b1 : (j 1).val < 1024 := (j 1).isLt
  have b2 : (j 2).val < 3072 := (j 2).isLt
  obtain ⟨t, h0, h2, h1⟩ := point_of (j 0).val ((j 2).val / 768) ((j 1).val / 512) b0 (by omega) (by omega)
  obtain ⟨-, -, -, -, -, -, ⟨e0, e1, e2⟩, -, -, ht⟩ := idx_all t
  refine ⟨t, flush0_6 t, ?_⟩
  show j ∈ ((View.whole main_v15_0).slice (win0_6.rect t)).set
  rw [View.set_slice_whole, Rect.mem_set_unit]
  intro ax
  match ax with
  | ⟨0, _⟩ =>
    show win0_6.index t 0 * 1 ≤ (j 0).val ∧ (j 0).val < win0_6.index t 0 * 1 + 1
    rw [e0]; omega
  | ⟨1, _⟩ =>
    show win0_6.index t 1 * 512 ≤ (j 1).val ∧ (j 1).val < win0_6.index t 1 * 512 + 512
    rw [e1]; omega
  | ⟨2, _⟩ =>
    show win0_6.index t 2 * 768 ≤ (j 2).val ∧ (j 2).val < win0_6.index t 2 * 768 + 768
    rw [e2]; omega

theorem cover_lse (j : S2x1024x512.Idx) :
    ∃ t : Fin cfg0.N, (cfg0.win 7).flush t = true ∧ j ∈ ((cfg0.win 7).blk t).view.set := by
  have b0 : (j 0).val < 2 := (j 0).isLt
  have b1 : (j 1).val < 1024 := (j 1).isLt
  have b2 : (j 2).val < 512 := (j 2).isLt
  obtain ⟨t, h0, h2, h1⟩ := point_of (j 0).val ((j 2).val / 128) ((j 1).val / 512) b0 (by omega) (by omega)
  obtain ⟨-, -, -, -, -, -, -, ⟨e0, e1, e2⟩, -, ht⟩ := idx_all t
  refine ⟨t, flush0_7 t, ?_⟩
  show j ∈ ((View.whole main_v15_1).slice (win0_7.rect t)).set
  rw [View.set_slice_whole, Rect.mem_set_unit]
  intro ax
  match ax with
  | ⟨0, _⟩ =>
    show win0_7.index t 0 * 1 ≤ (j 0).val ∧ (j 0).val < win0_7.index t 0 * 1 + 1
    rw [e0]; omega
  | ⟨1, _⟩ =>
    show win0_7.index t 1 * 512 ≤ (j 1).val ∧ (j 1).val < win0_7.index t 1 * 512 + 512
    rw [e1]; omega
  | ⟨2, _⟩ =>
    show win0_7.index t 2 * 128 ≤ (j 2).val ∧ (j 2).val < win0_7.index t 2 * 128 + 128
    rw [e2]; omega

/-- The first result of the kernel is the attention, where the inputs are finite. -/
theorem final_out (hf : Finite (argZ m c) (argW m c)) :
    (dats m 0 c).arrAt 6 cfg0.N = outValue (argZ m c) (argW m c) :=
  (dats m 0 c).arrAt_eq_of_cover 6 _ (fun t hw => flushed_out m c t hf hw) cover_out

/-- The second result of the kernel is the logarithms. -/
theorem final_lse : (dats m 0 c).arrAt 7 cfg0.N = lseValue (argZ m c) (argW m c) :=
  (dats m 0 c).arrAt_eq_of_cover 7 _ (fun t hw => flushed_lse m c t hw) cover_lse

end Cert.Kernel6Ideal.Dilated

end
-- ==== Proof.Dilated.Pre.lean ====
/-
  The precondition, read: every input is finite.
-/
module

public import proofs.«01_k».proof.Proof.Gen.Pre_inputs_finite
public import proofs.«01_k».proof.Proof.Expert.Pre
public import proofs.«01_k».proof.Proof.Dilated.Value

@[expose] public section

set_option maxRecDepth 16384

noncomputable section

namespace Cert.Pre_inputs_finite.Dilated

open Idealize.ShloMosaic Idealize.ShloMosaic.Tactic
open Cert.Pre_inputs_finite
open Cert.Pre_top_lse_finite.Mix (ofBits_top ofBits_bot of_words)
open Cert.Pre_scores_finite.Expert (and_one)
open Cert.Kernel6Ideal.Dilated (Real' Finite)
open Facts

theorem ofBits_top16 : Ideal.ofBits FTy.bf16 0x7F80#16 = ⊤ := by
  simp [Ideal.ofBits, Ideal.ieee]

theorem ofBits_bot16 : Ideal.ofBits FTy.bf16 0xFF80#16 = ⊥ := by
  simp [Ideal.ofBits, Ideal.ieee]

/-- The test of every input activation. -/
def testZ (z : FVec Ideal S2x4096x5376 .bf16) : IVec S2x4096x5376 1 :=
  andi (cmpf .ogt z (broadcastInDim S2x4096x5376 ![] bcast_S_S2x4096x5376 (constant S_ .bf16 0xFF80#16)))
    (cmpf .olt z (broadcastInDim S2x4096x5376 ![] bcast_S_S2x4096x5376 (constant S_ .bf16 0x7F80#16)))

/-- The test of every entry of the bias table. -/
def testW (w : FVec Ideal S32x6 .f32) : IVec S32x6 1 :=
  andi (cmpf .ogt w (broadcastInDim S32x6 ![] bcast_S_S32x6 (constant S_ .f32 0xFF800000#32)))
    (cmpf .olt w (broadcastInDim S32x6 ![] bcast_S_S32x6 (constant S_ .f32 0x7F800000#32)))

theorem z_of (z : FVec Ideal S2x4096x5376 .bf16) (i : S_.Idx)
    (h : Host.reduce IntOp.andi (testZ z) (constantI S_ 1 1#1) reducesTo_S2x4096x5376_S_d0_1_2 h_S_ i = 1#1)
    (b : Fin 2) (t : Fin 4096) (k : Fin 5376) : Real' (z (ix3 b t k)) := by
  haveI : Subsingleton S_.Idx := ⟨fun a b => funext fun i => i.elim0⟩
  have key := Host.reduce_andi_all _ _ _ _ i h (ix3 (n0 := 2) (n1 := 4096) (n2 := 5376) b t k)
  revert key
  unfold testZ Real'
  pointwise
  rw [ofBits_top16, ofBits_bot16]
  exact of_words

theorem w_of (w : FVec Ideal S32x6 .f32) (i : S_.Idx)
    (h : Host.reduce IntOp.andi (testW w) (constantI S_ 1 1#1) reducesTo_S32x6_S_d0_1 h_S_ i = 1#1)
    (p : Fin 32) (o : Fin 6) : Real' (w (ix2 p o)) := by
  haveI : Subsingleton S_.Idx := ⟨fun a b => funext fun i => i.elim0⟩
  have key := Host.reduce_andi_all _ _ _ _ i h (ix2 (n0 := 32) (n1 := 6) p o)
  revert key
  unfold testW Real'
  pointwise
  rw [ofBits_top, ofBits_bot]
  exact of_words

variable {z : FVec Ideal S2x4096x5376 .bf16} {w : FVec Ideal S32x6 .f32}

theorem fn_eq : fn (F := Ideal) z w
    = andi (Host.reduce IntOp.andi (testZ z) (constantI S_ 1 1#1) reducesTo_S2x4096x5376_S_d0_1_2 h_S_)
        (Host.reduce IntOp.andi (testW w) (constantI S_ 1 1#1) reducesTo_S32x6_S_d0_1 h_S_) := by
  unfold fn testZ testW
  rfl

theorem finite (hp : fn (F := Ideal) z w = fun _ => 1#1) : Finite z w := by
  rw [fn_eq] at hp
  have i : S_.Idx := fun i => i.elim0
  obtain ⟨hz, hw⟩ := and_one (congrFun hp i)
  exact ⟨z_of z i hz, w_of w i hw⟩

end Cert.Pre_inputs_finite.Dilated

end
-- ==== Proof.Dilated.Ref.lean ====
/-
  The reference's run ends with the dilated attention and the logarithms of its sums.
-/
module

public import proofs.«01_k».proof.Proof.Gen.Reference6Ideal.Run
public import Idealize.ShloMosaic.Lib.Pointwise
public import proofs.«01_k».proof.Proof.Dilated.Value
public import proofs.«01_k».proof.Proof.Dilated.Gather
public import proofs.«01_k».proof.Proof.Mix.Pre

@[expose] public section

set_option maxRecDepth 16384

noncomputable section

namespace Cert.Reference6Ideal.Dilated

open Idealize.ShloMosaic Idealize.ShloMosaic.TcCoe Idealize.ShloMosaic.Tactic Idealize.SL.Sem
open Cert.Reference6Ideal Cert.Reference6Ideal.Gen
open Cert.Kernel6Ideal.Dilated (bucket logit attn outValue lseValue soft lse)
open Cert.Dilated (gather_rows gather_tokens)

/-! ## Positions -/

/-- The position each token sees at each distance, negative before the sequence. -/
def places : IVec S4096x129 32 :=
  subi (broadcastInDim S4096x129 ![0, 1] bcast_S4096x1_S4096x129_0_1 (broadcastInDim S4096x1 ![0] bcast_S4096_S4096x1_0
    (iotaInDim S4096 32 0))) (broadcastInDim S4096x129 ![0, 1] bcast_S1x129_S4096x129_0_1 (broadcastInDim S1x129 ![1]
    bcast_S129_S1x129_1 (fun i => lit1 (S129.rowMajor i))))

/-- The positions to read. -/
def reads : IVec S4096x129x1 32 :=
  broadcastInDim S4096x129x1 ![0, 1] bcast_S4096x129_S4096x129x1_0_1 (maxsi places (broadcastInDim S4096x129 ![]
    bcast_S_S4096x129 (constantI S_ 32 0#32)))

/-- Whether the position is in the sequence. -/
def seen : IVec S4096x129 1 :=
  cmpi .sge places (broadcastInDim S4096x129 ![] bcast_S_S4096x129 (constantI S_ 32 0#32))

theorem lit1_eq (n : Fin 129) : lit1 n = BitVec.ofNat 32 (4 * n.val) := by
  have h : ∀ n : Fin 129, lit1 n = BitVec.ofNat 32 (4 * n.val) := by decide +kernel
  exact h n

theorem lit0_eq (n : Fin 129) : lit0 n = Cert.Kernel6Ideal.lit0 ⟨127 + n.val, by omega⟩ := by
  have h : ∀ n : Fin 129, lit0 n = Cert.Kernel6Ideal.lit0 ⟨127 + n.val, by omega⟩ := by decide +kernel
  exact h n

theorem places_apply (t : Fin 4096) (n : Fin 129) :
    places (ix2 t n) = BitVec.ofNat 32 t.val - BitVec.ofNat 32 (4 * n.val) := by
  rw [← lit1_eq]
  unfold places
  pointwise
  exact congrArg (fun p => BitVec.ofNat 32 t.val - lit1 p) (Fin.ext (Shape.rowMajor_val_one _))

theorem places_toInt (t : Fin 4096) (n : Fin 129) : (places (ix2 t n)).toInt = (t.val : ℤ) - 4 * n.val := by
  rw [places_apply, BitVec.toInt_eq_toNat_cond, BitVec.toNat_sub, BitVec.toNat_ofNat, BitVec.toNat_ofNat]
  split <;> omega

theorem reads_toNat (t : Fin 4096) (n : Fin 129) : (reads (ix3 t n 0)).toInt.toNat = t.val - 4 * n.val := by
  have h := places_toInt t n
  unfold reads
  pointwise
  show (if (0#32).slt (places (ix2 t n)) then places (ix2 t n) else 0#32).toInt.toNat = t.val - 4 * n.val
  by_cases hp : (0#32).toInt < (places (ix2 t n)).toInt
  · rw [if_pos (by rw [BitVec.slt_eq_decide]; exact decide_eq_true hp), h]
    omega
  · rw [if_neg (by rw [BitVec.slt_eq_decide]; exact fun e => hp (of_decide_eq_true e))]
    have h0 : (0#32).toInt = 0 := by decide
    rw [h0] at hp ⊢
    omega

theorem seen_iff (t : Fin 4096) (n : Fin 129) : seen (ix2 t n) = 1#1 ↔ 4 * n.val ≤ t.val := by
  have h := places_toInt t n
  unfold seen
  pointwise
  rw [Cert.Kernel6Ideal.Dilated.sge_iff]
  have h0 : (0#32).toInt = 0 := by decide
  rw [h0, h]
  omega

/-! ## The queries, the keys and the values -/

/-- The heads of a token. -/
def heads (x : FVec Ideal S2x4096x768 .bf16) : FVec Ideal S2x4096x6x128 .f32 :=
  extf .f32 (shapeCast _ x shapeCasts_S2x4096x768_S2x4096x6x128) bitsLt_bf16_f32

theorem heads_apply (x : FVec Ideal S2x4096x768 .bf16) (b : Fin 2) (t : Fin 4096) (h : Fin 6) (d : Fin 128) :
    heads x (ix4 b t h d) = x (ix3 b t ⟨h.val * 128 + d.val, by omega⟩) := by
  unfold heads
  pointwise

/-- The heads of the token at each distance. -/
def taken (x : FVec Ideal S2x4096x768 .bf16) : FVec Ideal S2x4096x129x6x128 .f32 :=
  Host.gather gather_S2x4096x6x128_S4096x129x1_S2x4096x129x6x128_034_1_n_n_1_2_216128 (heads x) reads

theorem taken_apply (x : FVec Ideal S2x4096x768 .bf16) (b : Fin 2) (t : Fin 4096) (n : Fin 129) (h : Fin 6) (d : Fin 128) :
    taken x (ix5 b t n h d) = x (ix3 b ⟨t.val - 4 * n.val, by omega⟩ ⟨h.val * 128 + d.val, by omega⟩) := by
  unfold taken
  refine (gather_tokens (B := 2) (T := 4096) (N := 129) (H := 6) (D := 128) _ (by decide) (heads x) reads b t n h d).trans ?_
  have e : (⟨min (reads (ix3 t n 0)).toInt.toNat (4096 - 1), by omega⟩ : Fin 4096) = ⟨t.val - 4 * n.val, by omega⟩ :=
    Fin.ext (by
      show min (reads (ix3 t n 0)).toInt.toNat (4096 - 1) = t.val - 4 * n.val
      rw [reads_toNat]; omega)
  rw [e, heads_apply]

/-- The bias of each head and distance. -/
def biasOf (w : FVec Ideal S32x6 .f32) : FVec Ideal S6x129 .f32 :=
  transpose S6x129 [1, 0] (Host.gather gather_S32x6_S129x1_S129x6_1_0_n_n_0_1_16 w (broadcastInDim S129x1 ![0]
    bcast_S129_S129x1_0 (select (constantI S129 1 0#1) (addi ((fun i => lit0 (S129.rowMajor i))) (broadcastInDim S129 ![]
    bcast_S_S129 (constantI S_ 32 32#32))) ((fun i => lit0 (S129.rowMajor i)))))) transposes_S129x6_S6x129_1_0

theorem biasOf_apply (w : FVec Ideal S32x6 .f32) (h : Fin 6) (n : Fin 129) : biasOf w (ix2 h n) = w (ix2 (bucket n) h) := by
  unfold biasOf
  pointwise
  refine (gather_rows (N := 129) (R := 32) (C := 6) _ (by decide) w _ n h).trans ?_
  have e : (broadcastInDim S129x1 ![0] bcast_S129_S129x1_0 (select (constantI S129 1 0#1)
      (addi ((fun i => lit0 (S129.rowMajor i))) (broadcastInDim S129 ![] bcast_S_S129 (constantI S_ 32 32#32)))
      ((fun i => lit0 (S129.rowMajor i)))) : IVec S129x1 32) (ix2 n 0) = Cert.Kernel6Ideal.lit0 ⟨127 + n.val, by omega⟩ := by
    rw [← lit0_eq]
    pointwise
    exact congrArg lit0 (Fin.ext (Shape.rowMajor_val_one _))
  exact congrArg w (congrArg (fun q => ix2 q h) (Fin.ext (congrArg (fun b : BitVec 32 => min b.toInt.toNat 31) e)))

/-! ## The logits -/

section
variable (q k : FVec Ideal S2x4096x768 .bf16) (v : FVec Ideal S2x4096x768 .bf16) (g : FVec Ideal S6x129 .f32)

/-- The logits before the mask. -/
def scores : FVec Ideal S2x6x4096x129 .f32 :=
  addf (mulf (Host.dotGeneral dot_S2x4096x6x128_S2x4096x129x6x128_S2x6x4096x129_3_4_n_2_021_031 none (heads q) (taken k))
    (broadcastInDim S2x6x4096x129 ![] bcast_S_S2x6x4096x129 (constant S_ .f32 0x3DB504F3#32))) (broadcastInDim
    S2x6x4096x129 ![0, 1, 2, 3] bcast_S1x6x1x129_S2x6x4096x129_0_1_2_3 (broadcastInDim S1x6x1x129 ![1, 3]
    bcast_S6x129_S1x6x1x129_1_3 g))

/-- The logits. -/
def masked (s : FVec Ideal S2x6x4096x129 .f32) : FVec Ideal S2x6x4096x129 .f32 :=
  select (broadcastInDim S2x6x4096x129 ![0, 1, 2, 3] bcast_S1x1x4096x129_S2x6x4096x129_0_1_2_3 (broadcastInDim
    S1x1x4096x129 ![2, 3] bcast_S4096x129_S1x1x4096x129_2_3 seen)) s (broadcastInDim S2x6x4096x129 ![]
    bcast_S_S2x6x4096x129 (constant S_ .f32 0xFF800000#32))

theorem scores_apply (b : Fin 2) (h : Fin 6) (t : Fin 4096) (n : Fin 129) :
    scores q k g (ix4 b h t n)
      = (∑ d : Fin 128, heads q (ix4 b t h d) * taken k (ix5 b t n h d)) * Ideal.ofBits FTy.f32 0x3DB504F3#32
        + g (ix2 h n) := by
  unfold scores
  pointwise

theorem eq_zero_of_ne_one {p : BitVec 1} (h : p ≠ 1#1) : p = 0#1 := by
  revert p
  decide

theorem masked_apply (s : FVec Ideal S2x6x4096x129 .f32) (b : Fin 2) (h : Fin 6) (t : Fin 4096) (n : Fin 129) :
    masked s (ix4 b h t n) = if 4 * n.val ≤ t.val then s (ix4 b h t n) else ⊥ := by
  unfold masked
  pointwise
  by_cases hn : 4 * n.val ≤ t.val
  · rw [if_pos hn, (seen_iff t n).mpr hn]
    rfl
  · rw [if_neg hn, eq_zero_of_ne_one fun hs => hn ((seen_iff t n).mp hs)]
    exact Cert.Pre_top_lse_finite.Mix.ofBits_bot

end

section
variable (x : FVec Ideal S2x6x4096x129 .f32) (v : FVec Ideal S2x4096x768 .bf16)

/-- The largest logit of each query. -/
def largest : FVec Ideal S2x6x4096x1 .f32 :=
  broadcastInDim S2x6x4096x1 ![0, 1, 2] bcast_S2x6x4096_S2x6x4096x1_0_1_2 (Host.reduce FloatOps.maximumf x (constant S_ .f32
    0xFF800000#32) reducesTo_S2x6x4096x129_S2x6x4096_d3 h_S_)

/-- The exponentials. -/
def powers : FVec Ideal S2x6x4096x129 .f32 :=
  Host.exp (subf x (broadcastInDim S2x6x4096x129 ![0, 1, 2, 3] bcast_S2x6x4096x1_S2x6x4096x129_0_1_2_3 (largest x)))

/-- Their sum. -/
def totals : FVec Ideal S2x6x4096x1 .f32 :=
  broadcastInDim S2x6x4096x1 ![0, 1, 2] bcast_S2x6x4096_S2x6x4096x1_0_1_2 (Host.reduceAdd (powers x) (constant S_ .f32
    0x00000000#32) reducesTo_S2x6x4096x129_S2x6x4096_d3 h_S_)

theorem largest_apply (b : Fin 2) (h : Fin 6) (t : Fin 4096) :
    largest x (ix4 b h t 0) = Finset.univ.sup (fun n : Fin 129 => x (ix4 b h t n)) := by
  unfold largest
  pointwise
  rw [Cert.Pre_top_lse_finite.Mix.ofBits_bot]
  rfl

theorem powers_apply (b : Fin 2) (h : Fin 6) (t : Fin 4096) (n : Fin 129) :
    powers x (ix4 b h t n) = Ideal.exp (x (ix4 b h t n) - Finset.univ.sup (fun n : Fin 129 => x (ix4 b h t n))) := by
  rw [← largest_apply]
  unfold powers
  pointwise

theorem totals_apply (b : Fin 2) (h : Fin 6) (t : Fin 4096) :
    totals x (ix4 b h t 0)
      = ∑ n : Fin 129, Ideal.exp (x (ix4 b h t n) - Finset.univ.sup (fun n : Fin 129 => x (ix4 b h t n))) := by
  unfold totals
  pointwise
  exact Finset.sum_congr rfl fun n _ => powers_apply x b h t n

/-- The attention's result. -/
def mixed : FVec Ideal S2x1024x3072 .bf16 :=
  shapeCast _ (truncf .bf16 (Host.dotGeneral dot_S2x6x4096x129_S2x4096x129x6x128_S2x4096x6x128_3_2_n_4_021_013 none
    (Host.divf (powers x) (broadcastInDim S2x6x4096x129 ![0, 1, 2, 3] bcast_S2x6x4096x1_S2x6x4096x129_0_1_2_3 (totals x)))
    (taken v)) bitsLt_bf16_f32) shapeCasts_S2x4096x6x128_S2x1024x3072

/-- The logarithm of each query's sum, with the largest logit added. -/
def sums : FVec Ideal S2x6x4096 .f32 :=
  shapeCast _ (addf (largest x) (Host.log (totals x))) shapeCasts_S2x6x4096x1_S2x6x4096

/-- Lanes for the heads, the rest zero. -/
def padded (y : FVec Ideal S2x6x4096 .f32) : FVec Ideal S2x4096x128 .f32 :=
  pad S2x4096x128 ![0, 0, 0] ![0, 0, 122] ![0, 0, 0] (transpose S2x4096x6 [0, 2, 1] y transposes_S2x6x4096_S2x4096x6_0_2_1)
    (sitofp .f32 (constantI S_ 32 0#32)) pads_S2x4096x6_S2x4096x128_000_000_01220 h_S_

/-- The logarithms, four tokens to a row. -/
def logs (y : FVec Ideal S2x4096x128 .f32) : FVec Ideal S2x1024x512 .f32 :=
  shapeCast _ y shapeCasts_S2x4096x128_S2x1024x512

theorem log_apply (a s : FVec Ideal S2x6x4096x1 .f32) (b : Fin 2) (h : Fin 6) (t : Fin 4096) :
    (shapeCast S2x6x4096 (addf a (Host.log s)) shapeCasts_S2x6x4096x1_S2x6x4096 : FVec Ideal S2x6x4096 .f32) (ix3 b h t)
      = (a (ix4 b h t 0) + Ideal.log (s (ix4 b h t 0)) : EReal) := by
  pointwise

theorem lse_of (x : Fin 129 → EReal) (a s : EReal) (ha : a = Finset.univ.sup x)
    (hs : s = ∑ n, Ideal.exp (x n - Finset.univ.sup x)) : (a + Ideal.log s : EReal) = lse x := by
  unfold lse
  rw [ha, hs]

theorem sums_apply (b : Fin 2) (h : Fin 6) (t : Fin 4096) :
    sums x (ix3 b h t) = lse (fun n : Fin 129 => x (ix4 b h t n)) :=
  (log_apply (largest x) (totals x) b h t).trans (lse_of _ _ _ (largest_apply x b h t) (totals_apply x b h t))

theorem padded_apply (y : FVec Ideal S2x6x4096 .f32) (b : Fin 2) (t : Fin 4096) (l : Fin 128) :
    padded y (ix3 b t l) = if h : l.val < 6 then y (ix3 b ⟨l.val, h⟩ t) else 0 := by
  unfold padded
  pointwise
  have h0 : FloatOps.sitofp (F := Ideal) FTy.f32 0#32 = (0 : EReal) := by
    simp [FloatOps.sitofp]
  rw [h0]

theorem logs_apply (y : FVec Ideal S2x4096x128 .f32) (b : Fin 2) (M : Fin 1024) (C : Fin 512) :
    logs y (ix3 b M C) = y (ix3 b ⟨M.val * 4 + C.val / 128, by omega⟩ ⟨C.val % 128, by omega⟩) := by
  unfold logs
  pointwise

theorem mixed_apply (b : Fin 2) (M : Fin 1024) (C : Fin 3072) :
    mixed x v (ix3 b M C)
      = soft (fun n : Fin 129 => x (ix4 b ⟨C.val / 128 % 6, by omega⟩ ⟨M.val * 4 + C.val / 768, by omega⟩ n))
          (fun n => v (ix3 b ⟨M.val * 4 + C.val / 768 - 4 * n.val, by omega⟩ ⟨C.val / 128 % 6 * 128 + C.val % 128, by omega⟩)) := by
  unfold mixed soft
  pointwise
  refine Finset.sum_congr rfl fun n _ => ?_
  exact congr_arg₂ (fun p q : EReal => p * q) (congr_arg₂ Ideal.div (powers_apply x b _ _ n) (totals_apply x b _ _))
    (taken_apply v b _ n _ _)

end

section
variable (z : FVec Ideal S2x4096x5376 .bf16) (w : FVec Ideal S32x6 .f32)

/-- The logits of the inputs. -/
def logits : FVec Ideal S2x6x4096x129 .f32 :=
  masked (scores (extractStridedSlice S2x4096x768 ![0, 0, 1536] z slices_S2x4096x5376_S2x4096x768_0_0_1536)
    (extractStridedSlice S2x4096x768 ![0, 0, 2304] z slices_S2x4096x5376_S2x4096x768_0_0_2304) (biasOf w))

theorem slice_q (b : Fin 2) (t : Fin 4096) (k : Fin 768) :
    extractStridedSlice S2x4096x768 ![0, 0, 1536] z slices_S2x4096x5376_S2x4096x768_0_0_1536 (ix3 b t k)
      = z (ix3 b t ⟨1536 + k.val, by omega⟩) := by
  pointwise

theorem slice_k (b : Fin 2) (t : Fin 4096) (k : Fin 768) :
    extractStridedSlice S2x4096x768 ![0, 0, 2304] z slices_S2x4096x5376_S2x4096x768_0_0_2304 (ix3 b t k)
      = z (ix3 b t ⟨2304 + k.val, by omega⟩) := by
  pointwise

theorem slice_v (b : Fin 2) (t : Fin 4096) (k : Fin 768) :
    extractStridedSlice S2x4096x768 ![0, 0, 3072] z slices_S2x4096x5376_S2x4096x768_0_0_3072 (ix3 b t k)
      = z (ix3 b t ⟨3072 + k.val, by omega⟩) := by
  pointwise

theorem logits_apply (b : Fin 2) (h : Fin 6) (t : Fin 4096) (n : Fin 129) :
    logits z w (ix4 b h t n) = logit z w b t h n := by
  unfold logits logit
  rw [masked_apply, scores_apply, biasOf_apply]
  have ed : ∀ d : Fin 128, (⟨h.val * 128 + d.val, by omega⟩ : Fin 768) = ⟨128 * h.val + d.val, by omega⟩ := fun d =>
    Fin.ext (by show h.val * 128 + d.val = 128 * h.val + d.val; omega)
  have es : (∑ d : Fin 128, heads (extractStridedSlice S2x4096x768 ![0, 0, 1536] z
        slices_S2x4096x5376_S2x4096x768_0_0_1536) (ix4 b t h d) * taken (extractStridedSlice S2x4096x768 ![0, 0, 2304] z
        slices_S2x4096x5376_S2x4096x768_0_0_2304) (ix5 b t n h d) : EReal)
      = ∑ d : Fin 128, z (ix3 b t ⟨1536 + (128 * h.val + d.val), by omega⟩)
        * z (ix3 b ⟨t.val - 4 * n.val, by omega⟩ ⟨2304 + (128 * h.val + d.val), by omega⟩) :=
    Finset.sum_congr rfl fun d _ => by
      rw [heads_apply, taken_apply, slice_q, slice_k, ed]
  rw [es]

theorem mixed_at (b : Fin 2) (M : Fin 1024) (C : Fin 3072) :
    mixed (logits z w) (extractStridedSlice S2x4096x768 ![0, 0, 3072] z slices_S2x4096x5376_S2x4096x768_0_0_3072) (ix3 b M C)
      = attn z w b ⟨4 * M.val + C.val / 768, by omega⟩ ⟨C.val % 768, by omega⟩ := by
  rw [mixed_apply]
  have et : (⟨M.val * 4 + C.val / 768, by omega⟩ : Fin 4096) = ⟨4 * M.val + C.val / 768, by omega⟩ :=
    Fin.ext (by show M.val * 4 + C.val / 768 = 4 * M.val + C.val / 768; omega)
  have eh : (⟨C.val / 128 % 6, by omega⟩ : Fin 6) = ⟨C.val % 768 / 128, by omega⟩ :=
    Fin.ext (by show C.val / 128 % 6 = C.val % 768 / 128; omega)
  unfold attn
  refine congr_arg₂ (fun p q : Fin 129 → EReal => soft p q) (funext fun n => ?_) (funext fun n => ?_)
  · rw [logits_apply, et, eh]
  · rw [slice_v]
    refine congr_arg₂ (fun p q => z (ix3 b p q)) (Fin.ext ?_) (Fin.ext ?_)
    · show M.val * 4 + C.val / 768 - 4 * n.val = 4 * M.val + C.val / 768 - 4 * n.val
      omega
    · show 3072 + (C.val / 128 % 6 * 128 + C.val % 128) = 3072 + C.val % 768
      omega

theorem logs_at (b : Fin 2) (M : Fin 1024) (C : Fin 512) :
    logs (padded (sums (logits z w))) (ix3 b M C)
      = if h : C.val % 128 < 6 then lse (logit z w b ⟨4 * M.val + C.val / 128, by omega⟩ ⟨C.val % 128, h⟩) else 0 := by
  rw [logs_apply, padded_apply]
  have et : (⟨M.val * 4 + C.val / 128, by omega⟩ : Fin 4096) = ⟨4 * M.val + C.val / 128, by omega⟩ :=
    Fin.ext (by show M.val * 4 + C.val / 128 = 4 * M.val + C.val / 128; omega)
  by_cases h : C.val % 128 < 6
  · rw [dif_pos h, dif_pos h, sums_apply, et]
    exact congrArg (fun p : Fin 129 → EReal => lse p) (funext fun n => logits_apply z w b _ _ n)
  · rw [dif_neg h, dif_neg h]

/-- The reference's first result is the attention. -/
theorem mixed_eq : mixed (logits z w) (extractStridedSlice S2x4096x768 ![0, 0, 3072] z
    slices_S2x4096x5376_S2x4096x768_0_0_3072) = outValue z w := by
  funext j
  unfold outValue
  idx_vars j
  exact mixed_at _ _ _ _ _

/-- The reference's second result is the logarithms. -/
theorem logs_eq : logs (padded (sums (logits z w))) = lseValue z w := by
  funext j
  unfold lseValue
  idx_vars j
  exact logs_at _ _ _ _ _

end

variable (m : (ℓ : Loc nD τ sig) → Buf (Elt Ideal) ℓ) (c : Dev nD)

theorem res_logs : Value.res_main_v54 m c
    = logs (padded (sums (logits (m ((c.tc : Thread nD τ).loc main_arg0)) (m ((c.tc : Thread nD τ).loc main_arg1))))) := by
  unfold Value.res_main_v54 logs padded sums totals powers largest logits masked scores biasOf taken heads reads seen places
  rfl

theorem res_mixed : Value.res_main_v53 m c
    = mixed (logits (m ((c.tc : Thread nD τ).loc main_arg0)) (m ((c.tc : Thread nD τ).loc main_arg1)))
      (extractStridedSlice S2x4096x768 ![0, 0, 3072] (m ((c.tc : Thread nD τ).loc main_arg0))
        slices_S2x4096x5376_S2x4096x768_0_0_3072) := by
  unfold Value.res_main_v53 mixed totals powers largest logits masked scores biasOf taken heads reads seen places
  rfl

end Cert.Reference6Ideal.Dilated

end
-- ==== Proof.Stick.Ref.lean ====
/-
  The reference's attention, read at an index.

  The reference's one result is cut here into the scores, the log sigmoid, the log survival terms, their sums from a key
  on and the weights, and each is read at an index as a term over the extended reals.
-/
module

public import proofs.«01_k».proof.Proof.Gen.ReferenceIdeal.Run
public import Idealize.ShloMosaic.Lib.Pipeline.ValueKit
public import Idealize.ShloMosaic.Lib.WordCmp
public import proofs.«01_k».proof.Proof.Stick.Row

@[expose] public section

set_option maxRecDepth 16384

noncomputable section

namespace Cert.ReferenceIdeal.Stick

open Idealize.ShloMosaic Idealize.ShloMosaic.TcCoe Idealize.ShloMosaic.Tactic
open Idealize.ShloMosaic.WordCmp (cmpi_slt_ofNat select_ofBool)
open Cert.ReferenceIdeal Cert.ReferenceIdeal.Gen

variable {F : FTy → Type} [FloatOps F]

abbrev Big (F : FTy → Type) := FVec F S2x4x4096x4096 .f32

/-- The scaled scores. -/
def scores (z : Vec F S2x4096x5376 .bf16) : Big F :=
  mulf (Host.dotGeneral dot_S2x4096x4x128_S2x4096x4x128_S2x4x4096x4096_3_3_1_1_02_02 none
      (shapeCast S2x4096x4x128 (extractStridedSlice S2x4096x512 ![0, 0, 3840] (extf .f32 z bitsLt_bf16_f32)
        slices_S2x4096x5376_S2x4096x512_0_0_3840) shapeCasts_S2x4096x512_S2x4096x4x128)
      (shapeCast S2x4096x4x128 (extractStridedSlice S2x4096x512 ![0, 0, 4352] (extf .f32 z bitsLt_bf16_f32)
        slices_S2x4096x5376_S2x4096x512_0_0_4352) shapeCasts_S2x4096x512_S2x4096x4x128))
    (broadcastInDim S2x4x4096x4096 ![] bcast_S_S2x4x4096x4096 (constant S_ .f32 0x3DB504F3#32))

/-- The zero of a whole array of scores. -/
def zeros : Big F := broadcastInDim S2x4x4096x4096 ![] bcast_S_S2x4x4096x4096 (constant S_ .f32 0x00000000#32)

/-- The softplus, as `logaddexp(x, 0)` computes it. -/
def softplus (x : Big F) : Big F :=
  select (cmpf .une (subf x zeros) (subf x zeros)) (addf x zeros)
    (addf (maximumf x zeros) (Host.log1p (Host.exp (Host.negf (Host.absf (subf x zeros))))))

/-- The log of the logistic function. -/
def logSigmoid (x : Big F) : Big F := Host.negf (softplus (Host.negf x))

/-- The key comes before the query. -/
def causal : IVec S4096x4096 1 :=
  cmpi .slt (broadcastInDim S4096x4096 ![0, 1] bcast_S1x4096_S4096x4096_0_1
      (broadcastInDim S1x4096 ![1] bcast_S4096_S1x4096_1 (iotaInDim S4096 32 0)))
    (broadcastInDim S4096x4096 ![0, 1] bcast_S4096x1_S4096x4096_0_1
      (broadcastInDim S4096x1 ![0] bcast_S4096_S4096x1_0 (iotaInDim S4096 32 0)))

/-- An array under the causal mask, zero elsewhere. -/
def masked (x : Big F) : Big F :=
  select (broadcastInDim S2x4x4096x4096 ![2, 3] bcast_S4096x4096_S2x4x4096x4096_2_3 causal) x zeros

/-- The masked log survival terms. -/
def logSurv (s : Big F) : Big F := masked (logSigmoid (Host.negf s))

/-- The sums over the keys from each key on. -/
def tails (l : Big F) : Big F :=
  Host.reduceWindowAdd ![1, 1, 1, 4096] ![1, 1, 1, 1] ![0, 0, 0, 0] ![0, 0, 0, 4095] l
    (constant S_ .f32 0x00000000#32) (by decide) (by decide)

/-- The weights. -/
def weights (s : Big F) : Big F :=
  masked (Host.exp (addf (logSigmoid s) (subf (tails (logSurv s)) (logSurv s))))

/-- The result. -/
def out (z : Vec F S2x4096x5376 .bf16) : FVec F S2x4096x512 .bf16 :=
  truncf .bf16 (shapeCast S2x4096x512 (transpose S2x4096x4x128 [0, 3, 1, 2]
    (Host.dotGeneral dot_S2x4096x4x128_S2x4x4096x4096_S2x4x128x4096_1_3_3_2_02_01 none
      (shapeCast S2x4096x4x128 (extractStridedSlice S2x4096x512 ![0, 0, 4864] (extf .f32 z bitsLt_bf16_f32)
        slices_S2x4096x5376_S2x4096x512_0_0_4864) shapeCasts_S2x4096x512_S2x4096x4x128)
      (weights (scores z))) transposes_S2x4x128x4096_S2x4096x4x128_0_3_1_2)
    shapeCasts_S2x4096x4x128_S2x4096x512) bitsLt_bf16_f32

theorem res_eq (m : (ℓ : Loc nD τ sig) → Buf (Elt F) ℓ) (c : Dev nD) :
    Value.res_main_v33 m c = out (m ((c.tc : Thread nD τ).loc main_arg0)) := by
  unfold Value.res_main_v33
  rfl

/-! ## Over the extended reals, at an index -/

open Cert.StickRow

theorem scores_apply (z : Vec Ideal S2x4096x5376 .bf16) (j : S2x4x4096x4096.Idx) :
    scores z j = sc z (j 0).val (j 1).val (j 2).val (j 3).val := by
  unfold scores
  pointwise
  unfold sc
  refine congrArg (· * _) (Finset.sum_congr rfl fun x _ => ?_)
  refine congr_arg₂ (· * ·) (fetch_eq z _ _ _ _ ?_ ?_ ?_) (fetch_eq z _ _ _ _ ?_ ?_ ?_)
  all_goals first | rfl | (show _ + (_ * 128 + _) = _; omega)

theorem softplus_apply (z : Big Ideal) (j : S2x4x4096x4096.Idx) :
    softplus z j = -surv (z j) := by
  unfold softplus zeros
  pointwise
  rw [surv, neg_neg, if_neg (by simp)]
  rfl

theorem logSigmoid_apply (z : Big Ideal) (j : S2x4x4096x4096.Idx) :
    logSigmoid z j = surv (-(z j)) := by
  unfold logSigmoid
  pointwise
  rw [softplus_apply, neg_neg]
  rfl

theorem masked_apply (z : Big Ideal) (j : S2x4x4096x4096.Idx) :
    masked z j = if (j 3).val < (j 2).val then z j else 0 := by
  have h2 : (j 2).val < 4096 := (j 2).isLt
  have h3 : (j 3).val < 4096 := (j 3).isLt
  unfold masked causal zeros
  pointwise
  rw [cmpi_slt_ofNat (by omega) (by omega), select_ofBool]
  simp only [decide_eq_true_eq]

theorem foldl_add {M : Type*} [AddCommMonoid M] {N : ℕ} (f : Fin N → M) (v : M) :
    (List.finRange N).foldl (fun r n => r + f n) v = v + ∑ n, f n := by
  rw [Fin.sum_univ_def]
  generalize List.finRange N = l
  induction l generalizing v with
  | nil => simp
  | cons a l ih => rw [List.foldl_cons, ih, List.map_cons, List.sum_cons, add_assoc]

/-- A windowed sum that starts at zero and pads with zero is the sum over the window of the operand inside it. -/
theorem window_sum {s t u : Shape} (window strides lo hi : Fin s.rank → ℕ) (h : s.ReduceWindows window strides lo hi t)
    (x : FVec Ideal s .f32) (init : FVec Ideal u .f32) (hu : 0 < u.numel) (h0 : init (Shape.Idx.first hu) = 0)
    (j : t.Idx) :
    Host.reduceWindowAdd window strides lo hi x init h hu j
      = ∑ i : (⟨s.rank, window⟩ : Shape).Idx,
          if hin : ∀ a, lo a ≤ (j (a.cast h.1.symm)).val * strides a + (i a).val
              ∧ (j (a.cast h.1.symm)).val * strides a + (i a).val - lo a < s.size a
          then x (fun a => ⟨(j (a.cast h.1.symm)).val * strides a + (i a).val - lo a, (hin a).2⟩) else 0 := by
  show Ideal.hostReduceWindowAdd window strides lo hi h x (init (Shape.Idx.first hu)) j = _
  rw [h0]
  unfold Ideal.hostReduceWindowAdd Host.reduceWindow
  dsimp only
  rw [foldl_add, zero_add, ← Equiv.sum_comp (⟨s.rank, window⟩ : Shape).rowMajor.symm]
  exact Finset.sum_congr rfl fun n _ => by congr

theorem tails_apply (z : Big Ideal) (j : S2x4x4096x4096.Idx) :
    tails z j = ∑ d : Fin 4096,
      if h : (j 3).val + d.val < 4096 then z (ix4 (j 0) (j 1) (j 2) ⟨(j 3).val + d.val, h⟩) else 0 := by
  unfold tails
  rw [window_sum _ _ _ _ _ _ _ _ (by pointwise)]
  refine (sum_idx4 (n0 := 1) (n1 := 1) (n2 := 1) (n3 := 4096) _).trans ?_
  simp only [Finset.univ_unique, Finset.sum_singleton]
  refine Finset.sum_congr rfl fun d _ => ?_
  have b0 : (j 0).val < 2 := (j 0).isLt
  have b1 : (j 1).val < 4 := (j 1).isLt
  have b2 : (j 2).val < 4096 := (j 2).isLt
  by_cases h : (j 3).val + d.val < 4096
  · rw [dif_pos h, dif_pos]
    · refine congrArg z (funext fun a => Fin.ext ?_)
      match a with
      | ⟨0, _⟩ => show (j 0).val * 1 + 0 - 0 = (j 0).val; omega
      | ⟨1, _⟩ => show (j 1).val * 1 + 0 - 0 = (j 1).val; omega
      | ⟨2, _⟩ => show (j 2).val * 1 + 0 - 0 = (j 2).val; omega
      | ⟨3, _⟩ => show (j 3).val * 1 + d.val - 0 = (j 3).val + d.val; omega
    · intro a
      match a with
      | ⟨0, _⟩ => show 0 ≤ (j 0).val * 1 + 0 ∧ (j 0).val * 1 + 0 - 0 < 2; omega
      | ⟨1, _⟩ => show 0 ≤ (j 1).val * 1 + 0 ∧ (j 1).val * 1 + 0 - 0 < 4; omega
      | ⟨2, _⟩ => show 0 ≤ (j 2).val * 1 + 0 ∧ (j 2).val * 1 + 0 - 0 < 4096; omega
      | ⟨3, _⟩ => show 0 ≤ (j 3).val * 1 + d.val ∧ (j 3).val * 1 + d.val - 0 < 4096; omega
  · rw [dif_neg h, dif_neg]
    intro hin
    have := (hin 3).2
    change (j 3).val * 1 + d.val - 0 < 4096 at this
    omega

theorem weights_apply (z : Big Ideal) (j : S2x4x4096x4096.Idx) :
    weights z j = if (j 3).val < (j 2).val then Ideal.exp (logSigmoid z j + (tails (logSurv z) j - logSurv z j)) else 0 := by
  unfold weights
  rw [masked_apply]
  rfl

theorem out_apply (z : Vec Ideal S2x4096x5376 .bf16) (j : S2x4096x512.Idx) :
    out z j = ∑ x : Fin 4096, vl z (j 0).val ((j 2).val / 128) ((j 2).val % 128) x.val
      * weights (scores z) (ix4 (j 0) ⟨(j 2).val / 128, by have : (j 2).val < 512 := (j 2).isLt; omega⟩ (j 1) x) := by
  unfold out
  pointwise
  refine Finset.sum_congr rfl fun x _ => congrArg (· * _) (fetch_eq z _ _ _ _ ?_ ?_ ?_)
  all_goals first | rfl | (show 4864 + _ = _; omega)

/-- A row's sum from a key on. -/
theorem tail_apply (z : Vec Ideal S2x4096x5376 .bf16) (j : S2x4x4096x4096.Idx)
    (hs : ∀ n < (j 2).val, sc z (j 0).val (j 1).val (j 2).val n ≠ ⊤) :
    tails (logSurv (scores z)) j = tail (sc z (j 0).val (j 1).val (j 2).val) (j 2).val (j 3).val
      ∧ logSurv (scores z) j = term (sc z (j 0).val (j 1).val (j 2).val) (j 2).val (j 3).val := by
  have key : ∀ x : Fin 4096, logSurv (scores z) (ix4 (j 0) (j 1) (j 2) x)
      = term (sc z (j 0).val (j 1).val (j 2).val) (j 2).val x.val := fun x => by
    unfold logSurv
    rw [masked_apply, logSigmoid_apply]
    show (if x.val < (j 2).val then surv (-(-(scores z (ix4 (j 0) (j 1) (j 2) x)))) else 0) = _
    rw [neg_neg, scores_apply]
    rfl
  have b3 : (j 3).val < 4096 := (j 3).isLt
  refine ⟨?_, (congrArg _ (eq_ix4 j)).trans (key (j 3))⟩
  rw [tails_apply, tail, Finset.sum_Ico_eq_sum_range]
  simp only [key, dite_eq_ite]
  rw [Fin.sum_univ_eq_sum_range (fun d => if (j 3).val + d < 4096
      then term (sc z (j 0).val (j 1).val (j 2).val) (j 2).val ((j 3).val + d) else 0) 4096,
    Finset.range_eq_Ico, ← Finset.sum_Ico_consecutive _ (Nat.zero_le (4096 - (j 3).val)) (Nat.sub_le _ _),
    Finset.sum_eq_zero (s := Finset.Ico (4096 - (j 3).val) 4096), add_zero, ← Finset.range_eq_Ico]
  · refine Finset.sum_congr rfl fun d hd => if_pos ?_
    have := Finset.mem_range.mp hd
    omega
  · intro d hd
    have := (Finset.mem_Ico.mp hd).1
    exact if_neg (by omega)

/-- The reference's result at an index is the row's weighted sum. -/
theorem out_row (z : Vec Ideal S2x4096x5376 .bf16) (hz : Small z) (j : S2x4096x512.Idx) :
    out z j = row (sc z (j 0).val ((j 2).val / 128) (j 1).val) (vl z (j 0).val ((j 2).val / 128) ((j 2).val % 128))
      (j 1).val := by
  have b0 : (j 0).val < 2 := (j 0).isLt
  have b1 : (j 1).val < 4096 := (j 1).isLt
  have b2 : (j 2).val < 512 := (j 2).isLt
  have hs : ∀ n < (j 1).val, sc z (j 0).val ((j 2).val / 128) (j 1).val n ≠ ⊤ := fun n hn =>
    ((hz _ b0 _ (by omega) _ b1 n hn).trans_lt (EReal.coe_lt_top 40)).ne
  rw [out_apply, row, ← Fin.sum_univ_eq_sum_range (fun i => wt (sc z (j 0).val ((j 2).val / 128) (j 1).val) (j 1).val i
    * vl z (j 0).val ((j 2).val / 128) ((j 2).val % 128) i) 4096]
  refine Finset.sum_congr rfl fun x _ => ?_
  rw [mul_comm, weights_apply, logSigmoid_apply, scores_apply,
    (tail_apply z (ix4 (j 0) ⟨(j 2).val / 128, by omega⟩ (j 1) x) hs).1,
    (tail_apply z (ix4 (j 0) ⟨(j 2).val / 128, by omega⟩ (j 1) x) hs).2]
  show (if x.val < (j 1).val then _ else 0) * _ = _
  by_cases hx : x.val < (j 1).val
  · rw [if_pos hx, wt_logistic _ _ hs _ hx]
    rfl
  · rw [if_neg hx, wt, if_neg hx]

end Cert.ReferenceIdeal.Stick
end
-- ==== Proof.Stick.Pre.lean ====
/-
  The precondition, read: every causal score is at most 40.
-/
module

public import proofs.«01_k».proof.Pre_scores_small
public import proofs.«01_k».proof.Proof.Gen.Pre_scores_small
public import proofs.«01_k».proof.Proof.Stick.Row
public import Idealize.ShloMosaic.Lib.Pipeline.ValueKit
public import Idealize.ShloMosaic.Lib.ReduceAll
public import Idealize.ShloMosaic.Lib.WordCmp

@[expose] public section

set_option maxRecDepth 16384

noncomputable section

namespace Cert.Pre_scores_small.Stick

open Idealize.ShloMosaic Idealize.ShloMosaic.Tactic
open Idealize.ShloMosaic.WordCmp (cmpi_slt_ofNat select_ofBool)
open Cert.Pre_scores_small Cert.Pre_scores_small.Gen Cert.StickRow

/-- The scaled scores, as the precondition computes them. -/
def scores (z : FVec Ideal S2x4096x5376 .bf16) : FVec Ideal S2x4x4096x4096 .f32 :=
  mulf (Host.dotGeneral dot_S2x4096x4x128_S2x4096x4x128_S2x4x4096x4096_3_3_1_1_02_02 none
      (shapeCast S2x4096x4x128 (extractStridedSlice S2x4096x512 ![0, 0, 3840] (extf .f32 z bitsLt_bf16_f32)
        slices_S2x4096x5376_S2x4096x512_0_0_3840) shapeCasts_S2x4096x512_S2x4096x4x128)
      (shapeCast S2x4096x4x128 (extractStridedSlice S2x4096x512 ![0, 0, 4352] (extf .f32 z bitsLt_bf16_f32)
        slices_S2x4096x5376_S2x4096x512_0_0_4352) shapeCasts_S2x4096x512_S2x4096x4x128))
    (broadcastInDim S2x4x4096x4096 ![] bcast_S_S2x4x4096x4096 (constant S_ .f32 0x3DB504F3#32))

theorem scores_apply (z : FVec Ideal S2x4096x5376 .bf16) (j : S2x4x4096x4096.Idx) :
    scores z j = sc z (j 0).val (j 1).val (j 2).val (j 3).val := by
  unfold scores
  pointwise
  unfold sc
  refine congrArg (· * _) (Finset.sum_congr rfl fun x _ => ?_)
  refine congr_arg₂ (· * ·) (fetch_eq z _ _ _ _ ?_ ?_ ?_) (fetch_eq z _ _ _ _ ?_ ?_ ?_)
  all_goals first | rfl | (show _ + (_ * 128 + _) = _; omega)

/-- The key comes before the query. -/
def causal : IVec S4096x4096 1 :=
  cmpi .slt (broadcastInDim S4096x4096 ![0, 1] bcast_S1x4096_S4096x4096_0_1
      (broadcastInDim S1x4096 ![1] bcast_S4096_S1x4096_1 (iotaInDim S4096 32 0)))
    (broadcastInDim S4096x4096 ![0, 1] bcast_S4096x1_S4096x4096_0_1
      (broadcastInDim S4096x1 ![0] bcast_S4096_S4096x1_0 (iotaInDim S4096 32 0)))

/-- The test of every score: at most 40, or not causal. -/
def test (z : FVec Ideal S2x4096x5376 .bf16) : IVec S2x4x4096x4096 1 :=
  select (broadcastInDim S2x4x4096x4096 ![2, 3] bcast_S4096x4096_S2x4x4096x4096_2_3 causal)
    (cmpf .ole (scores z) (broadcastInDim S2x4x4096x4096 ![] bcast_S_S2x4x4096x4096 (constant S_ .f32 0x42200000#32)))
    (broadcastInDim S2x4x4096x4096 ![] bcast_S_S2x4x4096x4096 (constantI S_ 1 1#1))

theorem fn_eq (z : FVec Ideal S2x4096x5376 .bf16) :
    fn (F := Ideal) z = Host.reduce IntOp.andi (test z) (constantI S_ 1 1#1) reducesTo_S2x4x4096x4096_S_d0_1_2_3 h_S_ := by
  unfold fn fn_part1 fn_where
  rfl

theorem ofBits_forty : Ideal.ofBits FTy.f32 1109393408#32 = ((40 : ℝ) : EReal) := by
  simp [Ideal.ofBits, Ideal.ieee, -EReal.coe_mul]; norm_num

/-- A truth value whose word is one is true. -/
theorem of_word {p : Prop} [Decidable p] (h : BitVec.ofBool (decide p) = 1#1) : p := by
  by_contra hp
  rw [decide_eq_false hp] at h
  exact absurd h (by decide)

theorem small (z : FVec Ideal S2x4096x5376 .bf16) (h : fn (F := Ideal) z = fun _ => 1#1) : Small z := by
  intro b hb hd hh r hr n hn
  haveI : Subsingleton S_.Idx := ⟨fun a b => funext fun i => i.elim0⟩
  rw [fn_eq] at h
  have key := Host.reduce_andi_all _ _ _ _ (fun i => i.elim0) (congrFun h _)
    (ix4 (n0 := 2) (n1 := 4) (n2 := 4096) (n3 := 4096) ⟨b, hb⟩ ⟨hd, hh⟩ ⟨r, hr⟩ ⟨n, by omega⟩)
  revert key
  unfold test causal
  pointwise
  rw [cmpi_slt_ofNat (by omega) (by omega), select_ofBool, decide_eq_true hn, if_pos rfl, scores_apply, ofBits_forty]
  intro key
  exact of_word key

end Cert.Pre_scores_small.Stick
end
-- ==== Proof.lean ====
/-
  The proof of the certificate's claims.

  The frames are the generated ones.  Each value claim goes the same way: the kernel's run ends with the generated array of
  its blocks, which the call's `Out` module reads as a plain formula of the arguments, and the reference's run ends with the
  same formula by the call's `Ref` module.  `Stick` is the stick-breaking attention, `Proj` the projection into the mixers'
  streams, `Mix` the mixing of the three streams with the projection back, `Query` the product-key scores, `Expert` the
  gated experts with the last norm, and `Dilated` the attention at dilation four.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scores_small
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_scores_finite
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_inputs_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Stick.Out
public import proofs.«01_k».proof.Proof.Proj.Out
public import proofs.«01_k».proof.Proof.Proj.Ref
public import proofs.«01_k».proof.Proof.Mix.Out
public import proofs.«01_k».proof.Proof.Mix.Pre
public import proofs.«01_k».proof.Proof.Mix.Ref
public import proofs.«01_k».proof.Proof.Query.Out
public import proofs.«01_k».proof.Proof.Query.Ref
public import proofs.«01_k».proof.Proof.Expert.Out
public import proofs.«01_k».proof.Proof.Expert.Pre
public import proofs.«01_k».proof.Proof.Expert.Ref
public import proofs.«01_k».proof.Proof.Dilated.Out
public import proofs.«01_k».proof.Proof.Dilated.Pre
public import proofs.«01_k».proof.Proof.Dilated.Ref
public import proofs.«01_k».proof.Proof.Stick.Ref
public import proofs.«01_k».proof.Proof.Stick.Pre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_stick : Cert.quiescent_Kernel := fun m ρ _ => Cert.Kernel.Gen.frame m ρ
theorem frame_stick_ideal : Cert.quiescent_KernelIdeal := fun m ρ _ => Cert.KernelIdeal.Gen.frame m ρ
theorem frame_stick_pre : Cert.quiescent_KernelIdeal_pre_scores_small := fun m ρ _ => Cert.KernelIdeal.Gen.frame m ρ
theorem frame_stick_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
theorem frame_stick_ref_pre : Cert.quiescent_ReferenceIdeal_pre_scores_small := fun m ρ _ => frame_stick_ref m ρ trivial

/-- The kernel's attention and the reference's end with the same array. -/
theorem value_stick : Cert.algebraic_KernelIdeal_ReferenceIdeal_pre_scores_small := by
  intro m ρ m' ρ' hpre hagree
  have hz (c : Dev Cert.KernelIdeal.nD) : Cert.StickRow.Small (Cert.KernelIdeal.Stick.acts m c) :=
    Cert.Pre_scores_small.Stick.small _ (hpre c)
  refine ⟨fun c => Cert.KernelIdeal.Stick.value (Cert.KernelIdeal.Stick.acts m c), ?_, ?_⟩
  · exact (θ_run Cert.KernelIdeal.defs _ _).mono
      (fun _ h c => ⟨(h c).1.trans (Cert.KernelIdeal.Stick.final_array m c (hz c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Stick.res_eq, hagree c]
    exact funext fun j => Cert.ReferenceIdeal.Stick.out_row _ (hz c) j

theorem frame_proj : Cert.quiescent_Kernel2 := fun m ρ _ => Cert.Kernel2.Gen.frame m ρ
theorem frame_proj_ideal : Cert.quiescent_Kernel2Ideal := fun m ρ _ => Cert.Kernel2Ideal.Gen.frame m ρ
theorem frame_proj_ref : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel's projection and the reference's end with the same array. -/
theorem value_proj : Cert.algebraic_Kernel2Ideal_Reference2Ideal := by
  intro m ρ m' ρ' _ hagree
  refine ⟨fun c => Cert.Kernel2Ideal.Proj.value (Cert.Kernel2Ideal.Proj.argX m c) (Cert.Kernel2Ideal.Proj.argMod m c)
    (Cert.Kernel2Ideal.Proj.argG m c) (Cert.Kernel2Ideal.Proj.argW m c), ?_, ?_⟩
  · exact (θ_run Cert.Kernel2Ideal.defs _ _).mono
      (fun _ h c => ⟨(h c).1.trans (Cert.Kernel2Ideal.Proj.final_array m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Proj.run m' ρ')
    rw [(hagree c).1, (hagree c).2.1, (hagree c).2.2.1, (hagree c).2.2.2]

theorem frame_mix : Cert.quiescent_Kernel3 := fun m ρ _ => Cert.Kernel3.Gen.frame m ρ
theorem frame_mix_ideal : Cert.quiescent_Kernel3Ideal := fun m ρ _ => Cert.Kernel3Ideal.Gen.frame m ρ
theorem frame_mix_ref : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_mix_pre : Cert.quiescent_Kernel3Ideal_pre_top_lse_finite := fun m ρ _ => Cert.Kernel3Ideal.Gen.frame m ρ
theorem frame_mix_ref_pre : Cert.quiescent_Reference3Ideal_pre_top_lse_finite := fun m ρ _ => frame_mix_ref m ρ trivial

/-- The kernel's mixing of the three streams and the reference's end with the same array. -/
theorem value_mix : Cert.algebraic_Kernel3Ideal_Reference3Ideal_pre_top_lse_finite := by
  intro m ρ m' ρ' hpre hagree
  have hf (c : Dev Cert.Kernel3Ideal.nD) : (Cert.Kernel3Ideal.Mix.args m c).Finite := fun b t h => by
    have e := Cert.Pre_top_lse_finite.Mix.finite (hpre c) b t h
    rw [Cert.Pre_top_lse_finite.Mix.top_apply] at e
    exact e
  have same (c : Dev Cert.Kernel3Ideal.nD) : Cert.Reference3Ideal.Mix.args m' c = Cert.Kernel3Ideal.Mix.args m c := by
    obtain ⟨h0, h1, h2, h3, h4, h5, h6, h7, h8, h9, h10, h11, h12, h13⟩ := hagree c
    unfold Cert.Reference3Ideal.Mix.args Cert.Kernel3Ideal.Mix.args
    rw [h0, h1, h2, h3, h4, h5, h6, h7, h8, h9, h10, h11, h12, h13]
  refine ⟨fun c => (Cert.Kernel3Ideal.Mix.args m c).value, ?_, ?_⟩
  · exact (θ_run Cert.Kernel3Ideal.defs _ _).mono
      (fun _ h c => ⟨(h c).1.trans (Cert.Kernel3Ideal.Mix.final_array m c (hf c)), (h c).2⟩)
      (Cert.Kernel3Ideal.Value.run_blocks (F := Ideal) m ρ)
  · exact (θ_run Cert.Reference3Ideal.defs _ _).mono
      (fun _ h c => ⟨(h c).1.trans (congrArg Cert.Kernel3Ideal.Mix.Args.value (same c)), (h c).2⟩)
      (Cert.Reference3Ideal.Mix.run m' ρ')

theorem frame_query : Cert.quiescent_Kernel4 := fun m ρ _ => Cert.Kernel4.Gen.frame m ρ
theorem frame_query_ideal : Cert.quiescent_Kernel4Ideal := fun m ρ _ => Cert.Kernel4Ideal.Gen.frame m ρ
theorem frame_query_ref : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

/-- The kernel's normed activations and product-key scores and the reference's end with the same arrays. -/
theorem value_query : Cert.algebraic_Kernel4Ideal_Reference4Ideal := by
  intro m ρ m' ρ' _ hagree
  refine ⟨fun c => Cert.Kernel4Ideal.Query.norms (Cert.Kernel4Ideal.Query.argX m c) (Cert.Kernel4Ideal.Query.argMod m c)
      (Cert.Kernel4Ideal.Query.argG m c),
    fun c => Cert.Kernel4Ideal.Query.scores (Cert.Kernel4Ideal.Query.argX m c) (Cert.Kernel4Ideal.Query.argMod m c)
      (Cert.Kernel4Ideal.Query.argG m c) (Cert.Kernel4Ideal.Query.argW m c) (Cert.Kernel4Ideal.Query.argS m c),
    fun c => Cert.Kernel4Ideal.Query.firstScores (Cert.Kernel4Ideal.Query.argX m c) (Cert.Kernel4Ideal.Query.argMod m c)
      (Cert.Kernel4Ideal.Query.argG m c) (Cert.Kernel4Ideal.Query.argW m c) (Cert.Kernel4Ideal.Query.argS m c), ?_, ?_⟩
  · exact (θ_run Cert.Kernel4Ideal.defs _ _).mono
      (fun _ h c => ⟨(h c).1.trans (Cert.Kernel4Ideal.Query.final_norms m c),
        (h c).2.1.trans (Cert.Kernel4Ideal.Query.final_scores m c),
        (h c).2.2.1.trans (Cert.Kernel4Ideal.Query.final_first m c), (h c).2.2.2⟩)
      (Cert.Kernel4Ideal.Value.run_blocks (F := Ideal) m ρ)
  · refine (θ_run Cert.Reference4Ideal.defs _ _).mono (fun _ h c => ⟨(h c).1.trans ?_, (h c).2.1.trans ?_,
      (h c).2.2.1.trans ?_, (h c).2.2.2⟩) (Cert.Reference4Ideal.Query.run m' ρ')
    all_goals simp only [(hagree c).1, (hagree c).2.1, (hagree c).2.2.1, (hagree c).2.2.2.1, (hagree c).2.2.2.2]

theorem frame_expert : Cert.quiescent_Kernel5 := fun m ρ _ => Cert.Kernel5.Gen.frame m ρ
theorem frame_expert_ideal : Cert.quiescent_Kernel5Ideal := fun m ρ _ => Cert.Kernel5Ideal.Gen.frame m ρ
theorem frame_expert_pre : Cert.quiescent_Kernel5Ideal_pre_scores_finite := fun m ρ _ => Cert.Kernel5Ideal.Gen.frame m ρ
theorem frame_expert_ref : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)
theorem frame_expert_ref_pre : Cert.quiescent_Reference5Ideal_pre_scores_finite := fun m ρ _ => frame_expert_ref m ρ trivial

/-- The kernel's last norm of the residual with the gated experts and the reference's end with the same array. -/
theorem value_expert : Cert.algebraic_Kernel5Ideal_Reference5Ideal_pre_scores_finite := by
  intro m ρ m' ρ' hpre hagree
  refine ⟨fun c => Cert.Kernel5Ideal.Expert.argValue m c, ?_, ?_⟩
  · exact (θ_run Cert.Kernel5Ideal.defs _ _).mono
      (fun _ h c => ⟨(h c).1.trans (Cert.Kernel5Ideal.Expert.final_array m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨h0, h1, h2, h3, h4, h5, h6, h7, h8, h9, h10⟩ := hagree c
    refine (Cert.Reference5Ideal.Expert.res_eq m' c).trans ?_
    rw [h0, h1, h2, h3, h4, h5, h6, h7, h8, h9, h10]
    exact Cert.Reference5Ideal.Expert.result_eq _ _ _ _ _ _ _ _ _ _ _ (Cert.Pre_scores_finite.Expert.finite (hpre c))

theorem frame_dilated : Cert.quiescent_Kernel6 := fun m ρ _ => Cert.Kernel6.Gen.frame m ρ
theorem frame_dilated_ideal : Cert.quiescent_Kernel6Ideal := fun m ρ _ => Cert.Kernel6Ideal.Gen.frame m ρ
theorem frame_dilated_pre : Cert.quiescent_Kernel6Ideal_pre_inputs_finite := fun m ρ _ => Cert.Kernel6Ideal.Gen.frame m ρ
theorem frame_dilated_ref : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)
theorem frame_dilated_ref_pre : Cert.quiescent_Reference6Ideal_pre_inputs_finite := fun m ρ _ => frame_dilated_ref m ρ trivial

/-- The constant that masks a score stands for −∞. -/
theorem mask_dilated : Cert.preserves_Kernel6_Kernel6Ideal :=
  IdealRules.named_const.statement Cert.Kernel6Ideal.κ "neg_inf" .f32 0xF149F2CA#32 ⊥ rfl

/-- The kernel's attention at dilation four with its logarithms and the reference's end with the same two arrays. -/
theorem value_dilated : Cert.algebraic_Kernel6Ideal_Reference6Ideal_pre_inputs_finite := by
  intro m ρ m' ρ' hpre hagree
  refine ⟨fun c => Cert.Kernel6Ideal.Dilated.outValue (Cert.Kernel6Ideal.Dilated.argZ m c) (Cert.Kernel6Ideal.Dilated.argW m c),
    fun c => Cert.Kernel6Ideal.Dilated.lseValue (Cert.Kernel6Ideal.Dilated.argZ m c) (Cert.Kernel6Ideal.Dilated.argW m c), ?_, ?_⟩
  · exact (θ_run Cert.Kernel6Ideal.defs _ _).mono
      (fun _ h c => ⟨(h c).1.trans (Cert.Kernel6Ideal.Dilated.final_out m c (Cert.Pre_inputs_finite.Dilated.finite (hpre c))),
        (h c).2.1.trans (Cert.Kernel6Ideal.Dilated.final_lse m c), (h c).2.2⟩)
      (Cert.Kernel6Ideal.Value.run_blocks (F := Ideal) m ρ)
  · refine (θ_run Cert.Reference6Ideal.defs _ _).mono (fun _ h c => ⟨(h c).1.trans ?_, (h c).2.1.trans ?_, (h c).2.2⟩)
      (Cert.Reference6Ideal.Value.run (F := Ideal) m' ρ')
    · obtain ⟨h0, h1⟩ := hagree c
      refine (Cert.Reference6Ideal.Dilated.res_mixed m' c).trans ?_
      rw [h0, h1]
      exact Cert.Reference6Ideal.Dilated.mixed_eq _ _
    · obtain ⟨h0, h1⟩ := hagree c
      refine (Cert.Reference6Ideal.Dilated.res_logs m' c).trans ?_
      rw [h0, h1]
      exact Cert.Reference6Ideal.Dilated.logs_eq _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_scores_small.Gen.facts, Cert.Pre_top_lse_finite.Mix.facts, Cert.Pre_scores_finite.Gen.facts,
  Cert.Pre_inputs_finite.Gen.facts,
  frame_stick, frame_stick_ideal, frame_stick_pre, frame_stick_ref, frame_stick_ref_pre,
  frame_proj, frame_proj_ideal, frame_proj_ref,
  frame_mix, frame_mix_ideal, frame_mix_pre, frame_mix_ref, frame_mix_ref_pre,
  frame_query, frame_query_ideal, frame_query_ref,
  frame_expert, frame_expert_ideal, frame_expert_pre, frame_expert_ref, frame_expert_ref_pre,
  frame_dilated, frame_dilated_ideal, frame_dilated_pre, frame_dilated_ref, frame_dilated_ref_pre,
  trivial, value_stick, trivial, value_proj, trivial, value_mix, trivial, value_query, trivial, value_expert,
  mask_dilated, value_dilated⟩

end Cert.Proof

end
